-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S8192x2048 : Shape := ⟨2, ![8192, 2048]⟩
abbrev S2x512x2048 : Shape := ⟨3, ![2, 512, 2048]⟩
abbrev S6x512x2048 : Shape := ⟨3, ![6, 512, 2048]⟩
abbrev S2x512x1024 : Shape := ⟨3, ![2, 512, 1024]⟩
abbrev S512x1024 : Shape := ⟨2, ![512, 1024]⟩
abbrev S10x512x2048 : Shape := ⟨3, ![10, 512, 2048]⟩
abbrev S2 : Shape := ⟨1, ![2]⟩
abbrev S12 : Shape := ⟨1, ![12]⟩
abbrev S20 : Shape := ⟨1, ![20]⟩
abbrev S_ : Shape := ⟨0, ![]⟩
abbrev S1x512x1024 : Shape := ⟨3, ![1, 512, 1024]⟩
abbrev S1 : Shape := ⟨1, ![1]⟩
abbrev S512x2048 : Shape := ⟨2, ![512, 2048]⟩
abbrev S1x512x2048 : Shape := ⟨3, ![1, 512, 2048]⟩
abbrev S256x1024 : Shape := ⟨2, ![256, 1024]⟩
abbrev S256x2048 : Shape := ⟨2, ![256, 2048]⟩
abbrev S1x256x2048 : Shape := ⟨3, ![1, 256, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S8192x2048, .f32⟩
  | .local _ .vmem, ⟨0, _⟩ => ⟨S2048x1024, .f32⟩
  | .local _ .vmem, ⟨1, _⟩ => ⟨S1024x2048, .f32⟩
  | .local _ .vmem, ⟨2, _⟩ => ⟨S2x512x2048, .f32⟩
  | .local _ .vmem, ⟨3, _⟩ => ⟨S6x512x2048, .bf16⟩
  | .local _ .vmem, ⟨4, _⟩ => ⟨S2x512x1024, .bf16⟩
  | .local _ .vmem, ⟨5, _⟩ => ⟨S512x1024, .bf16⟩
  | .local _ .vmem, ⟨6, _⟩ => ⟨S512x1024, .bf16⟩
  | .local _ .vmem, ⟨7, _⟩ => ⟨S10x512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_27 : BitVec 32 := 1#32
  let v42 : BitVec 32 := Scalar.muli v36 c1_i32_27
  let v43 : BitVec 32 := Scalar.addi c0_i32_28 v42
  v43.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_38 : BitVec 32 := 1#32
  let v56 : BitVec 32 := Scalar.muli v14 c1_i32_38
  let v57 : BitVec 32 := Scalar.addi c0_i32_39 v56
  v57.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_45 : BitVec 32 := 1#32
  let v64 : BitVec 32 := Scalar.muli v25 c1_i32_45
  let v65 : BitVec 32 := Scalar.addi c0_i32_46 v64
  v65.toNat
def k0_off1 (d0 : Dev nD) (c0_i32_51 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v74 : BitVec 32 := Scalar.muli v2 c2048_i32
  let v75 : BitVec 32 := Scalar.addi v74 c0_i32_51
  let c0_i32_59 : BitVec 32 := 0#32
  ![v75.toNat, 0]
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_72 : BitVec 32 := 1#32
  let v93 : BitVec 32 := Scalar.muli v14 c1_i32_72
  let v94 : BitVec 32 := Scalar.addi c0_i32_73 v93
  v94.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_82 : BitVec 32 := 1#32
  let v103 : BitVec 32 := Scalar.muli v25 c1_i32_82
  let v104 : BitVec 32 := Scalar.addi c0_i32_83 v103
  v104.toNat
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_92 : BitVec 32 := 1#32
  let v113 : BitVec 32 := Scalar.muli v36 c1_i32_92
  let v114 : BitVec 32 := Scalar.addi c0_i32_93 v113
  v114.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v144 : BitVec 32 := Scalar.muli v14 c1_i32_121
  let v145 : BitVec 32 := Scalar.addi c0_i32_122 v144
  v145.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_131 : BitVec 32 := 1#32
  let v154 : BitVec 32 := Scalar.muli v25 c1_i32_131
  let v155 : BitVec 32 := Scalar.addi c0_i32_132 v154
  v155.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_140 : BitVec 32 := 1#32
  let v164 : BitVec 32 := Scalar.muli v36 c1_i32_140
  let v165 : BitVec 32 := Scalar.addi c0_i32_141 v164
  v165.toNat
def k0_dev12 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_173 : BitVec 32 := 1#32
  let v200 : BitVec 32 := Scalar.muli v14 c1_i32_173
  let v201 : BitVec 32 := Scalar.addi c0_i32_174 v200
  v201.toNat
def k0_dev13 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_206 : BitVec 32 := 1#32
  let v236 : BitVec 32 := Scalar.muli v25 c1_i32_206
  let v237 : BitVec 32 := Scalar.addi c0_i32_207 v236
  v237.toNat
def k0_off2 (d0 : Dev nD) (c0_i32_243 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c2048_i32_226 : BitVec 32 := 2048#32
  let v258 : BitVec 32 := Scalar.muli v14 c2048_i32_226
  let c1024_i32_227 : BitVec 32 := 1024#32
  let v259 : BitVec 32 := Scalar.addi v258 c1024_i32_227
  let v275 : BitVec 32 := Scalar.addi v259 c0_i32_243
  let c0_i32_246 : BitVec 32 := 0#32
  ![v275.toNat, 0]
def k0_dev14 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_257 : BitVec 32 := 1#32
  let v287 : BitVec 32 := Scalar.muli v25 c1_i32_257
  let v288 : BitVec 32 := Scalar.addi c0_i32_258 v287
  v288.toNat
def k0_off3 (d0 : Dev nD) (c1_i32_7 : BitVec 32) (c1536_i32_229 : BitVec 32) (c0_i32_276 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c2048_i32_228 : BitVec 32 := 2048#32
  let v260 : BitVec 32 := Scalar.muli v25 c2048_i32_228
  let v261 : BitVec 32 := Scalar.addi v260 c1536_i32_229
  let v310 : BitVec 32 := Scalar.addi v261 c0_i32_276
  let c0_i32_279 : BitVec 32 := 0#32
  ![v310.toNat, 0]
def k0_off3_at (r : Fin 4) : BitVec 32 × BitVec 32 × BitVec 32 :=
  if r.val < 2 then
    if r.val < 1 then
      (1#32, 1536#32, 0#32)
    else
      (1#32, 1536#32, 256#32)
  else
    if r.val < 3 then
      (2#32, 1024#32, 256#32)
    else
      (2#32, 1536#32, 256#32)
def k0_dev15 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_290 : BitVec 32 := 1#32
  let v322 : BitVec 32 := Scalar.muli v14 c1_i32_290
  let v323 : BitVec 32 := Scalar.addi c0_i32_291 v322
  v323.toNat
def k0_dev16 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_322 : BitVec 32 := 1#32
  let v357 : BitVec 32 := Scalar.muli v25 c1_i32_322
  let v358 : BitVec 32 := Scalar.addi c0_i32_323 v357
  v358.toNat
def k0_dev17 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_356 : BitVec 32 := 1#32
  let v392 : BitVec 32 := Scalar.muli v14 c1_i32_356
  let v393 : BitVec 32 := Scalar.addi c0_i32_357 v392
  v393.toNat
def k0_off4 (d0 : Dev nD) (c1_i32_7 : BitVec 32) (c0_i32_363 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c2048_i32_362 : BitVec 32 := 2048#32
  let v402 : BitVec 32 := Scalar.muli v25 c2048_i32_362
  let v403 : BitVec 32 := Scalar.addi v402 c0_i32_363
  let c0_i32_411 : BitVec 32 := 0#32
  ![v403.toNat, 0]
def k0_off4_at (r : Fin 5) : BitVec 32 × BitVec 32 :=
  if r.val < 2 then
    if r.val < 1 then
      (1#32, 0#32)
    else
      (1#32, 512#32)
  else
    if r.val < 3 then
      (2#32, 0#32)
    else
      if r.val < 4 then
        (2#32, 512#32)
      else
        (1#32, 1024#32)
def k0_off5 (d0 : Dev nD) (c0_i32_365 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c2048_i32_364 : BitVec 32 := 2048#32
  let v404 : BitVec 32 := Scalar.muli v14 c2048_i32_364
  let v405 : BitVec 32 := Scalar.addi v404 c0_i32_365
  let c0_i32_437 : BitVec 32 := 0#32
  ![v405.toNat, 0]
def k0_off5_at (r : Fin 3) : BitVec 32 :=
  if r.val < 1 then
    0#32
  else
    if r.val < 2 then
      512#32
    else
      1536#32
def k0_off6 (d0 : Dev nD) (c1024_i32_379 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c2048_i32_378 : BitVec 32 := 2048#32
  let v418 : BitVec 32 := Scalar.muli v36 c2048_i32_378
  let v419 : BitVec 32 := Scalar.addi v418 c1024_i32_379
  let c0_i32_611 : BitVec 32 := 0#32
  ![v419.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Owns.lean ====
/-
# The kernel's effects as rules over owned memrefs

A device's TensorCore owns a memref at a share and knows what it reads there (`owns`). This module states, once and
for any memref of the program, what each effect of the kernel does to such a fact: a load (of the whole memref or of
a rectangle of it), a store that fills a rectangle, a copy on the device itself (in flight until its semaphore is
waited for), the wait for it, and the re-indexing of a slice as the squeezed memref a copy names. The rest of the
proof works with these rules alone.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.MemrefSat
public import Idealize.ShloMosaic.Lib.Tactic

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra

The pipeline's own copy, the protocol's rounds (a duty of a round is one of three), and the exclusive counters the
copies on one device use. -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL

/-- The rounds' copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The counters' copy. -/
abbrev EC : UEmb Counters (MT nD τ sig Unit (Elt F) ℕ UU ℕ) := countersEmb

abbrev 𝒱₀ : Variants := Variants.none

/-! ## What a core owes, whatever it has already waited for -/

/-- Core `c` owes `O`; which waits it has done is not recorded. -/
def Owe (c : Dev nD) (O : CellTallies nD τ sig Unit) : sProp 𝕄 := iprop(∃ W, owes (c : Thread nD τ) O W)

/-- Device `c` owns the memref `m` in full, at some contents. -/
def some' (c : Dev nD) {sp : Space} {sh : Shape} {e : EltTy} (m : Memref sig .tc sp sh e) : sProp 𝕄 :=
  iprop(∃ X, ownsTc c m fullShare X)

omit [FloatOps F] in
theorem some'_intro (c : Dev nD) {sp : Space} {sh : Shape} {e : EltTy} (m : Memref sig .tc sp sh e) (X : sh.Idx → Elt F e) :
    (ownsTc c m fullShare X : sProp 𝕄) ⊢ some' c m := by
  unfold some'; iintro H; iexists X; iexact H

instance some'_storable (c : Dev nD) {sp : Space} {sh : Shape} {e : EltTy} (m : Memref sig .tc sp sh e) :
    BI.Storable (upEmb : UEmb _ 𝕄) (some' (F := F) c m) := by unfold some'; infer_instance

/-! ## Squeezing -/

/-- Contents of a shape, read in the index space of another shape of as many elements. -/
def re {s s' : Shape} {α : Type} (h : s'.numel = s.numel) (X : s.Idx → α) : s'.Idx → α := fun j => X (Shape.reshapeEquiv h j)

theorem re_injective {s s' : Shape} {α : Type} (h : s'.numel = s.numel) : Function.Injective (re (α := α) h) := by
  intro X Y hXY; funext i
  have := congrFun hXY ((Shape.reshapeEquiv h).symm i)
  simpa [re] using this

omit [FloatOps F] in
/-- A memref owned and the same memref squeezed are one and the same ownership, the contents re-indexed. -/
theorem owns_squeeze (c : Dev nD) {sp : Space} {s s' : Shape} {e : EltTy} (m : Memref sig .tc sp s e) (h : s.Squeezes s')
    (q : PosShare TreeShare) (X : s.Idx → Elt F e) :
    (ownsTc c (m.squeeze s' h) q (re h.numel_eq X) : sProp 𝕄) = ownsTc c m q X := by
  have hr (f : m.view.ty.Contents (Elt F)) : (m.squeeze s' h).view.read (Elt F) f = re h.numel_eq (m.view.read (Elt F) f) := rfl
  unfold ownsTc owns
  congr 1; funext f
  congr 1
  · exact congrArg _ (propext ⟨fun hf => re_injective _ ((hr f).symm.trans hf), fun hf => by rw [← hf]; exact hr f⟩)
  · exact congrArg (fun S => (m.view.loc (c : Thread nD τ) ↦[S]{q} f : sProp 𝕄)) (m.view.set_reshape h.numel_eq)

/-! ## Shares -/

omit [FloatOps F] in
theorem owns_third (c : Dev nD) {sp : Space} {sh : Shape} {e : EltTy} (m : Memref sig .tc sp sh e) (X : sh.Idx → Elt F e) :
    (ownsTc c m fullShare X : sProp 𝕄)
      ⊣⊢ iprop(ownsTc c m fullShare.left X ∗ ownsTc c m fullShare.right.left X ∗ ownsTc c m fullShare.right.right X) := by
  constructor
  · iintro H
    ihave H' := (owns_halves (c : Thread nD τ) m fullShare X).1 $$ H
    icases H' with ⟨H1, H2⟩
    isplitl [H1]; · iexact H1
    iapply (owns_halves (c : Thread nD τ) m fullShare.right X).1; iexact H2
  · iintro ⟨H1, H2, H3⟩
    iapply (owns_halves (c : Thread nD τ) m fullShare X).2
    isplitl [H1]; · iexact H1
    iapply (owns_halves (c : Thread nD τ) m fullShare.right X).2
    isplitl [H2] <;> iassumption

/-! ## Loads and stores -/

section Effects
variable (c : Dev nD) {α : Type} {Q : α → sProp (MT nD τ sig Unit (Elt F) ℕ UU ℕ)}

/-- A load of a rectangle of an owned memref reads the owned contents there. -/
theorem ld {cs : CoreSpace} {s : Shape} {e : EltTy} {m : Memref sig .tc cs s e} {r : Rect s} {hl : m.view.LoadsAt r}
    {k : (r.shape.Idx → Elt F e) → Prog (TpuEff nD τ sig (Elt F) Λ₀ .tc) α} {q : PosShare TreeShare} {X : s.Idx → Elt F e} :
    (ownsTc c m q X : sProp 𝕄)
      ⊢ iprop((ownsTc c m q X -∗ wp frame (wpE (defs₀ (F := F)) 𝒱₀ (c : Thread nD τ) none) Set.univ (k fun j => X (r.emb j)) Q)
        -∗ wp frame (wpE (defs₀ (F := F)) 𝒱₀ (c : Thread nD τ) none) Set.univ (.op (.load m r.toLoadRect hl) k) Q) := by
  unfold ownsTc owns
  iintro ⟨%f, %hf, H⟩ Hk
  subst hf
  iapply (wp_load_rect 𝒱₀ (c : Thread nD τ) none Set.univ (m := m) (r := r) (View.set_slice_subset _ r)) $$ H
  iintro H
  iapply Hk
  iexists f; isplitr; · ipureintro; rfl
  iexact H

/-- A load of the rectangle an owned slice is. -/
theorem lds {cs : CoreSpace} {s : Shape} {e : EltTy} {m : Memref sig .tc cs s e} {r : Rect s} (hr : ∀ a, r.stride a = 1) {hl : m.view.LoadsAt r}
    {k : (r.shape.Idx → Elt F e) → Prog (TpuEff nD τ sig (Elt F) Λ₀ .tc) α} {q : PosShare TreeShare} {X : r.shape.Idx → Elt F e} :
    (ownsTc c (m.slice r hr) q X : sProp 𝕄)
      ⊢ iprop((ownsTc c (m.slice r hr) q X -∗ wp frame (wpE (defs₀ (F := F)) 𝒱₀ (c : Thread nD τ) none) Set.univ (k X) Q)
        -∗ wp frame (wpE (defs₀ (F := F)) 𝒱₀ (c : Thread nD τ) none) Set.univ (.op (.load m r.toLoadRect hl) k) Q) := by
  unfold ownsTc owns
  iintro ⟨%f, %hf, H⟩ Hk
  subst hf
  iapply (wp_load_rect 𝒱₀ (c : Thread nD τ) none Set.univ (m := m) (r := r) (Finset.Subset.refl _)) $$ H
  iintro H
  iapply Hk
  iexists f; isplitr; · ipureintro; rfl
  iexact H

/-- A store of the rectangle an owned slice is: the slice then holds what was stored. -/
theorem sts {cs : CoreSpace} {s : Shape} {e : EltTy} {m : Memref sig .tc cs s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    (ownsTc c (m.slice r hr) fullShare X : sProp 𝕄)
      ⊢ iprop((ownsTc c (m.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold ownsTc owns
  iintro ⟨%f, %hf, H⟩ Hk
  iapply (wp_store 𝒱₀ (c : Thread nD τ) none Set.univ (m := m) (r := r) (Mk := Finset.univ) (S := (m.slice r hr).view.set) (Finset.Subset.refl _)) $$ H
  iintro H
  iapply Hk
  iexists _; isplitr; swap; · iexact H
  ipureintro; exact View.read_write_univ (v := m.view.slice r) f w

/-! ## A copy on the device -/

/-- A copy between two memrefs of the device: issued with both ends owned and its semaphore at zero, it is in flight,
    and will hand back the destination at the source's contents and the source as it was. -/
theorem cp {sp sp' : Space} {s : Shape} {e : EltTy} {src : Memref sig .tc sp s e} {dst : Memref sig .tc sp' s e} {sm : DmaSem sig}
    {hsrc : src.view.WordExact} {hdst : dst.view.WordExact}
    {hsem : DmaTarget.Typed (nD := nD) (p := (c : Thread nD τ).2) sp (.dma sm) (.here dst)}
    {k : PUnit → Prog (TpuEff nD τ sig (Elt F) Λ₀ .tc) α} {q : PosShare TreeShare} {X Y : s.Idx → Elt F e}
    (N : ℕ) (hN : dst.view.amount (SemLoc.dma sm) = N) (hN0 : 0 < N) :
    iprop(ownsTc c src q X ∗ ownsTc c dst fullShare Y ∗ semVal ((c : Thread nD τ), SemLoc.dma sm) 0)
      ⊢ iprop((Transfers.Flight EC (c : Thread nD τ) (.dma sm) () N iprop(ownsTc c dst fullShare X ∗ ownsTc c src q X)
              -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.here dst) (.dma sm) hsrc hdst hsem) k) Q) := by
  iintro ⟨Hs, Hd, Hv⟩ Hk
  ihave Hs' := (show ownsTc c src q X ⊢ iprop(∃ g, ⌜src.view.read (Elt F) g = X⌝ ∗ src.view.loc (c : Thread nD τ) ↦[src.view.set]{q} g) from .rfl) $$ Hs
  icases Hs' with ⟨%fs, %hfs, Hs⟩
  ihave Hd' := (show ownsTc c dst fullShare Y ⊢ iprop(∃ g, ⌜dst.view.read (Elt F) g = Y⌝ ∗ dst.view.loc (c : Thread nD τ) ↦[dst.view.set]{fullShare} g) from .rfl) $$ Hd
  icases Hd' with ⟨%fd, %hfd, Hd⟩
  iapply (Transfers.wp_dmaLocal EC 𝒱₀ (c : Thread nD τ) none () N hN hN0 (Finset.Subset.refl _)) $$ [Hs Hd Hv]
  · isplitl [Hs]; · iexact Hs
    isplitl [Hd] <;> iassumption
  iintro HF
  iapply Hk
  iapply (Transfers.Flight_mono EC (c : Thread nD τ) ?_) $$ HF
  iintro ⟨Hd, Hs⟩
  isplitl [Hd]
  · unfold ownsTc owns
    iexists _; isplitr; swap; · iexact Hd
    ipureintro
    exact (View.read_write_univ (v := dst.view) _ _).trans hfs
  · unfold ownsTc owns
    iexists fs; isplitr; · ipureintro; exact hfs
    iexact Hs

/-- The wait for a copy on the device. -/
theorem wt {sp sp' : Space} {s s' : Shape} {e e' : EltTy} {srcw : Memref sig .tc sp' s' e'} {dstw : Memref sig .tc sp s e} {sm sm' : DmaSem sig}
    {hsrc : srcw.view.WordExact} {hdst : dstw.view.WordExact}
    {k : PUnit → Prog (TpuEff nD τ sig (Elt F) Λ₀ .tc) α} (hsm : sm' = sm) {N : ℕ} (hN : dstw.view.dmaCredit = N) {D : sProp 𝕄} {O : CellTallies nD τ sig Unit} :
    iprop(Transfers.Flight EC (c : Thread nD τ) (.dma sm) () N D ∗ Owe c O ∗ MayWait (c : Thread nD τ) (.dma sm) () O)
      ⊢ iprop((iprop(D ∗ semVal ((c : Thread nD τ), SemLoc.dma sm) 0 ∗ Owe c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm' srcw dstw hsrc hdst) k) Q) := by
  subst hsm
  unfold Owe
  iintro ⟨HF, ⟨%W, HO⟩, Hm⟩ Hk
  iapply (Transfers.wp_waitLocalO EC 𝒱₀ (c : Thread nD τ) none () hN) $$ [HF HO Hm]
  · isplitl [HF]; · iexact HF
    isplitl [HO] <;> iassumption
  iintro ⟨HD, Hv, HO⟩
  iapply Hk
  isplitl [HD]; · iexact HD
  isplitl [Hv]; · iexact Hv
  iexists _; iexact HO

end Effects

end Cert.MatmulProof

end
-- ==== Proof.Values.lean ====
/-
# The kernel's memory, values and devices, named

The four devices stand in a ring; each device exchanges with its left neighbour, its right neighbour and the device
across. This module names the memrefs the kernel works with — the staged operands, the slots of its scratch buffers,
the pieces of its result — the values it computes in them, and the fourteen transfers between devices: twelve of result
chunks (numbered as the kernel numbers their semaphores) and two of rows of the first operand (12 to the left, 13 to
the right).
-/
module

public import proofs.«01_k».proof.Proof.Owns

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device to the left. -/
def lf (c : Dev nD) : Dev nD := ⟨(c.val + 3) % 4, Nat.mod_lt _ (by decide)⟩
set_option backward.proofsInPublic true in
/-- The device to the right. -/
def rt (c : Dev nD) : Dev nD := ⟨(c.val + 1) % 4, Nat.mod_lt _ (by decide)⟩
set_option backward.proofsInPublic true in
/-- The device across. -/
def dg (c : Dev nD) : Dev nD := ⟨(c.val + 2) % 4, Nat.mod_lt _ (by decide)⟩

@[simp] theorem lf_rt (c : Dev nD) : lf (rt c) = c := by revert c; decide
@[simp] theorem rt_lf (c : Dev nD) : rt (lf c) = c := by revert c; decide
@[simp] theorem dg_dg (c : Dev nD) : dg (dg c) = c := by revert c; decide

def left : Dev nD ≃ Dev nD := ⟨lf, rt, rt_lf, lf_rt⟩
def right : Dev nD ≃ Dev nD := ⟨rt, lf, lf_rt, rt_lf⟩
def across : Dev nD ≃ Dev nD := ⟨dg, dg, dg_dg, dg_dg⟩

/-! The kernel computes the devices it addresses; each is one of the three. -/

theorem dev1_eq (c : Dev nD) : (⟨k0_dev1 c, k0_dev1_lt c⟩ : Dev nD) = lf c := Fin.ext ((by decide +kernel : ∀ c : Dev nD, k0_dev1 c = (lf c).val) c)
theorem dev2_eq (c : Dev nD) : (⟨k0_dev2 c, k0_dev2_lt c⟩ : Dev nD) = rt c := Fin.ext ((by decide +kernel : ∀ c : Dev nD, k0_dev2 c = (rt c).val) c)
theorem dev3_eq (c : Dev nD) : (⟨k0_dev3 c, k0_dev3_lt c⟩ : Dev nD) = dg c := Fin.ext ((by decide +kernel : ∀ c : Dev nD, k0_dev3 c = (dg c).val) c)
theorem dev4_eq (c : Dev nD) : (⟨k0_dev4 c, k0_dev4_lt c⟩ : Dev nD) = lf c := Fin.ext ((by decide +kernel : ∀ c : Dev nD, k0_dev4 c = (lf c).val) c)
theorem dev5_eq (c : Dev nD) : (⟨k0_dev5 c, k0_dev5_lt c⟩ : Dev nD) = rt c := Fin.ext ((by decide +kernel : ∀ c : Dev nD, k0_dev5 c = (rt c).val) c)
theorem dev6_eq (c : Dev nD) : (⟨k0_dev6 c, k0_dev6_lt c⟩ : Dev nD) = lf c := Fin.ext ((by decide +kernel : ∀ c : Dev nD, k0_dev6 c = (lf c).val) c)
theorem dev7_eq (c : Dev nD) : (⟨k0_dev7 c, k0_dev7_lt c⟩ : Dev nD) = rt c := Fin.ext ((by decide +kernel : ∀ c : Dev nD, k0_dev7 c = (rt c).val) c)
theorem dev8_eq (c : Dev nD) : (⟨k0_dev8 c, k0_dev8_lt c⟩ : Dev nD) = dg c := Fin.ext ((by decide +kernel : ∀ c : Dev nD, k0_dev8 c = (dg c).val) c)
theorem dev9_eq (c : Dev nD) : (⟨k0_dev9 c, k0_dev9_lt c⟩ : Dev nD) = lf c := Fin.ext ((by decide +kernel : ∀ c : Dev nD, k0_dev9 c = (lf c).val) c)
theorem dev10_eq (c : Dev nD) : (⟨k0_dev10 c, k0_dev10_lt c⟩ : Dev nD) = rt c := Fin.ext ((by decide +kernel : ∀ c : Dev nD, k0_dev10 c = (rt c).val) c)
theorem dev11_eq (c : Dev nD) : (⟨k0_dev11 c, k0_dev11_lt c⟩ : Dev nD) = dg c := Fin.ext ((by decide +kernel : ∀ c : Dev nD, k0_dev11 c = (dg c).val) c)
theorem dev12_eq (c : Dev nD) : (⟨k0_dev12 c, k0_dev12_lt c⟩ : Dev nD) = lf c := Fin.ext ((by decide +kernel : ∀ c : Dev nD, k0_dev12 c = (lf c).val) c)
theorem dev13_eq (c : Dev nD) : (⟨k0_dev13 c, k0_dev13_lt c⟩ : Dev nD) = rt c := Fin.ext ((by decide +kernel : ∀ c : Dev nD, k0_dev13 c = (rt c).val) c)
theorem dev14_eq (c : Dev nD) : (⟨k0_dev14 c, k0_dev14_lt c⟩ : Dev nD) = rt c := Fin.ext ((by decide +kernel : ∀ c : Dev nD, k0_dev14 c = (rt c).val) c)
theorem dev15_eq (c : Dev nD) : (⟨k0_dev15 c, k0_dev15_lt c⟩ : Dev nD) = lf c := Fin.ext ((by decide +kernel : ∀ c : Dev nD, k0_dev15 c = (lf c).val) c)
theorem dev16_eq (c : Dev nD) : (⟨k0_dev16 c, k0_dev16_lt c⟩ : Dev nD) = rt c := Fin.ext ((by decide +kernel : ∀ c : Dev nD, k0_dev16 c = (rt c).val) c)
theorem dev17_eq (c : Dev nD) : (⟨k0_dev17 c, k0_dev17_lt c⟩ : Dev nD) = lf c := Fin.ext ((by decide +kernel : ∀ c : Dev nD, k0_dev17 c = (lf c).val) c)

/-- The device transfer `x` goes to, from each device. -/
def toE (x : Fin 14) : Dev nD ≃ Dev nD := match x with
  | 0 => left
  | 1 => right
  | 2 => across
  | 3 => left
  | 4 => right
  | 5 => across
  | 6 => left
  | 7 => right
  | 8 => right
  | 9 => left
  | 10 => right
  | 11 => left
  | 12 => left
  | 13 => right

abbrev dst (x : Fin 14) (c : Dev nD) : Dev nD := toE x c
/-- The device transfer `x` comes from. -/
abbrev frm (x : Fin 14) (c : Dev nD) : Dev nD := (toE x).symm c

/-! ## The memrefs -/

/-- The staged block of the first operand and the staged second operand; -/
abbrev aM : Memref sig .tc .vmem S2048x1024 .f32 := Memref.whole cc0_stg0_0
abbrev bM : Memref sig .tc .vmem S1024x2048 .f32 := Memref.whole cc0_stg1_0
/-- the result; -/
abbrev oM : Memref sig .tc .hbm S8192x2048 .f32 := Memref.whole main_v1
/-- the two f32 buffers the result's pieces leave from; -/
abbrev stM : Memref sig .tc .vmem S2x512x2048 .f32 := Memref.whole cc0_scratch0
/-- the bf16 pieces sent, the rows of the first operand sent; -/
abbrev csM : Memref sig .tc .vmem S6x512x2048 .bf16 := Memref.whole cc0_scratch1
abbrev asM : Memref sig .tc .vmem S2x512x1024 .bf16 := Memref.whole cc0_scratch2
/-- the rows that arrive from the left and from the right, the pieces that arrive. -/
abbrev lbM : Memref sig .tc .vmem S512x1024 .bf16 := Memref.whole cc0_scratch3
abbrev rbM : Memref sig .tc .vmem S512x1024 .bf16 := Memref.whole cc0_scratch4
abbrev crM : Memref sig .tc .vmem S10x512x2048 .bf16 := Memref.whole cc0_scratch5

/-! ### Rectangles -/

/-- Quarter 0 of the first operand's rows. -/
abbrev rA0 : Rect S2048x1024 := Rect.unit (s := S2048x1024) ![0, 0] S512x1024.size inb_S2048x1024_S512x1024_0_0
/-- Quarter 1 of the first operand's rows. -/
abbrev rA1 : Rect S2048x1024 := Rect.unit (s := S2048x1024) ![512, 0] S512x1024.size inb_S2048x1024_S512x1024_512_0
/-- Quarter 2 of the first operand's rows. -/
abbrev rA2 : Rect S2048x1024 := Rect.unit (s := S2048x1024) ![1024, 0] S512x1024.size inb_S2048x1024_S512x1024_1024_0
/-- Quarter 3 of the first operand's rows. -/
abbrev rA3 : Rect S2048x1024 := Rect.unit (s := S2048x1024) ![1536, 0] S512x1024.size inb_S2048x1024_S512x1024_1536_0
/-- All of the second operand. -/
abbrev rB : Rect S1024x2048 := Rect.unit (s := S1024x2048) ![0, 0] S1024x2048.size inb_S1024x2048_S1024x2048_0_0
/-- The upper and lower half of rows that arrived. -/
abbrev rLt : Rect S512x1024 := Rect.unit (s := S512x1024) ![0, 0] S256x1024.size inb_S512x1024_S256x1024_0_0
abbrev rLb : Rect S512x1024 := Rect.unit (s := S512x1024) ![256, 0] S256x1024.size inb_S512x1024_S256x1024_256_0
/-- Slot 0 of the f32 buffers. -/
abbrev rSt0 : Rect S2x512x2048 := Rect.unit (s := S2x512x2048) ![0, 0, 0] S1x512x2048.size inb_S2x512x2048_S1x512x2048_0_0_0
/-- Its upper half. -/
abbrev rSt0t : Rect S2x512x2048 := Rect.unit (s := S2x512x2048) ![0, 0, 0] S1x256x2048.size inb_S2x512x2048_S1x256x2048_0_0_0
/-- Slot 1 of the f32 buffers. -/
abbrev rSt1 : Rect S2x512x2048 := Rect.unit (s := S2x512x2048) ![1, 0, 0] S1x512x2048.size inb_S2x512x2048_S1x512x2048_1_0_0
/-- Its upper half. -/
abbrev rSt1t : Rect S2x512x2048 := Rect.unit (s := S2x512x2048) ![1, 0, 0] S1x256x2048.size inb_S2x512x2048_S1x256x2048_1_0_0
set_option backward.proofsInPublic true in
/-- The lower halves (never touched). -/
abbrev rSt0b : Rect S2x512x2048 := Rect.unit (s := S2x512x2048) ![0, 256, 0] S1x256x2048.size (by decide)
set_option backward.proofsInPublic true in
abbrev rSt1b : Rect S2x512x2048 := Rect.unit (s := S2x512x2048) ![1, 256, 0] S1x256x2048.size (by decide)
/-- Slot 0 of the pieces sent. -/
abbrev rCs0 : Rect S6x512x2048 := Rect.unit (s := S6x512x2048) ![0, 0, 0] S1x512x2048.size inb_S6x512x2048_S1x512x2048_0_0_0
/-- Slot 1 of the pieces sent. -/
abbrev rCs1 : Rect S6x512x2048 := Rect.unit (s := S6x512x2048) ![1, 0, 0] S1x512x2048.size inb_S6x512x2048_S1x512x2048_1_0_0
/-- Slot 2 of the pieces sent. -/
abbrev rCs2 : Rect S6x512x2048 := Rect.unit (s := S6x512x2048) ![2, 0, 0] S1x512x2048.size inb_S6x512x2048_S1x512x2048_2_0_0
/-- Slot 3 of the pieces sent. -/
abbrev rCs3 : Rect S6x512x2048 := Rect.unit (s := S6x512x2048) ![3, 0, 0] S1x512x2048.size inb_S6x512x2048_S1x512x2048_3_0_0
/-- The halves of slots 4 and 5 of the pieces sent, by the transfer that sends them. -/
abbrev rCs8 : Rect S6x512x2048 := Rect.unit (s := S6x512x2048) ![4, 0, 0] S1x256x2048.size inb_S6x512x2048_S1x256x2048_4_0_0
abbrev rCs9 : Rect S6x512x2048 := Rect.unit (s := S6x512x2048) ![5, 0, 0] S1x256x2048.size inb_S6x512x2048_S1x256x2048_5_0_0
abbrev rCs10 : Rect S6x512x2048 := Rect.unit (s := S6x512x2048) ![4, 256, 0] S1x256x2048.size inb_S6x512x2048_S1x256x2048_4_256_0
abbrev rCs11 : Rect S6x512x2048 := Rect.unit (s := S6x512x2048) ![5, 256, 0] S1x256x2048.size inb_S6x512x2048_S1x256x2048_5_256_0
/-- Slot 0 of the rows sent. -/
abbrev rAs0 : Rect S2x512x1024 := Rect.unit (s := S2x512x1024) ![0, 0, 0] S1x512x1024.size inb_S2x512x1024_S1x512x1024_0_0_0
/-- Slot 1 of the rows sent. -/
abbrev rAs1 : Rect S2x512x1024 := Rect.unit (s := S2x512x1024) ![1, 0, 0] S1x512x1024.size inb_S2x512x1024_S1x512x1024_1_0_0
/-- Where transfer 0 lands. -/
abbrev rCr0 : Rect S10x512x2048 := Rect.unit (s := S10x512x2048) ![0, 0, 0] S1x512x2048.size inb_S10x512x2048_S1x512x2048_0_0_0
/-- Where transfer 1 lands. -/
abbrev rCr1 : Rect S10x512x2048 := Rect.unit (s := S10x512x2048) ![1, 0, 0] S1x512x2048.size inb_S10x512x2048_S1x512x2048_1_0_0
/-- Where transfer 2 lands. -/
abbrev rCr2 : Rect S10x512x2048 := Rect.unit (s := S10x512x2048) ![2, 0, 0] S1x512x2048.size inb_S10x512x2048_S1x512x2048_2_0_0
/-- Where transfer 3 lands. -/
abbrev rCr3 : Rect S10x512x2048 := Rect.unit (s := S10x512x2048) ![3, 0, 0] S1x512x2048.size inb_S10x512x2048_S1x512x2048_3_0_0
/-- Where transfer 4 lands. -/
abbrev rCr4 : Rect S10x512x2048 := Rect.unit (s := S10x512x2048) ![4, 0, 0] S1x512x2048.size inb_S10x512x2048_S1x512x2048_4_0_0
/-- Where transfer 5 lands. -/
abbrev rCr5 : Rect S10x512x2048 := Rect.unit (s := S10x512x2048) ![5, 0, 0] S1x512x2048.size inb_S10x512x2048_S1x512x2048_5_0_0
/-- Where transfer 6 lands. -/
abbrev rCr6 : Rect S10x512x2048 := Rect.unit (s := S10x512x2048) ![6, 0, 0] S1x512x2048.size inb_S10x512x2048_S1x512x2048_6_0_0
/-- Where transfer 7 lands. -/
abbrev rCr7 : Rect S10x512x2048 := Rect.unit (s := S10x512x2048) ![7, 0, 0] S1x512x2048.size inb_S10x512x2048_S1x512x2048_7_0_0
/-- Where transfer 8 lands, and the last three. -/
abbrev rCr8 : Rect S10x512x2048 := Rect.unit (s := S10x512x2048) ![8, 0, 0] S1x256x2048.size inb_S10x512x2048_S1x256x2048_8_0_0
abbrev rCr9 : Rect S10x512x2048 := Rect.unit (s := S10x512x2048) ![9, 0, 0] S1x256x2048.size inb_S10x512x2048_S1x256x2048_9_0_0
abbrev rCr10 : Rect S10x512x2048 := Rect.unit (s := S10x512x2048) ![8, 256, 0] S1x256x2048.size inb_S10x512x2048_S1x256x2048_8_256_0
abbrev rCr11 : Rect S10x512x2048 := Rect.unit (s := S10x512x2048) ![9, 256, 0] S1x256x2048.size inb_S10x512x2048_S1x256x2048_9_256_0

/-- A rectangle with unit strides has unit strides, whatever its offsets. -/
theorem st1 {s : Shape} {off size : Fin s.rank → ℕ} {h} : ∀ a, (Rect.unit (s := s) off size h).stride a = 1 := fun _ => rfl

/-- The pieces of the result device `c` writes, in the order of their copies. -/
def rO (c : Dev nD) (t : Fin 20) : Rect S8192x2048 := match t with
  | 0 => Rect.unit (s := S8192x2048) (k0_off1 c 0#32) S512x2048.size (k0_off1_inb c 0)
  | 1 => Rect.unit (s := S8192x2048) (k0_off1 c 512#32) S512x2048.size (k0_off1_inb c 1)
  | 2 => Rect.unit (s := S8192x2048) (k0_off1 c 1024#32) S512x2048.size (k0_off1_inb c 2)
  | 3 => Rect.unit (s := S8192x2048) (k0_off1 c 1536#32) S512x2048.size (k0_off1_inb c 3)
  | 4 => Rect.unit (s := S8192x2048) (k0_off2 c 0#32) S256x2048.size (k0_off2_inb c 0)
  | 5 => Rect.unit (s := S8192x2048) (k0_off3 c 1#32 1536#32 0#32) S256x2048.size (k0_off3_inb c 0)
  | 6 => Rect.unit (s := S8192x2048) (k0_off2 c 256#32) S256x2048.size (k0_off2_inb c 1)
  | 7 => Rect.unit (s := S8192x2048) (k0_off3 c 1#32 1536#32 256#32) S256x2048.size (k0_off3_inb c 1)
  | 8 => Rect.unit (s := S8192x2048) (k0_off4 c 1#32 0#32) S512x2048.size (k0_off4_inb c 0)
  | 9 => Rect.unit (s := S8192x2048) (k0_off5 c 0#32) S512x2048.size (k0_off5_inb c 0)
  | 10 => Rect.unit (s := S8192x2048) (k0_off4 c 1#32 512#32) S512x2048.size (k0_off4_inb c 1)
  | 11 => Rect.unit (s := S8192x2048) (k0_off5 c 512#32) S512x2048.size (k0_off5_inb c 1)
  | 12 => Rect.unit (s := S8192x2048) (k0_off4 c 2#32 0#32) S512x2048.size (k0_off4_inb c 2)
  | 13 => Rect.unit (s := S8192x2048) (k0_off4 c 2#32 512#32) S512x2048.size (k0_off4_inb c 3)
  | 14 => Rect.unit (s := S8192x2048) (k0_off4 c 1#32 1024#32) S512x2048.size (k0_off4_inb c 4)
  | 15 => Rect.unit (s := S8192x2048) (k0_off5 c 1536#32) S512x2048.size (k0_off5_inb c 2)
  | 16 => Rect.unit (s := S8192x2048) (k0_off6 c 1024#32) S256x2048.size (k0_off6_inb c 0)
  | 17 => Rect.unit (s := S8192x2048) (k0_off6 c 1536#32) S256x2048.size (k0_off6_inb c 1)
  | 18 => Rect.unit (s := S8192x2048) (k0_off3 c 2#32 1024#32 256#32) S256x2048.size (k0_off3_inb c 2)
  | 19 => Rect.unit (s := S8192x2048) (k0_off3 c 2#32 1536#32 256#32) S256x2048.size (k0_off3_inb c 3)
  | ⟨_ + 20, h⟩ => absurd h (Nat.not_lt.2 (Nat.le_add_left _ _))

theorem rO_stride (c : Dev nD) (t : Fin 20) : ∀ a, (rO c t).stride a = 1 := by
  intro a; fin_cases t <;> rfl

/-! ## Contents

What the pipeline stages, and from it what device `d` computes: `wN` the f32 pieces of its own rows and of the rows
its neighbours hand it, `uN` their bf16 casts, as it sends them. -/

def xA (d : Dev nD) : (cc0_stg0_0 : Ref sig .tc).ty.Contents (Elt F) :=
  (win0_0.blk (0 : Fin 1)).view.read (Elt F) ((s₀ m ρ).mem ((d : Thread nD τ).loc main_arg0))
def xB (d : Dev nD) : (cc0_stg1_0 : Ref sig .tc).ty.Contents (Elt F) :=
  (win0_1.blk (0 : Fin 1)).view.read (Elt F) ((s₀ m ρ).mem ((d : Thread nD τ).loc main_arg1))

def vA0 (d : Dev nD) : Vec F S512x1024 .f32 := fun j => xA m ρ d (rA0.emb j)
def vA1 (d : Dev nD) : Vec F S512x1024 .f32 := fun j => xA m ρ d (rA1.emb j)
def vA2 (d : Dev nD) : Vec F S512x1024 .f32 := fun j => xA m ρ d (rA2.emb j)
def vA3 (d : Dev nD) : Vec F S512x1024 .f32 := fun j => xA m ρ d (rA3.emb j)
def vB (d : Dev nD) : Vec F S1024x2048 .f32 := fun j => xB m ρ d (rB.emb j)

/-- The rows sent to the left (transfer 12) and to the right (transfer 13); -/
def vAs0 (d : Dev nD) : Vec F S1x512x1024 .bf16 := k0_pay1 (vA3 m ρ d)
def vAs1 (d : Dev nD) : Vec F S1x512x1024 .bf16 := k0_pay2 (vA2 m ρ d)
/-- the rows that have arrived at `c` from its left and its right neighbour, and their halves. -/
def vLb (c : Dev nD) : Vec F S512x1024 .bf16 := re squeezes_S1x512x1024_S512x1024.numel_eq (vAs1 m ρ (lf c))
def vRb (c : Dev nD) : Vec F S512x1024 .bf16 := re squeezes_S1x512x1024_S512x1024.numel_eq (vAs0 m ρ (rt c))
def vLt (c : Dev nD) : Vec F S256x1024 .bf16 := fun j => vLb m ρ c (rLt.emb j)
def vLl (c : Dev nD) : Vec F S256x1024 .bf16 := fun j => vLb m ρ c (rLb.emb j)
def vRt (c : Dev nD) : Vec F S256x1024 .bf16 := fun j => vRb m ρ c (rLt.emb j)
def vRl (c : Dev nD) : Vec F S256x1024 .bf16 := fun j => vRb m ρ c (rLb.emb j)

def w0 (d : Dev nD) : Vec F S1x512x2048 .f32 := k0_pay3 (vA0 m ρ d) (vB m ρ d)
def w1 (d : Dev nD) : Vec F S1x512x2048 .f32 := k0_pay6 (vA1 m ρ d) (vB m ρ d)
def w2 (d : Dev nD) : Vec F S1x512x2048 .f32 := k0_pay9 (k0_pay8 (vA2 m ρ d)) (vB m ρ d)
def w3 (d : Dev nD) : Vec F S1x512x2048 .f32 := k0_pay11 (vA3 m ρ d) (vB m ρ d)
def w4 (d : Dev nD) : Vec F S1x256x2048 .f32 := k0_pay13 (vLt m ρ d) (vB m ρ d)
def w5 (d : Dev nD) : Vec F S1x256x2048 .f32 := k0_pay15 (vRt m ρ d) (vB m ρ d)
def w6 (d : Dev nD) : Vec F S1x256x2048 .f32 := k0_pay18 (k0_pay17 (vLl m ρ d) (vB m ρ d))
def w7 (d : Dev nD) : Vec F S1x256x2048 .f32 := k0_pay20 (vRl m ρ d) (vB m ρ d)
def u0 (d : Dev nD) : Vec F S1x512x2048 .bf16 := k0_pay5 (k0_pay4 (w0 m ρ d))
def u1 (d : Dev nD) : Vec F S1x512x2048 .bf16 := k0_pay7 (w1 m ρ d)
def u2 (d : Dev nD) : Vec F S1x512x2048 .bf16 := k0_pay10 (w2 m ρ d)
def u3 (d : Dev nD) : Vec F S1x512x2048 .bf16 := k0_pay12 (w3 m ρ d)
def u4 (d : Dev nD) : Vec F S1x256x2048 .bf16 := k0_pay14 (w4 m ρ d)
def u5 (d : Dev nD) : Vec F S1x256x2048 .bf16 := k0_pay16 (w5 m ρ d)
def u6 (d : Dev nD) : Vec F S1x256x2048 .bf16 := k0_pay19 (w6 m ρ d)
def u7 (d : Dev nD) : Vec F S1x256x2048 .bf16 := k0_pay21 (w7 m ρ d)

/-- What device `c` makes of the piece each transfer brought it. -/
def w8 (c : Dev nD) : Vec F S1x512x2048 .f32 := k0_pay22 (u0 m ρ (rt c))
def w9 (c : Dev nD) : Vec F S1x512x2048 .f32 := k0_pay23 (u0 m ρ (lf c))
def w10 (c : Dev nD) : Vec F S1x512x2048 .f32 := k0_pay24 (u1 m ρ (rt c))
def w11 (c : Dev nD) : Vec F S1x512x2048 .f32 := k0_pay25 (u1 m ρ (lf c))
def w12 (c : Dev nD) : Vec F S1x512x2048 .f32 := k0_pay26 (u0 m ρ (dg c))
def w13 (c : Dev nD) : Vec F S1x512x2048 .f32 := k0_pay27 (u1 m ρ (dg c))
def w14 (c : Dev nD) : Vec F S1x512x2048 .f32 := k0_pay29 (k0_pay28 (u2 m ρ (rt c)))
def w15 (c : Dev nD) : Vec F S1x512x2048 .f32 := k0_pay30 (u3 m ρ (lf c))
def w16 (c : Dev nD) : Vec F S1x256x2048 .f32 := k0_pay31 (u4 m ρ (lf c))
def w17 (c : Dev nD) : Vec F S1x256x2048 .f32 := k0_pay32 (u5 m ρ (rt c))
def w18 (c : Dev nD) : Vec F S1x256x2048 .f32 := k0_pay33 (u6 m ρ (lf c))
def w19 (c : Dev nD) : Vec F S1x256x2048 .f32 := k0_pay34 (u7 m ρ (rt c))

/-- What device `c` leaves in each piece of its result. -/
def vO (c : Dev nD) (t : Fin 20) : (rO c t).shape.Idx → Elt F .f32 := match t with
  | 0 => re squeezes_S1x512x2048_S512x2048.numel_eq (w0 m ρ c)
  | 1 => re squeezes_S1x512x2048_S512x2048.numel_eq (w1 m ρ c)
  | 2 => re squeezes_S1x512x2048_S512x2048.numel_eq (w2 m ρ c)
  | 3 => re squeezes_S1x512x2048_S512x2048.numel_eq (w3 m ρ c)
  | 4 => re squeezes_S1x256x2048_S256x2048.numel_eq (w4 m ρ c)
  | 5 => re squeezes_S1x256x2048_S256x2048.numel_eq (w5 m ρ c)
  | 6 => re squeezes_S1x256x2048_S256x2048.numel_eq (w6 m ρ c)
  | 7 => re squeezes_S1x256x2048_S256x2048.numel_eq (w7 m ρ c)
  | 8 => re squeezes_S1x512x2048_S512x2048.numel_eq (w8 m ρ c)
  | 9 => re squeezes_S1x512x2048_S512x2048.numel_eq (w9 m ρ c)
  | 10 => re squeezes_S1x512x2048_S512x2048.numel_eq (w10 m ρ c)
  | 11 => re squeezes_S1x512x2048_S512x2048.numel_eq (w11 m ρ c)
  | 12 => re squeezes_S1x512x2048_S512x2048.numel_eq (w12 m ρ c)
  | 13 => re squeezes_S1x512x2048_S512x2048.numel_eq (w13 m ρ c)
  | 14 => re squeezes_S1x512x2048_S512x2048.numel_eq (w14 m ρ c)
  | 15 => re squeezes_S1x512x2048_S512x2048.numel_eq (w15 m ρ c)
  | 16 => re squeezes_S1x256x2048_S256x2048.numel_eq (w16 m ρ c)
  | 17 => re squeezes_S1x256x2048_S256x2048.numel_eq (w17 m ρ c)
  | 18 => re squeezes_S1x256x2048_S256x2048.numel_eq (w18 m ρ c)
  | 19 => re squeezes_S1x256x2048_S256x2048.numel_eq (w19 m ρ c)
  | ⟨_ + 20, h⟩ => absurd h (Nat.not_lt.2 (Nat.le_add_left _ _))

/-! ## What a transfer carries

The source piece at the share the transfer holds while it reads it, where it lands at any contents, and where it has
landed with the sender's contents. -/

def sndPay (x : Fin 14) (c : Dev nD) : sProp 𝕄 := match x with
  | 0 => ownsTc c (csM.slice rCs0 st1) fullShare.left (u0 m ρ c)
  | 1 => ownsTc c (csM.slice rCs0 st1) fullShare.right.left (u0 m ρ c)
  | 2 => ownsTc c (csM.slice rCs0 st1) fullShare.right.right (u0 m ρ c)
  | 3 => ownsTc c (csM.slice rCs1 st1) fullShare.left (u1 m ρ c)
  | 4 => ownsTc c (csM.slice rCs1 st1) fullShare.right.left (u1 m ρ c)
  | 5 => ownsTc c (csM.slice rCs1 st1) fullShare.right.right (u1 m ρ c)
  | 6 => ownsTc c (csM.slice rCs2 st1) fullShare (u2 m ρ c)
  | 7 => ownsTc c (csM.slice rCs3 st1) fullShare (u3 m ρ c)
  | 8 => ownsTc c (csM.slice rCs8 st1) fullShare (u4 m ρ c)
  | 9 => ownsTc c (csM.slice rCs9 st1) fullShare (u5 m ρ c)
  | 10 => ownsTc c (csM.slice rCs10 st1) fullShare (u6 m ρ c)
  | 11 => ownsTc c (csM.slice rCs11 st1) fullShare (u7 m ρ c)
  | 12 => ownsTc c (asM.slice rAs0 st1) fullShare (vAs0 m ρ c)
  | 13 => ownsTc c (asM.slice rAs1 st1) fullShare (vAs1 m ρ c)

def landPay (x : Fin 14) (c : Dev nD) : sProp 𝕄 := match x with
  | 0 => some' c (crM.slice rCr0 st1)
  | 1 => some' c (crM.slice rCr1 st1)
  | 2 => some' c (crM.slice rCr2 st1)
  | 3 => some' c (crM.slice rCr3 st1)
  | 4 => some' c (crM.slice rCr4 st1)
  | 5 => some' c (crM.slice rCr5 st1)
  | 6 => some' c (crM.slice rCr6 st1)
  | 7 => some' c (crM.slice rCr7 st1)
  | 8 => some' c (crM.slice rCr8 st1)
  | 9 => some' c (crM.slice rCr9 st1)
  | 10 => some' c (crM.slice rCr10 st1)
  | 11 => some' c (crM.slice rCr11 st1)
  | 12 => some' c rbM
  | 13 => some' c lbM

def rcvPay (x : Fin 14) (c : Dev nD) : sProp 𝕄 := match x with
  | 0 => ownsTc c (crM.slice rCr0 st1) fullShare (u0 m ρ (rt c))
  | 1 => ownsTc c (crM.slice rCr1 st1) fullShare (u0 m ρ (lf c))
  | 2 => ownsTc c (crM.slice rCr2 st1) fullShare (u0 m ρ (dg c))
  | 3 => ownsTc c (crM.slice rCr3 st1) fullShare (u1 m ρ (rt c))
  | 4 => ownsTc c (crM.slice rCr4 st1) fullShare (u1 m ρ (lf c))
  | 5 => ownsTc c (crM.slice rCr5 st1) fullShare (u1 m ρ (dg c))
  | 6 => ownsTc c (crM.slice rCr6 st1) fullShare (u2 m ρ (rt c))
  | 7 => ownsTc c (crM.slice rCr7 st1) fullShare (u3 m ρ (lf c))
  | 8 => ownsTc c (crM.slice rCr8 st1) fullShare (u4 m ρ (lf c))
  | 9 => ownsTc c (crM.slice rCr9 st1) fullShare (u5 m ρ (rt c))
  | 10 => ownsTc c (crM.slice rCr10 st1) fullShare (u6 m ρ (lf c))
  | 11 => ownsTc c (crM.slice rCr11 st1) fullShare (u7 m ρ (rt c))
  | 12 => ownsTc c rbM fullShare (vRb m ρ c)
  | 13 => ownsTc c lbM fullShare (vLb m ρ c)

instance sndPay_storable (x : Fin 14) (c : Dev nD) : BI.Storable (upEmb : UEmb _ 𝕄) (sndPay (F := F) m ρ x c) := by
  unfold sndPay; split <;> infer_instance
omit [FloatOps F] in
instance landPay_storable (x : Fin 14) (c : Dev nD) : BI.Storable (upEmb : UEmb _ 𝕄) (landPay (F := F) x c) := by
  unfold landPay; split <;> infer_instance
instance rcvPay_storable (x : Fin 14) (c : Dev nD) : BI.Storable (upEmb : UEmb _ 𝕄) (rcvPay (F := F) m ρ x c) := by
  unfold rcvPay; split <;> infer_instance

end Cert.MatmulProof

end
-- ==== Proof.Protocol.lean ====
/-
# The protocol of the four devices

Every device signals the other three through the runtime's barrier semaphore before anything is sent to it, and hands
them, with the signal, the places their transfers land in. Each transfer then has a send cell on its sender, whose one
duty gives the source piece back, and a receive cell on its target, whose one duty brings the landed piece. This module
states that schedule under the rounds library, what each device owes and the levels that order its waits, and proves the
rule for each of the kernel's effects on those cells: a signal, the barrier wait, a transfer, the wait for one.
-/
module

public import proofs.«01_k».proof.Proof.Values

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells

Each device has a barrier cell and, per transfer, a send cell (its own departures) and a receive cell (arrivals). -/

abbrev barS : Sem sig := (SemArray.scalar (sig.barrier 0 rfl) : Sems sig S_).sem

set_option backward.proofsInPublic true in
/-- Transfer `x`'s send semaphore and -/
def sndS (x : Fin 14) : DmaSem sig := ⟨if x.val < 12 then 6 + x.val else x.val - 10, by revert x; decide⟩
set_option backward.proofsInPublic true in
/-- its receive semaphore; -/
def rcvS (x : Fin 14) : DmaSem sig := ⟨if x.val < 12 then 18 + x.val else x.val - 8, by revert x; decide⟩
set_option backward.proofsInPublic true in
/-- the semaphore of the copy of piece `t` of the result. -/
def cpyS (t : Fin 20) : DmaSem sig := ⟨30 + t.val, by revert t; decide⟩

/-- Which cell of a device: its barrier, `(false, x)` transfer `x`'s send cell, `(true, x)` its receive cell. -/
abbrev CIx : Type := Option (Bool × Fin 14)

@[reducible] def csem : CIx → SemLoc sig
  | none => .reg barS
  | some (false, x) => .dma (sndS x)
  | some (true, x) => .dma (rcvS x)

theorem csem_injective : Function.Injective csem := by
  have h : ∀ k k' : CIx, csem k = csem k' → k = k' := by decide +kernel
  exact fun k k' => h k k'

abbrev cell (p : Dev nD × CIx) : GSem nD τ sig := ((p.1 : Thread nD τ), csem p.2)

theorem cell_injective : Function.Injective cell := by
  rintro ⟨c, k⟩ ⟨c', k'⟩ h
  have h1 : c = c' := congrArg (fun g : GSem nD τ sig => g.1.1) h
  have h2 : k = k' := csem_injective (congrArg Prod.snd h)
  rw [h1, h2]

abbrev barC (c : Dev nD) : GSem nD τ sig := cell (c, none)
abbrev sndC (x : Fin 14) (c : Dev nD) : GSem nD τ sig := cell (c, some (false, x))
abbrev rcvC (x : Fin 14) (c : Dev nD) : GSem nD τ sig := cell (c, some (true, x))

open Classical in
/-- Which device's which cell a semaphore is, if any. -/
def dec (g : GSem nD τ sig) : Option (Dev nD × CIx) := if h : ∃ p, cell p = g then some h.choose else none

theorem dec_cell (p : Dev nD × CIx) : dec (cell p) = some p := by
  have h : ∃ p', cell p' = cell p := ⟨p, rfl⟩
  unfold dec; rw [dif_pos h]; exact congrArg some (cell_injective h.choose_spec)

/-- What each transfer credits: by the landing memref's size. -/
abbrev n512 : ℕ := ((crM.slice rCr0 st1).squeeze S512x2048 squeezes_S1x512x2048_S512x2048).view.dmaCredit
abbrev n256 : ℕ := ((crM.slice rCr8 st1).squeeze S256x2048 squeezes_S1x256x2048_S256x2048).view.dmaCredit
abbrev nRow : ℕ := (lbM : Memref sig .tc .vmem S512x1024 .bf16).view.dmaCredit

def nX (x : Fin 14) : ℕ := if x.val < 8 then n512 else if x.val < 12 then n256 else nRow
theorem nX_pos (x : Fin 14) : 0 < nX x := by
  unfold nX; split
  · exact View.dmaCredit_pos _ (by decide)
  · split <;> exact View.dmaCredit_pos _ (by decide)

/-! ## The schedule -/

/-- What the three signals of `c`'s barrier cell hand it: duty 0 is its right neighbour's, duty 1 its left neighbour's,
    duty 2 the one across's; each hands over where `c`'s transfers to that device land. -/
def barPay (c : Dev nD) (d : Fin 3) : sProp 𝕄 := match d with
  | 0 => iprop(landPay 1 (rt c) ∗ landPay 4 (rt c) ∗ landPay 7 (rt c) ∗ landPay 8 (rt c) ∗ landPay 10 (rt c) ∗ landPay 13 (rt c))
  | 1 => iprop(landPay 0 (lf c) ∗ landPay 3 (lf c) ∗ landPay 6 (lf c) ∗ landPay 9 (lf c) ∗ landPay 11 (lf c) ∗ landPay 12 (lf c))
  | 2 => iprop(landPay 2 (dg c) ∗ landPay 5 (dg c))

omit [FloatOps F] in
instance barPay_storable (c : Dev nD) (d : Fin 3) : BI.Storable (upEmb : UEmb _ 𝕄) (barPay (F := F) c d) := by
  unfold barPay; split <;> infer_instance

def dutiesOf : Option (Dev nD × CIx) → Finset (Fin 3)
  | none => ∅
  | some (_, none) => Finset.univ
  | some (_, some _) => {0}
def amountOf' : Option (Dev nD × CIx) → ℕ
  | none => 1
  | some (_, none) => 1
  | some (_, some (_, x)) => nX x
def payOf (d : Fin 3) : Option (Dev nD × CIx) → sProp 𝕄
  | none => iprop(emp)
  | some (c, none) => barPay c d
  | some (c, some (false, x)) => sndPay m ρ x c
  | some (c, some (true, x)) => rcvPay m ρ x c

instance payOf_storable (d : Fin 3) (o : Option (Dev nD × CIx)) : BI.Storable (upEmb : UEmb _ 𝕄) (payOf (F := F) m ρ d o) := by
  unfold payOf; split <;> infer_instance

/-- One round, round 0: a barrier cell has three duties of a unit each, a send or receive cell one. -/
def Rd : Rounds.Schedule (GSem nD τ sig) (Fin 3) 𝕄 where
  duties g r := if r = 0 then dutiesOf (dec g) else ∅
  amount g _ _ := amountOf' (dec g)
  payload g _ d := payOf m ρ d (dec g)
  amount_pos g _ _ _ := by
    unfold amountOf'; split
    · exact Nat.one_pos
    · exact Nat.one_pos
    · exact nX_pos _

instance Rd_payload_storable (g : GSem nD τ sig) (r : ℕ) (d : Fin 3) :
    BI.Storable (upEmb : UEmb _ 𝕄) ((Rd (F := F) m ρ).payload g r d) := payOf_storable m ρ d (dec g)

theorem duties_bar (c : Dev nD) : (Rd (F := F) m ρ).duties (barC c) 0 = Finset.univ := by
  dsimp only [Rd]; rw [if_pos rfl, dec_cell]; rfl
theorem duties_x (c : Dev nD) (bx : Bool × Fin 14) : (Rd (F := F) m ρ).duties (cell (c, some bx)) 0 = {0} := by
  dsimp only [Rd]; rw [if_pos rfl, dec_cell]; rfl
theorem duties_later (g : GSem nD τ sig) : ∀ r, 1 ≤ r → (Rd (F := F) m ρ).duties g r = ∅ :=
  fun r hr => by dsimp only [Rd]; rw [if_neg fun h => by omega]
theorem amount_bar (c : Dev nD) (d : Fin 3) : (Rd (F := F) m ρ).amount (barC c) 0 d = 1 := by
  dsimp only [Rd]; rw [dec_cell]; rfl
theorem amount_x (c : Dev nD) (bx : Bool × Fin 14) (d : Fin 3) : (Rd (F := F) m ρ).amount (cell (c, some bx)) 0 d = nX bx.2 := by
  dsimp only [Rd]; rw [dec_cell]; rfl
theorem expect_bar (c : Dev nD) : (Rd (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
theorem expect_x (c : Dev nD) (bx : Bool × Fin 14) : (Rd (F := F) m ρ).expect (cell (c, some bx)) 0 = nX bx.2 := by
  unfold Schedule.expect Schedule.amountOf; rw [duties_x, Finset.sum_singleton, amount_x]
theorem payload_bar (c : Dev nD) (d : Fin 3) : (Rd (F := F) m ρ).payload (barC c) 0 d = barPay c d := by
  dsimp only [Rd]; rw [dec_cell]; rfl
theorem payload_snd (x : Fin 14) (c : Dev nD) (d : Fin 3) : (Rd (F := F) m ρ).payload (sndC x c) 0 d = sndPay m ρ x c := by
  dsimp only [Rd]; rw [dec_cell]; rfl
theorem payload_rcv (x : Fin 14) (c : Dev nD) (d : Fin 3) : (Rd (F := F) m ρ).payload (rcvC x c) 0 d = rcvPay m ρ x c := by
  dsimp only [Rd]; rw [dec_cell]; rfl
theorem rest_bar (c : Dev nD) : bigSep ((Rd (F := F) m ρ).duties (barC c) 0 \ ∅) (fun d => (Rd (F := F) m ρ).payload (barC c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_snd (x : Fin 14) (c : Dev nD) : bigSep ((Rd (F := F) m ρ).duties (sndC x c) 0 \ ∅) (fun d => (Rd (F := F) m ρ).payload (sndC x c) 0 d)
    = sndPay m ρ x c := by
  rw [Finset.sdiff_empty, duties_x, bigSep_singleton, payload_snd]
theorem rest_rcv (x : Fin 14) (c : Dev nD) : bigSep ((Rd (F := F) m ρ).duties (rcvC x c) 0 \ ∅) (fun d => (Rd (F := F) m ρ).payload (rcvC x c) 0 d)
    = rcvPay m ρ x c := by
  rw [Finset.sdiff_empty, duties_x, bigSep_singleton, payload_rcv]

/-! ## What a device owes, and the levels

A device owes the credit of each transfer it has still to send, and, at first, a unit to each other barrier cell. -/

/-- The credits of the transfers in the list, the next one to be sent first. -/
def debt (c : Dev nD) : List (Fin 14) → CellTallies nD τ sig Unit
  | [] => 0
  | x :: l => debt c l + tallyAt (rcvC x (dst x c)) () (nX x)

/-- The transfers in the order they are sent. -/
abbrev sends : List (Fin 14) := [12, 13, 0, 1, 2, 3, 4, 5, 6, 7, 8, 9, 10, 11]

def O₂ (c : Dev nD) : CellTallies nD τ sig Unit := debt c sends + tallyAt (barC (dg c)) () 1
def O₁ (c : Dev nD) : CellTallies nD τ sig Unit := O₂ c + tallyAt (barC (rt c)) () 1
def O₀ (c : Dev nD) : CellTallies nD τ sig Unit := O₁ c + tallyAt (barC (lf c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A cell's level: barrier 1, the receive cells of the rows 2, of the pieces 3, everything else 0. -/
def lvOf : Option (Dev nD × CIx) → ℕ
  | some (_, none) => 1
  | some (_, some (true, x)) => if x.val < 12 then 3 else 2
  | _ => 0
def lv (g : GSem nD τ sig) (_ : Unit) : ℕ := lvOf (dec g)
theorem lv_cell (p : Dev nD × CIx) (u : Unit) : lv (cell p) u = lvOf (some p) := by unfold lv; rw [dec_cell]

theorem debt_pos {c : Dev nD} {l : List (Fin 14)} {g : GSem nD τ sig} {u : Unit} (h : 0 < debt c l g u) :
    ∃ x ∈ l, g = rcvC x (dst x c) := by
  induction l with
  | nil => exact absurd h (by unfold debt; exact Nat.lt_irrefl 0)
  | cons x l ih =>
    unfold debt at h
    rw [Pi.add_apply, Finsupp.add_apply, tallyAt_apply] at h
    by_cases hx : g = rcvC x (dst x c) ∧ u = ()
    · exact ⟨x, List.mem_cons_self, hx.1⟩
    · rw [if_neg hx, Nat.add_zero] at h
      obtain ⟨y, hy, e⟩ := ih h
      exact ⟨y, List.mem_cons_of_mem _ hy, e⟩

theorem O₀_pos {c : Dev nD} {g : GSem nD τ sig} {u : Unit} (h : 0 < O₀ c g u) :
    (∃ x, g = rcvC x (dst x c)) ∨ ∃ n, g = barC n := by
  unfold O₀ O₁ O₂ at h
  rw [Pi.add_apply, Finsupp.add_apply, Pi.add_apply, Finsupp.add_apply, Pi.add_apply, Finsupp.add_apply,
    tallyAt_apply, tallyAt_apply, tallyAt_apply] at h
  by_cases h1 : g = barC (dg c) ∧ u = (); · exact .inr ⟨_, h1.1⟩
  by_cases h2 : g = barC (rt c) ∧ u = (); · exact .inr ⟨_, h2.1⟩
  by_cases h3 : g = barC (lf c) ∧ u = (); · exact .inr ⟨_, h3.1⟩
  rw [if_neg h1, if_neg h2, if_neg h3] at h
  obtain ⟨x, -, e⟩ := debt_pos (c := c) (l := sends) (g := g) (u := u) h
  exact .inl ⟨x, e⟩

omit [FloatOps F] in
/-- A cell of level at most `b` may be waited for while the transfers still owed land on cells above `b`. -/
theorem mayWait_debt (c : Dev nD) (sm : SemLoc sig) (b : ℕ) (hb : lv ((c : Thread nD τ), sm) () ≤ b) (l : List (Fin 14))
    (hl : ∀ x ∈ l, b < if x.val < 12 then 3 else 2) :
    (levAts L lv : sProp 𝕄) ⊢ MayWait (c : Thread nD τ) sm () (debt c l) :=
  MayOwe.of_cut (L := L) (lev := lv) b (fun p hp => by rw [Finset.mem_singleton.mp hp, L_tc]; exact Finset.mem_singleton_self _)
    (fun g u hg => by obtain ⟨x, -, rfl⟩ := debt_pos hg; rw [L_tc]; exact Finset.mem_singleton_self _)
    (fun p hp => by rw [Finset.mem_singleton.mp hp]; exact hb)
    (fun g u hg => by obtain ⟨x, hx, rfl⟩ := debt_pos hg; rw [lv_cell]; exact hl x hx)

omit [FloatOps F] in
/-- A cell of level 0 may be waited for whatever a device owes at first. -/
theorem mayWait_O₀ (c : Dev nD) (sm : SemLoc sig) (hb : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨x, rfl⟩ | ⟨n, rfl⟩ <;> (rw [L_tc]; exact Finset.mem_singleton_self _))
    (fun p hp => by rw [Finset.mem_singleton.mp hp]; exact hb.le)
    (fun g u hg => by
      rcases O₀_pos hg with ⟨x, rfl⟩ | ⟨n, rfl⟩
      · rw [lv_cell]; dsimp only [lvOf]; split <;> decide
      · rw [lv_cell]; exact Nat.one_pos)

/-- The level of a semaphore that is none of the protocol's cells is 0: the pipeline's and the copies'. -/
theorem lv_other (c : Dev nD) (q : DmaSem sig) (h : ∀ k : CIx, csem k ≠ .dma q) : lv ((c : Thread nD τ), .dma q) () = 0 := by
  have hn : ¬ ∃ p, cell p = ((c : Thread nD τ), SemLoc.dma q) := fun ⟨p, hp⟩ => h p.2 (congrArg Prod.snd hp)
  unfold lv dec; rw [dif_neg hn]; rfl

theorem lv_cpy (c : Dev nD) (t : Fin 20) : lv ((c : Thread nD τ), .dma (cpyS t)) () = 0 :=
  lv_other c _ ((by decide +kernel : ∀ (t : Fin 20) (k : CIx), csem k ≠ .dma (cpyS t)) t)
theorem lv_stage (c : Dev nD) (q : DmaSem sig) (h : q.val < 2) : lv ((c : Thread nD τ), .dma q) () = 0 :=
  lv_other c _ ((by decide +kernel : ∀ (q : DmaSem sig), q.val < 2 → ∀ (k : CIx), csem k ≠ .dma q) q h)

/-! ## The ghost state -/

/-- Every cell's invariant, under names `K`, and that its round 0 is reached: what any device may use of any cell. -/
def records (K : Dev nD × CIx → ℕ) : sProp 𝕄 :=
  bigSep Finset.univ fun p : Dev nD × CIx => iprop(cellInv ER (Rd m ρ) (K p) (cell p) ∗ reached ER (cell p) 0)

instance records_persistent (K : Dev nD × CIx → ℕ) : BI.Persistent (records (F := F) m ρ K) := by unfold records; infer_instance

theorem records_inv (K : Dev nD × CIx → ℕ) (p : Dev nD × CIx) :
    (records m ρ K : sProp 𝕄) ⊢ iprop(cellInv ER (Rd m ρ) (K p) (cell p) ∗ reached ER (cell p) 0) := by
  unfold records; exact bigSep_elim (Finset.mem_univ p)

/-- What device `c` sends transfer `x` with: the two duties it pays and its position on its send cell. -/
def sendKit (x : Fin 14) (c : Dev nD) : sProp 𝕄 :=
  iprop(dutyTok ER (sndC x c) 0 0 ∗ dutyTok ER (rcvC x (dst x c)) 0 0 ∗ atPos ER (sndC x c) 0 ∅ 0)
/-- A transfer sent: the credit of its departure, and the position. -/
def sent (x : Fin 14) (c : Dev nD) : sProp 𝕄 := iprop(cred (tallyAt (sndC x c) () (nX x)) ∗ atPos ER (sndC x c) 0 ∅ 0)
/-- What device `c` waits for transfer `x` with. -/
def recvKit (x : Fin 14) (c : Dev nD) : sProp 𝕄 := iprop(cred (tallyAt (rcvC x c) () (nX x)) ∗ atPos ER (rcvC x c) 0 ∅ 0)

/-! ## The three rules of the protocol -/

section Rules
variable (K : Dev nD × CIx → ℕ) (c : Dev nD) {α : Type} {Q : α → sProp (MT nD τ sig Unit (Elt F) ℕ UU ℕ)}

/-- Device `c` sends transfer `x`: with the source piece and the place it lands in hand, it hands both over. -/
theorem snd (x : Fin 14) {n : Dev nD} (hn : n = dst x c) {sp sp' : Space} {s : Shape} {e : EltTy} {src : Memref sig .tc sp s e} {dm : Memref sig .tc sp' s e}
    {hsc : (dm : Memref sig (Dev.tc n : Thread nD τ).2.kind sp' s e).view.ref.isScScratch = false} {sS sR : DmaSem sig} (hs : sS = sndS x) (hr : sR = rcvS x)
    {hsrc : src.view.WordExact} {hdst : dm.view.WordExact}
    {hsem : DmaTarget.Typed sp (.dma sR) (.remote (Dev.tc n : Thread nD τ) dm (.dma sS) hsc)}
    {k : PUnit → Prog (TpuEff nD τ sig (Elt F) Λ₀ .tc) α} {q : PosShare TreeShare} {X Y : s.Idx → Elt F e} (l : List (Fin 14))
    (hN : dm.view.amount (SemLoc.dma sR) = nX x)
    (hps : (ownsTc c src q X : sProp 𝕄) ⊢ sndPay m ρ x c) (hpr : (ownsTc (dst x c) dm fullShare X : sProp 𝕄) ⊢ rcvPay m ρ x (dst x c)) :
    iprop(records m ρ K ∗ ownsTc c src q X ∗ ownsTc (dst x c) dm fullShare Y ∗ sendKit x c ∗ Owe c (debt c (x :: l)))
      ⊢ iprop(((sent x c ∗ Owe c (debt c l)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dm (.dma sS) hsc) (.dma sR) hsrc hdst hsem) k) Q) := by
  subst hn; subst hs; subst hr
  unfold sendKit Owe sent
  iintro ⟨#HR, Hs, Hd, ⟨Ht, Ht', Hat⟩, ⟨%W, HO⟩⟩ Hk
  ihave HA := (records_inv m ρ K (c, some (false, x))) $$ HR
  icases HA with ⟨#HIs, #HRs⟩
  ihave HA := (records_inv m ρ K (dst x c, some (true, x))) $$ HR
  icases HA with ⟨#HIr, #HRr⟩
  ihave Hs' := (show ownsTc c src q X ⊢ iprop(∃ g, ⌜src.view.read (Elt F) g = X⌝ ∗ src.view.loc (c : Thread nD τ) ↦[src.view.set]{q} g) from .rfl) $$ Hs
  icases Hs' with ⟨%fs, %hfs, Hs⟩
  ihave Hd' := (show ownsTc (dst x c) dm fullShare Y ⊢ iprop(∃ g, ⌜dm.view.read (Elt F) g = Y⌝ ∗ dm.view.loc (dst x c : Thread nD τ) ↦[dm.view.set]{fullShare} g) from .rfl) $$ Hd
  icases Hd' with ⟨%fd, %hfd, Hd⟩
  iapply (Rounds.wp_send_pointsTo 𝒱₀ ER (Rd m ρ) (c : Thread nD τ) none (c' := (dst x c : Thread nD τ)) (κ₁ := K (c, some (false, x))) (κ₂ := K (dst x c, some (true, x)))
    (r₁ := 0) (r₂ := 0) (d₁ := 0) (d₂ := 0) (fs := fs) (fd := fd) (q := q)
    ((Finset.ext_iff.mp (duties_x m ρ c (false, x)) 0).mpr (Finset.mem_singleton_self _))
    ((Finset.ext_iff.mp (duties_x m ρ (dst x c) (true, x)) 0).mpr (Finset.mem_singleton_self _))
    () () (nX x) hN (amount_x m ρ c (false, x) 0) (amount_x m ρ (dst x c) (true, x) 0) (debt c l) rfl (W := W) ?_ ?_) $$ [Hs Hd HO Ht Ht']
  · refine BIBase.Entails.trans ?_ (hps.trans (Entails.of_eq (payload_snd m ρ x c 0).symm))
    unfold ownsTc owns
    iintro H; iexists fs; isplitr; · ipureintro; exact hfs
    iexact H
  · refine BIBase.Entails.trans ?_ (hpr.trans (Entails.of_eq (payload_rcv m ρ x (dst x c) 0).symm))
    unfold ownsTc owns
    iintro H; iexists _; isplitr; swap; · iexact H
    ipureintro
    exact (View.read_write_univ (v := dm.view) _ _).trans hfs
  · isplitr; · iexact HIs
    isplitr; · iexact HIr
    isplitl [Hs]; · iexact Hs
    isplitl [Hd]; · iexact Hd
    isplitl [HO]; · iexact HO
    isplitl [Ht]; · iexact Ht
    isplitr; · iexact HRs
    isplitl [Ht']; · iexact Ht'
    iexact HRr
  iintro ⟨Hc, HO⟩
  iapply Hk
  isplitl [Hc Hat]
  · isplitl [Hc] <;> iassumption
  · iexists W; iexact HO

/-- Device `c` waits on its cell `bx`, in one go for all it will ever get: the cell's counter is then zero and its
    payload in hand. -/
theorem wtx (bx : Bool × Fin 14) {sp sp' : Space} {s s' : Shape} {e e' : EltTy} {srcw : Memref sig .tc sp' s' e'} {dstw : Memref sig .tc sp s e} {sm : DmaSem sig}
    (hs : SemLoc.dma sm = csem (some bx))
    {hsrc : srcw.view.WordExact} {hdst : dstw.view.WordExact} {k : PUnit → Prog (TpuEff nD τ sig (Elt F) Λ₀ .tc) α}
    (hN : dstw.view.dmaCredit = nX bx.2) {O : CellTallies nD τ sig Unit} {P : sProp 𝕄}
    (hP : bigSep ((Rd (F := F) m ρ).duties (cell (c, some bx)) 0 \ ∅) (fun d => (Rd (F := F) m ρ).payload (cell (c, some bx)) 0 d) = P) :
    iprop(records m ρ K ∗ (cred (tallyAt (cell (c, some bx)) () (nX bx.2)) ∗ atPos ER (cell (c, some bx)) 0 ∅ 0) ∗ Owe c O
        ∗ MayWait (c : Thread nD τ) (csem (some bx)) () O)
      ⊢ iprop(((P ∗ semVal (cell (c, some bx)) 0 ∗ Owe c O) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm srcw dstw hsrc hdst) k) Q) := by
  rw [show cell (c, some bx) = ((c : Thread nD τ), SemLoc.dma sm) by unfold cell; rw [hs]] at *
  rw [← hs]
  unfold Owe
  iintro ⟨#HR, ⟨Hc, Hat⟩, ⟨%W, HO⟩, Hm⟩ Hk
  ihave HA := (records_inv m ρ K (c, some bx)) $$ HR
  icases HA with ⟨HI0, -⟩
  ihave HI1 := (Entails.of_eq (congrArg (cellInv ER (Rd m ρ) (K (c, some bx))) (show cell (c, some bx) = ((c : Thread nD τ), SemLoc.dma sm) by unfold cell; rw [hs]))) $$ HI0
  icases HI1 with #HI
  iapply (Rounds.wp_wait_rest_token 𝒱₀ ER (Rd m ρ) (c : Thread nD τ) none (sm := .dma sm) (κ := K (c, some bx))
      (wpE_waitDma2_eq 𝒱₀ (c : Thread nD τ) none Set.univ) (Set.mem_univ _) () (O := O) (W := W) (R := 0) (m := 0) (T := ∅)
      (by rw [Nat.zero_add, show ((c : Thread nD τ), SemLoc.dma sm) = cell (c, some bx) by unfold cell; rw [hs]]
          exact hN.trans (expect_x m ρ c bx).symm)) $$ [Hc HO Hm Hat]
  · isplitr; · iexact HI
    isplitl [Hc]; · rw [hN]; iexact Hc
    isplitl [HO]; · iexact HO
    isplitl [Hm] <;> iassumption
  iintro ⟨HO, Hat, -, HP⟩
  ihave HP := (Entails.of_eq hP) $$ HP
  imod (Rounds.cell_close ER (Rd m ρ) (Set.mem_univ (K (c, some bx))) (fun h => h) (R := 0 + 1) (duties_later m ρ _)) $$ [Hat] with Hz
  · isplitr; · iexact HI
    iexact Hat
  iapply Hk
  isplitl [HP]; · iexact HP
  isplitl [Hz]; · iexact Hz
  iexists _; iexact HO

/-- Device `c` signals the barrier cell of `n`. -/
theorem sig' {n : Dev nD} {n' : Dev nD} (hn : n' = n) (d : Fin 3) {O₀ : CellTallies nD τ sig Unit} (O : CellTallies nD τ sig Unit)
    (hO : O₀ = O + tallyAt (barC n) () 1) {k : PUnit → Prog (TpuEff nD τ sig (Elt F) Λ₀ .tc) α} :
    iprop(records m ρ K ∗ Owe c O₀ ∗ dutyTok ER (barC n) 0 d ∗ barPay n d)
      ⊢ iprop((Owe c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n' : Thread nD τ) barS 1) k) Q) := by
  subst hn
  unfold Owe
  iintro ⟨#HR, ⟨%W, HO⟩, Ht, HP⟩ Hk
  ihave HA := (records_inv m ρ K (n', none)) $$ HR
  icases HA with ⟨#HI, #Hr⟩
  iapply (Rounds.wp_signal 𝒱₀ ER (Rd m ρ) (c : Thread nD τ) none (dst := (n' : Thread nD τ)) (κ := K (n', none))
      (d := d) ((Finset.ext_iff.mp (duties_bar m ρ n') d).mpr (Finset.mem_univ _)) (amount_bar m ρ n' d) () O hO)
    $$ [HO Ht HP]
  · isplitr; · iexact HI
    isplitl [HO]; · iexact HO
    isplitl [Ht]; · iexact Ht
    isplitl [HP]; · iapply (Entails.of_eq (payload_bar m ρ n' d).symm); iexact HP
    iexact Hr
  iintro HO
  iapply Hk
  iexists W; iexact HO

/-- Device `c` waits for the three signals of its barrier cell, and has where its transfers land. -/
theorem wtb {O : CellTallies nD τ sig Unit} {k : PUnit → Prog (TpuEff nD τ sig (Elt F) Λ₀ .tc) α} :
    iprop(records m ρ K ∗ (cred (tallyAt (barC c) () 3) ∗ atPos ER (barC c) 0 ∅ 0) ∗ Owe c O ∗ MayWait (c : Thread nD τ) (.reg barS) () O)
      ⊢ iprop((((barPay c 0 ∗ barPay c 1 ∗ barPay c 2) ∗ semVal (barC c) 0 ∗ Owe c O) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  unfold Owe
  iintro ⟨#HR, ⟨Hc, Hat⟩, ⟨%W, HO⟩, Hm⟩ Hk
  ihave HA := (records_inv m ρ K (c, none)) $$ HR
  icases HA with ⟨#HI, -⟩
  iapply (Rounds.wp_wait_rest_token 𝒱₀ ER (Rd m ρ) (c : Thread nD τ) none (sm := .reg barS) (κ := K (c, none))
      (wpE_semWait_eq 𝒱₀ (c : Thread nD τ) none Set.univ) (Set.mem_univ _) () (O := O) (W := W) (R := 0) (m := 0) (T := ∅)
      (by rw [Nat.zero_add]; exact (expect_bar m ρ c).symm)) $$ [Hc HO Hm Hat]
  · isplitr; · iexact HI
    isplitl [Hc]; · iexact Hc
    isplitl [HO]; · iexact HO
    isplitl [Hm] <;> iassumption
  iintro ⟨HO, Hat, -, HP⟩
  ihave HP := (Entails.of_eq (rest_bar m ρ c)) $$ HP
  imod (Rounds.cell_close ER (Rd m ρ) (Set.mem_univ (K (c, none))) (fun h => h) (R := 0 + 1) (duties_later m ρ _)) $$ [Hat] with Hz
  · isplitr; · iexact HI
    iexact Hat
  iapply Hk
  isplitl [HP]; · iexact HP
  isplitl [Hz]; · iexact Hz
  iexists _; iexact HO

end Rules

end Cert.MatmulProof

end
-- ==== Proof.Steps.lean ====
/-
# The steps of a device's run

Each effect of the kernel, said in the terms its run is told in: the slots the result's pieces are copied from and the
copies in flight, the transfers and their cells, what a load reads and a store leaves. The run then names, step by
step, which copy or transfer it is.
-/
module

public import proofs.«01_k».proof.Proof.Protocol

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What every step of a device may use: every cell's invariant, and the levels. -/
def ctx (K : Dev nD × CIx → ℕ) : sProp 𝕄 := iprop(records m ρ K ∗ levAts L lv)
instance ctx_persistent (K : Dev nD × CIx → ℕ) : BI.Persistent (ctx (F := F) m ρ K) := by unfold ctx; infer_instance

/-- Core `c` runs `p` and then has `Q` of its result. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The copies of the result's pieces

Copy `t` leaves a slot of the f32 buffers (its upper half, for a piece of 256 rows) for piece `t` of the result. -/

/-- The slot copy `t` leaves from, at `t`'s contents and a share; -/
def stP (q : PosShare TreeShare) (t : Fin 20) (c : Dev nD) : sProp 𝕄 := match t with
  | 0 => ownsTc c (stM.slice rSt0 st1) q (w0 m ρ c)
  | 1 => ownsTc c (stM.slice rSt1 st1) q (w1 m ρ c)
  | 2 => ownsTc c (stM.slice rSt0 st1) q (w2 m ρ c)
  | 3 => ownsTc c (stM.slice rSt1 st1) q (w3 m ρ c)
  | 4 => ownsTc c (stM.slice rSt0t st1) q (w4 m ρ c)
  | 5 => ownsTc c (stM.slice rSt1t st1) q (w5 m ρ c)
  | 6 => ownsTc c (stM.slice rSt0t st1) q (w6 m ρ c)
  | 7 => ownsTc c (stM.slice rSt1t st1) q (w7 m ρ c)
  | 8 => ownsTc c (stM.slice rSt0 st1) q (w8 m ρ c)
  | 9 => ownsTc c (stM.slice rSt1 st1) q (w9 m ρ c)
  | 10 => ownsTc c (stM.slice rSt0 st1) q (w10 m ρ c)
  | 11 => ownsTc c (stM.slice rSt1 st1) q (w11 m ρ c)
  | 12 => ownsTc c (stM.slice rSt0 st1) q (w12 m ρ c)
  | 13 => ownsTc c (stM.slice rSt1 st1) q (w13 m ρ c)
  | 14 => ownsTc c (stM.slice rSt0 st1) q (w14 m ρ c)
  | 15 => ownsTc c (stM.slice rSt1 st1) q (w15 m ρ c)
  | 16 => ownsTc c (stM.slice rSt0t st1) q (w16 m ρ c)
  | 17 => ownsTc c (stM.slice rSt1t st1) q (w17 m ρ c)
  | 18 => ownsTc c (stM.slice rSt0t st1) q (w18 m ρ c)
  | 19 => ownsTc c (stM.slice rSt1t st1) q (w19 m ρ c)
  | ⟨_ + 20, h⟩ => absurd h (Nat.not_lt.2 (Nat.le_add_left _ _))

/-- piece `t` of the result before, at any contents, and after. -/
def outS (t : Fin 20) (c : Dev nD) : sProp 𝕄 := some' c (oM.slice (rO c t) (rO_stride c t))
def outD (t : Fin 20) (c : Dev nD) : sProp 𝕄 := ownsTc c (oM.slice (rO c t) (rO_stride c t)) fullShare (vO m ρ c t)

/-- The counter of the copy's semaphore, at zero. -/
def cpy0 (t : Fin 20) (c : Dev nD) : sProp 𝕄 := semVal ((c : Thread nD τ), SemLoc.dma (cpyS t)) 0

/-- The credit of a copy: by the size of the piece. -/
def nO (t : Fin 20) : ℕ := if t.val < 4 ∨ 8 ≤ t.val ∧ t.val < 16 then (oM.slice (rO 0 0) (rO_stride 0 0)).view.dmaCredit
  else (oM.slice (rO 0 4) (rO_stride 0 4)).view.dmaCredit
theorem nO_pos (t : Fin 20) : 0 < nO t := by
  unfold nO; split <;> exact View.dmaCredit_pos _ (by decide)

/-- Copy `t` in flight: it brings the piece of the result, and half a share of the slot back. -/
def flies (t : Fin 20) (c : Dev nD) : sProp 𝕄 :=
  Transfers.Flight EC (c : Thread nD τ) (.dma (cpyS t)) () (nO t) iprop(outD m ρ t c ∗ stP m ρ fullShare.right t c)

section Steps
variable (c : Dev nD) {α : Type} {Q : α → sProp (MT nD τ sig Unit (Elt F) ℕ UU ℕ)}

omit [FloatOps F] in
theorem some'_squeeze {sp : Space} {s s' : Shape} {e : EltTy} (mr : Memref sig .tc sp s e) (h : s.Squeezes s') :
    (some' c mr : sProp 𝕄) ⊢ some' c (mr.squeeze s' h) := by
  unfold some'
  iintro ⟨%X, H⟩
  iexists (re h.numel_eq X); rw [owns_squeeze]; iexact H

/-- Copy `t` is issued: half a share of its slot stays with the core. -/
theorem cpo (t : Fin 20) {sm : DmaSem sig} (hs : sm = cpyS t) {sp sp' : Space} {s s' : Shape} {e : EltTy} {ms : Memref sig .tc sp s e} {h : s.Squeezes s'}
    {dm : Memref sig .tc sp' s' e} {hsrc : (ms.squeeze s' h).view.WordExact} {hdst : dm.view.WordExact}
    {hsem : DmaTarget.Typed (nD := nD) (p := (c : Thread nD τ).2) sp (.dma sm) (.here dm)}
    {k : PUnit → Prog (TpuEff nD τ sig (Elt F) Λ₀ .tc) α} {W : s.Idx → Elt F e}
    (hst : ∀ q, stP m ρ q t c = ownsTc c ms q W) (ho : (outS t c : sProp 𝕄) = some' c dm)
    (hd : outD m ρ t c = ownsTc c dm fullShare (re h.numel_eq W)) (hN : dm.view.amount (SemLoc.dma sm) = nO t) :
    iprop(stP m ρ fullShare t c ∗ outS t c ∗ cpy0 t c)
      ⊢ iprop(((stP m ρ fullShare.left t c ∗ flies m ρ t c) -∗ run c (k ⟨⟩) Q)
        -∗ run c (.op (.enqueueDma (ms.squeeze s' h) (.here dm) (.dma sm) hsrc hdst hsem) k) Q) := by
  subst hs
  unfold cpy0 flies
  rw [hst, hst, hst, ho, hd]
  unfold some'
  iintro ⟨Hs, ⟨%Y, Hd⟩, Hz⟩ Hk
  ihave Hs' := (owns_halves (c : Thread nD τ) ms fullShare W).1 $$ Hs
  icases Hs' with ⟨Hl, Hr⟩
  ihave Hr := (Entails.of_eq (owns_squeeze c ms h fullShare.right W).symm) $$ Hr
  iapply (cp c (nO t) hN (nO_pos t)) $$ [Hr Hd Hz]
  · isplitl [Hr]; · iexact Hr
    isplitl [Hd] <;> iassumption
  iintro HF
  iapply Hk
  isplitl [Hl]; · iexact Hl
  rw [owns_squeeze]; iexact HF

omit [FloatOps F] in
theorem mayWait_low (sm : SemLoc sig) (hb : lv ((c : Thread nD τ), sm) () = 0) (l : List (Fin 14)) :
    (levAts L lv : sProp 𝕄) ⊢ MayWait (c : Thread nD τ) sm () (debt c l) :=
  mayWait_debt c sm 0 hb.le l fun x _ => by split <;> decide

/-- Copy `t` is waited for: the piece of the result is there, the slot free. -/
theorem wtc (K : Dev nD × CIx → ℕ) (t : Fin 20) {sm : DmaSem sig} (hs : sm = cpyS t) {sp sp' sp'' : Space} {s s' s'' : Shape} {e e' e'' : EltTy} {srcw : Memref sig .tc sp' s' e'} {dstw : Memref sig .tc sp s e}
    {hsrc : srcw.view.WordExact} {hdst : dstw.view.WordExact} {k : PUnit → Prog (TpuEff nD τ sig (Elt F) Λ₀ .tc) α} (hN : dstw.view.dmaCredit = nO t)
    {ms : Memref sig .tc sp'' s'' e''} {W : s''.Idx → Elt F e''} (hst : ∀ q, stP m ρ q t c = ownsTc c ms q W) (l : List (Fin 14)) :
    iprop(ctx m ρ K ∗ flies m ρ t c ∗ stP m ρ fullShare.left t c ∗ Owe c (debt c l))
      ⊢ iprop(((outD m ρ t c ∗ cpy0 t c ∗ some' c ms ∗ Owe c (debt c l)) -∗ run c (k ⟨⟩) Q)
        -∗ run c (.op (.waitDma2 sm srcw dstw hsrc hdst) k) Q) := by
  unfold ctx flies cpy0
  rw [hst, hst]
  iintro ⟨⟨#HR, #HL⟩, HF, Hl, HO⟩ Hk
  ihave Hm := (mayWait_low c (.dma (cpyS t)) (lv_cpy c t) l) $$ HL
  iapply (wt c hs hN) $$ [HF HO Hm]
  · isplitl [HF]; · iexact HF
    isplitl [HO]; · iexact HO
    iexact Hm
  iintro ⟨⟨Ho, Hr⟩, Hz, HO⟩
  iapply Hk
  isplitl [Ho]; · iexact Ho
  isplitl [Hz]; · iexact Hz
  isplitl [Hl Hr]
  · iapply (some'_intro c ms W)
    iapply (owns_halves (c : Thread nD τ) ms fullShare W).2
    isplitl [Hl] <;> iassumption
  iexact HO

/-! ## Loads and stores, by what is held -/

/-- A load of a rectangle of a memref held as `P`. -/
theorem ldR {cs : CoreSpace} {s : Shape} {e : EltTy} {mr : Memref sig .tc cs s e} {r : Rect s} {hl : mr.view.LoadsAt r}
    {k : (r.shape.Idx → Elt F e) → Prog (TpuEff nD τ sig (Elt F) Λ₀ .tc) α} {q : PosShare TreeShare} {X : s.Idx → Elt F e}
    (P : sProp 𝕄) (V : r.shape.Idx → Elt F e) (hP : P = ownsTc c mr q X) (hV : (fun j => X (r.emb j)) = V) :
    P ⊢ iprop((P -∗ run c (k V) Q) -∗ run c (.op (.load mr r.toLoadRect hl) k) Q) := by
  subst hP; subst hV; exact ld c

/-- A load of a slice held as `P`. -/
theorem ldS {cs : CoreSpace} {s : Shape} {e : EltTy} {mr : Memref sig .tc cs s e} {r : Rect s} (hr : ∀ a, r.stride a = 1) {hl : mr.view.LoadsAt r}
    {k : (r.shape.Idx → Elt F e) → Prog (TpuEff nD τ sig (Elt F) Λ₀ .tc) α} {q : PosShare TreeShare}
    (P : sProp 𝕄) (V : r.shape.Idx → Elt F e) (hP : P = ownsTc c (mr.slice r hr) q V) :
    P ⊢ iprop((P -∗ run c (k V) Q) -∗ run c (.op (.load mr r.toLoadRect hl) k) Q) := by
  subst hP; exact lds c hr

/-- A load of a slice, what it reads being of no use, and a store over it. -/
theorem lst {cs : CoreSpace} {s : Shape} {e : EltTy} {mr : Memref sig .tc cs s e} {r : Rect s} (hr : ∀ a, r.stride a = 1) {hl : mr.view.LoadsAt r}
    {w : r.shape.Idx → Elt F e} {hx : (mr.access r).Stores Finset.univ} {hm : (Finset.univ : Finset r.shape.Idx) = Finset.univ ∨ ∀ a, r.stride a = 1}
    {k : PUnit → Prog (TpuEff nD τ sig (Elt F) Λ₀ .tc) α} (P : sProp 𝕄) (W : r.shape.Idx → Elt F e) (hw : w = W) (hP : (ownsTc c (mr.slice r hr) fullShare W : sProp 𝕄) ⊢ P) :
    (some' c (mr.slice r hr) : sProp 𝕄)
      ⊢ iprop((P -∗ run c (k ⟨⟩) Q) -∗ run c (.op (.load mr r.toLoadRect hl) fun _ => .op (.store mr r w Finset.univ hx hm) k) Q) := by
  subst hw
  unfold some'
  iintro ⟨%X, H⟩ Hk
  iapply (lds c hr) $$ H
  iintro H
  iapply (sts c hr) $$ H
  iintro H
  iapply Hk
  iapply hP; iexact H

/-! ## The transfers -/

/-- Transfer `x`, of a squeezed slice to a squeezed slice, is issued. -/
theorem sndq (K : Dev nD × CIx → ℕ) (x : Fin 14) {n : Dev nD} (hn : n = dst x c) {sp sp' : Space} {s s' : Shape} {e : EltTy} {ms : Memref sig .tc sp s e} {md : Memref sig .tc sp' s e} {h h' : s.Squeezes s'}
    {hsc : ((md.squeeze s' h' : Memref sig (Dev.tc n : Thread nD τ).2.kind sp' s' e)).view.ref.isScScratch = false} {sS sR : DmaSem sig} (hs : sS = sndS x) (hr : sR = rcvS x)
    {hsrc : (ms.squeeze s' h).view.WordExact} {hdst : (md.squeeze s' h').view.WordExact}
    {hsem : DmaTarget.Typed sp (.dma sR) (.remote (Dev.tc n : Thread nD τ) (md.squeeze s' h') (.dma sS) hsc)}
    {k : PUnit → Prog (TpuEff nD τ sig (Elt F) Λ₀ .tc) α} {q : PosShare TreeShare} (X : s.Idx → Elt F e) (l : List (Fin 14))
    (hN : (md.squeeze s' h').view.amount (SemLoc.dma sR) = nX x) (hp : sndPay m ρ x c = ownsTc c ms q X)
    (hl : (landPay x (dst x c) : sProp 𝕄) = some' (dst x c) md) (hrp : rcvPay m ρ x (dst x c) = ownsTc (dst x c) md fullShare X) :
    iprop(ctx m ρ K ∗ sndPay m ρ x c ∗ landPay x (dst x c) ∗ sendKit x c ∗ Owe c (debt c (x :: l)))
      ⊢ iprop(((sent x c ∗ Owe c (debt c l)) -∗ run c (k ⟨⟩) Q)
        -∗ run c (.op (.enqueueDma (ms.squeeze s' h) (.remote (Dev.tc n : Thread nD τ) (md.squeeze s' h') (.dma sS) hsc) (.dma sR) hsrc hdst hsem) k) Q) := by
  unfold ctx
  rw [hl]
  iintro ⟨⟨#HR, #HL⟩, Hs, Hd, Hk, HO⟩
  ihave Hs := (Entails.of_eq (hp.trans (owns_squeeze c ms h q X).symm)) $$ Hs
  ihave Hd := (some'_squeeze (dst x c) md h') $$ Hd
  ihave Hd := (show some' (dst x c) (md.squeeze s' h') ⊢ iprop(∃ Y, ownsTc (dst x c) (md.squeeze s' h') fullShare Y) from .rfl) $$ Hd
  icases Hd with ⟨%Y, Hd⟩
  iapply (snd m ρ K c x hn hs hr l hN (by rw [owns_squeeze, hp]) (by rw [owns_squeeze, hrp])) $$ [Hs Hd Hk HO]
  isplitr; · iexact HR
  isplitl [Hs]; · iexact Hs
  isplitl [Hd]; · iexact Hd
  isplitl [Hk] <;> iassumption

/-- Transfer `x`, of a squeezed slice to a whole buffer, is issued. -/
theorem sndw (K : Dev nD × CIx → ℕ) (x : Fin 14) {n : Dev nD} (hn : n = dst x c) {sp sp' : Space} {s s' : Shape} {e : EltTy} {ms : Memref sig .tc sp s e} {md : Memref sig .tc sp' s' e} {h : s.Squeezes s'}
    {hsc : ((md : Memref sig (Dev.tc n : Thread nD τ).2.kind sp' s' e)).view.ref.isScScratch = false} {sS sR : DmaSem sig} (hs : sS = sndS x) (hr : sR = rcvS x)
    {hsrc : (ms.squeeze s' h).view.WordExact} {hdst : md.view.WordExact}
    {hsem : DmaTarget.Typed sp (.dma sR) (.remote (Dev.tc n : Thread nD τ) md (.dma sS) hsc)}
    {k : PUnit → Prog (TpuEff nD τ sig (Elt F) Λ₀ .tc) α} {q : PosShare TreeShare} (X : s.Idx → Elt F e) (l : List (Fin 14))
    (hN : md.view.amount (SemLoc.dma sR) = nX x) (hp : sndPay m ρ x c = ownsTc c ms q X)
    (hl : (landPay x (dst x c) : sProp 𝕄) = some' (dst x c) md) (hrp : rcvPay m ρ x (dst x c) = ownsTc (dst x c) md fullShare (re h.numel_eq X)) :
    iprop(ctx m ρ K ∗ sndPay m ρ x c ∗ landPay x (dst x c) ∗ sendKit x c ∗ Owe c (debt c (x :: l)))
      ⊢ iprop(((sent x c ∗ Owe c (debt c l)) -∗ run c (k ⟨⟩) Q)
        -∗ run c (.op (.enqueueDma (ms.squeeze s' h) (.remote (Dev.tc n : Thread nD τ) md (.dma sS) hsc) (.dma sR) hsrc hdst hsem) k) Q) := by
  unfold ctx
  rw [hl]
  iintro ⟨⟨#HR, #HL⟩, Hs, Hd, Hk, HO⟩
  ihave Hs := (Entails.of_eq (hp.trans (owns_squeeze c ms h q X).symm)) $$ Hs
  ihave Hd := (show some' (dst x c) md ⊢ iprop(∃ Y, ownsTc (dst x c) md fullShare Y) from .rfl) $$ Hd
  icases Hd with ⟨%Y, Hd⟩
  iapply (snd m ρ K c x hn hs hr l hN (by rw [owns_squeeze, hp]) (by rw [hrp])) $$ [Hs Hd Hk HO]
  isplitr; · iexact HR
  isplitl [Hs]; · iexact Hs
  isplitl [Hd]; · iexact Hd
  isplitl [Hk] <;> iassumption

/-- Counters of a transfer's two cells, at zero. -/
def snd0 (x : Fin 14) (c : Dev nD) : sProp 𝕄 := semVal (sndC x c) 0
def rcv0 (x : Fin 14) (c : Dev nD) : sProp 𝕄 := semVal (rcvC x c) 0

/-- What arrives by transfer `x` is waited for. -/
theorem wtr (K : Dev nD × CIx → ℕ) (x : Fin 14) {sm : DmaSem sig} (hs : sm = rcvS x) {sp sp' : Space} {s s' : Shape} {e e' : EltTy} {srcw : Memref sig .tc sp' s' e'} {dstw : Memref sig .tc sp s e}
    {hsrc : srcw.view.WordExact} {hdst : dstw.view.WordExact} {k : PUnit → Prog (TpuEff nD τ sig (Elt F) Λ₀ .tc) α} (hN : dstw.view.dmaCredit = nX x)
    (l : List (Fin 14)) (hl : ∀ y ∈ l, (if x.val < 12 then 3 else 2) < if y.val < 12 then 3 else 2) :
    iprop(ctx m ρ K ∗ recvKit x c ∗ Owe c (debt c l))
      ⊢ iprop(((rcvPay m ρ x c ∗ rcv0 x c ∗ Owe c (debt c l)) -∗ run c (k ⟨⟩) Q)
        -∗ run c (.op (.waitDma2 sm srcw dstw hsrc hdst) k) Q) := by
  unfold ctx recvKit rcv0
  iintro ⟨⟨#HR, #HL⟩, HK, HO⟩
  ihave Hm := (mayWait_debt c (csem (some (true, x))) (if x.val < 12 then 3 else 2) (by rw [show ((c : Thread nD τ), csem (some (true, x))) = cell (c, some (true, x)) from rfl, lv_cell]; exact Nat.le_refl _) l hl) $$ HL
  iapply (wtx m ρ K c (true, x) (congrArg SemLoc.dma hs) hN (rest_rcv m ρ x c)) $$ [HK HO Hm]
  isplitr; · iexact HR
  isplitl [HK]; · iexact HK
  isplitl [HO] <;> iassumption

/-- The departure of transfer `x` is waited for. -/
theorem wts (K : Dev nD × CIx → ℕ) (x : Fin 14) {sm : DmaSem sig} (hs : sm = sndS x) {sp sp' : Space} {s s' : Shape} {e e' : EltTy} {srcw : Memref sig .tc sp' s' e'} {dstw : Memref sig .tc sp s e}
    {hsrc : srcw.view.WordExact} {hdst : dstw.view.WordExact} {k : PUnit → Prog (TpuEff nD τ sig (Elt F) Λ₀ .tc) α} (hN : dstw.view.dmaCredit = nX x)
    (l : List (Fin 14)) :
    iprop(ctx m ρ K ∗ sent x c ∗ Owe c (debt c l))
      ⊢ iprop(((sndPay m ρ x c ∗ snd0 x c ∗ Owe c (debt c l)) -∗ run c (k ⟨⟩) Q)
        -∗ run c (.op (.waitDma2 sm srcw dstw hsrc hdst) k) Q) := by
  unfold ctx sent snd0
  iintro ⟨⟨#HR, #HL⟩, HK, HO⟩
  ihave Hm := (mayWait_low c (csem (some (false, x))) (by rw [show ((c : Thread nD τ), csem (some (false, x))) = cell (c, some (false, x)) from rfl, lv_cell]; rfl) l) $$ HL
  iapply (wtx m ρ K c (false, x) (congrArg SemLoc.dma hs) hN (rest_snd m ρ x c)) $$ [HK HO Hm]
  isplitr; · iexact HR
  isplitl [HK]; · iexact HK
  isplitl [HO] <;> iassumption

end Steps

/-! ## A slot of the f32 buffers and its halves -/

abbrev slot0 (c : Dev nD) : sProp 𝕄 := some' c (stM.slice rSt0 st1)
abbrev slot1 (c : Dev nD) : sProp 𝕄 := some' c (stM.slice rSt1 st1)
abbrev slot0t (c : Dev nD) : sProp 𝕄 := some' c (stM.slice rSt0t st1)
abbrev slot1t (c : Dev nD) : sProp 𝕄 := some' c (stM.slice rSt1t st1)
abbrev slot0b (c : Dev nD) : sProp 𝕄 := some' c (stM.slice rSt0b st1)
abbrev slot1b (c : Dev nD) : sProp 𝕄 := some' c (stM.slice rSt1b st1)

end Cert.MatmulProof

end
-- ==== Proof.Buffers.lean ====
/-
# Buffers and their pieces

The kernel works with pieces of its buffers: slots of the scratch buffers, halves of slots, twenty pieces of the
result. This module states that a buffer owned in full is its pieces owned in full, both ways.
-/
module

public import proofs.«01_k».proof.Proof.Steps

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of rectangles -/

/-- Rectangles of unit stride, any two apart on some axis, are disjoint. -/
theorem apart {s : Shape} {T : Type} (r : T → Rect s) (hr : ∀ t a, (r t).stride a = 1)
    (h : ∀ t t', t ≠ t' → ∃ a, (r t).off a + (r t).size a ≤ (r t').off a ∨ (r t').off a + (r t').size a ≤ (r t).off a) :
    ∀ t t', t ≠ t' → Disjoint (r t).set (r t').set := by
  intro t t' htt
  obtain ⟨a, ha⟩ := h t t' htt
  refine Rect.disjoint_of_separated _ _ a ?_
  rw [hr, hr]; omega

theorem mem_unit {s : Shape} (r : Rect s) (hr : ∀ a, r.stride a = 1) (i : s.Idx) :
    i ∈ r.set ↔ ∀ a, r.off a ≤ i a ∧ (i a : ℕ) < r.off a + r.size a := by
  rw [LoadRect.mem_set]
  refine forall_congr' fun a => ?_
  rw [hr]
  exact ⟨fun ⟨j, hj, e⟩ => by omega, fun ⟨h1, h2⟩ => ⟨i a - r.off a, by omega, by omega⟩⟩

theorem covers {s : Shape} {T : Type} [Fintype T] (r : T → Rect s) (hr : ∀ t a, (r t).stride a = 1)
    (h : ∀ i : s.Idx, ∃ t, ∀ a, (r t).off a ≤ i a ∧ (i a : ℕ) < (r t).off a + (r t).size a) :
    (Finset.univ : Finset T).biUnion (fun t => (r t).set) = Finset.univ := by
  ext i
  refine ⟨fun _ => Finset.mem_univ _, fun _ => ?_⟩
  obtain ⟨t, ht⟩ := h i
  exact Finset.mem_biUnion.mpr ⟨t, Finset.mem_univ _, (mem_unit (r t) (hr t) i).mpr ht⟩

set_option backward.proofsInPublic true in
/-- A family of rectangles of a stack of pages, each all columns of rows in steps of 256, covers the stack if every
    page's every 256 rows are in one. -/
theorem covers_pages {p n w : ℕ} {T : Type} [Fintype T] (r : T → Rect ⟨3, ![p, 256 * n, w]⟩) (hr : ∀ t a, (r t).stride a = 1)
    (h : ∀ (i : Fin p) (k : Fin n), ∃ t, ((r t).off 0 ≤ i ∧ (i : ℕ) < (r t).off 0 + (r t).size 0)
      ∧ ((r t).off 1 ≤ 256 * k ∧ 256 * (k : ℕ) + 256 ≤ (r t).off 1 + (r t).size 1) ∧ (r t).off 2 = 0 ∧ (r t).size 2 = w) :
    (Finset.univ : Finset T).biUnion (fun t => (r t).set) = Finset.univ := by
  refine covers r hr fun i => ?_
  have h0 : (i 0 : ℕ) < p := (i 0).isLt
  have h1 : (i 1 : ℕ) < 256 * n := (i 1).isLt
  have h2 : (i 2 : ℕ) < w := (i 2).isLt
  obtain ⟨t, ha, hb, hc, hd⟩ := h ⟨i 0, h0⟩ ⟨i 1 / 256, by omega⟩
  refine ⟨t, fun a => ?_⟩
  fin_cases a
  · exact ha
  · dsimp only at hb
    exact ⟨by show (r t).off 1 ≤ (i 1 : ℕ); omega, by show (i 1 : ℕ) < (r t).off 1 + (r t).size 1; omega⟩
  · exact ⟨by show (r t).off 2 ≤ (i 2 : ℕ); omega, by show (i 2 : ℕ) < (r t).off 2 + (r t).size 2; omega⟩

section Split
variable (c : Dev nD) {sp : Space} {s : Shape} {e : EltTy} (mr : Memref sig .tc sp s e)

/-- A memref owned in full, at some contents, is each of its parts so owned. -/
theorem some'_rects {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    (some' c mr : sProp 𝕄) ⊣⊢ bigSep Finset.univ fun t => some' c (mr.slice (r t) (hr t)) := by
  constructor
  · refine (ownsSat_true (c : Thread nD τ) mr fullShare).2.trans ?_
    refine (ownsSat_mono (c : Thread nD τ) mr fullShare (Ψ := fun X => ∀ t, (fun _ => True) fun j => X ((r t).emb j)) fun X _ t => trivial).trans ?_
    refine (ownsSat_rects (c : Thread nD τ) mr fullShare r hr hd hcov fun _ _ => True).trans ?_
    exact bigSep_mono fun t _ => (ownsSat_true (c : Thread nD τ) (mr.slice (r t) (hr t)) fullShare).1
  · refine (bigSep_mono fun t _ => (ownsSat_true (c : Thread nD τ) (mr.slice (r t) (hr t)) fullShare).2).trans ?_
    refine (ownsSat_of_rects (c : Thread nD τ) mr fullShare r hr hd hcov fun _ _ => True).trans ?_
    exact ownsSat_any (c : Thread nD τ) mr fullShare

omit [FloatOps F] in
/-- Owning a memref at some contents is owning its elements in its buffer. -/
theorem some'_pts : (some' c mr : sProp 𝕄) ⊣⊢ iprop(∃ f, mr.view.loc (c : Thread nD τ) ↦[mr.view.set]{fullShare} f) := by
  unfold some' ownsTc owns
  constructor
  · iintro ⟨%X, %f, %h, H⟩
    iexists f; iexact H
  · iintro ⟨%f, H⟩
    iexists _; iexists f; isplitr; · ipureintro; rfl
    iexact H

omit [FloatOps F] in
/-- A slice is its two parts. -/
theorem some'_two {r r₁ r₂ : Rect s} (hr : ∀ a, r.stride a = 1) (h₁ : ∀ a, r₁.stride a = 1) (h₂ : ∀ a, r₂.stride a = 1)
    (h : r.set = r₁.set ∪ r₂.set) (hd : Disjoint r₁.set r₂.set) :
    (some' c (mr.slice r hr) : sProp 𝕄) ⊣⊢ iprop(some' c (mr.slice r₁ h₁) ∗ some' c (mr.slice r₂ h₂)) := by
  have hs : (mr.slice r hr).view.set = (mr.slice r₁ h₁).view.set ∪ (mr.slice r₂ h₂).view.set := by
    show (mr.view.slice r).set = (mr.view.slice r₁).set ∪ (mr.view.slice r₂).set
    rw [View.set_slice, View.set_slice, View.set_slice, h, Finset.map_union]
  have hdd : Disjoint (mr.slice r₁ h₁).view.set (mr.slice r₂ h₂).view.set := by
    show Disjoint (mr.view.slice r₁).set (mr.view.slice r₂).set
    rw [View.set_slice, View.set_slice]; exact (Finset.disjoint_map _).mpr hd
  constructor
  · refine (some'_pts c (mr.slice r hr)).1.trans ?_
    iintro ⟨%f, H⟩
    ihave H' := (show iprop((mr.slice r hr).view.loc (c : Thread nD τ) ↦[(mr.slice r hr).view.set]{fullShare} f)
        ⊢ iprop(mr.view.loc (c : Thread nD τ) ↦[(mr.slice r₁ h₁).view.set ∪ (mr.slice r₂ h₂).view.set]{fullShare} f) from Entails.of_eq (congrArg (fun S => (mr.view.loc (c : Thread nD τ) ↦[S]{fullShare} f : sProp 𝕄)) hs)) $$ H
    ihave H2 := (pointsTo_union hdd).1 $$ H'
    icases H2 with ⟨H1, H2⟩
    isplitl [H1]
    · iapply (some'_pts c (mr.slice r₁ h₁)).2; iexists f; iexact H1
    · iapply (some'_pts c (mr.slice r₂ h₂)).2; iexists f; iexact H2
  · iintro ⟨H1, H2⟩
    ihave H1 := (some'_pts c (mr.slice r₁ h₁)).1 $$ H1
    ihave H2 := (some'_pts c (mr.slice r₂ h₂)).1 $$ H2
    icases H1 with ⟨%f, H1⟩
    icases H2 with ⟨%g, H2⟩
    iapply (some'_pts c (mr.slice r hr)).2
    ihave H := (show iprop(((mr.slice r₁ h₁).view.loc (c : Thread nD τ) ↦[(mr.slice r₁ h₁).view.set]{fullShare} f) ∗ (mr.slice r₂ h₂).view.loc (c : Thread nD τ) ↦[(mr.slice r₂ h₂).view.set]{fullShare} g)
        ⊢ (mr.view.loc (c : Thread nD τ) ↦[(mr.slice r₁ h₁).view.set ∪ (mr.slice r₂ h₂).view.set]{fullShare} ((mr.slice r₂ h₂).view.set.piecewise g f) : sProp 𝕄) from pointsTo_join hdd) $$ [H1 H2]
    · isplitl [H1] <;> iassumption
    rw [← hs]
    iexists _; iexact H

end Split

/-- A unit rectangle of a page is two, one over the other. -/
theorem set_two {s : Shape} {r r₁ r₂ : Rect s} (hr : ∀ a, r.stride a = 1) (h₁ : ∀ a, r₁.stride a = 1) (h₂ : ∀ a, r₂.stride a = 1) (b : Fin s.rank)
    (h : ∀ a, a ≠ b → r.off a = r₁.off a ∧ r.off a = r₂.off a ∧ r.size a = r₁.size a ∧ r.size a = r₂.size a)
    (hb : r.off b = r₁.off b ∧ r₂.off b = r₁.off b + r₁.size b ∧ r.size b = r₁.size b + r₂.size b) : r.set = r₁.set ∪ r₂.set := by
  obtain ⟨e1, e2, e3⟩ := hb
  ext i
  rw [Finset.mem_union, mem_unit r hr, mem_unit r₁ h₁, mem_unit r₂ h₂]
  constructor
  · intro H
    have Hb := H b
    rcases Nat.lt_or_ge (i b : ℕ) (r₂.off b) with hlt | hge
    · left; intro a
      by_cases hab : a = b
      · subst hab; exact ⟨by omega, by omega⟩
      · obtain ⟨x1, x2, x3, x4⟩ := h a hab; have := H a; exact ⟨by omega, by omega⟩
    · right; intro a
      by_cases hab : a = b
      · subst hab; exact ⟨by omega, by omega⟩
      · obtain ⟨x1, x2, x3, x4⟩ := h a hab; have := H a; exact ⟨by omega, by omega⟩
  · rintro (H | H) a
    · have := H a
      by_cases hab : a = b
      · subst hab; exact ⟨by omega, by omega⟩
      · obtain ⟨x1, x2, x3, x4⟩ := h a hab; exact ⟨by omega, by omega⟩
    · have := H a
      by_cases hab : a = b
      · subst hab; exact ⟨by omega, by omega⟩
      · obtain ⟨x1, x2, x3, x4⟩ := h a hab; exact ⟨by omega, by omega⟩

omit [FloatOps F] in
theorem slot0_two (c : Dev nD) : (slot0 c : sProp 𝕄) ⊣⊢ iprop(slot0t c ∗ slot0b c) :=
  some'_two c stM st1 st1 st1 (set_two st1 st1 st1 1 (by decide) (by decide)) (Rect.unit_disjoint 1 (by decide))
omit [FloatOps F] in
theorem slot1_two (c : Dev nD) : (slot1 c : sProp 𝕄) ⊣⊢ iprop(slot1t c ∗ slot1b c) :=
  some'_two c stM st1 st1 st1 (set_two st1 st1 st1 1 (by decide) (by decide)) (Rect.unit_disjoint 1 (by decide))

/-! ## The scratch buffers -/

def csF (t : Fin 8) : Rect S6x512x2048 := match t with
  | 0 => rCs0
  | 1 => rCs1
  | 2 => rCs2
  | 3 => rCs3
  | 4 => rCs8
  | 5 => rCs9
  | 6 => rCs10
  | 7 => rCs11
def crF (t : Fin 12) : Rect S10x512x2048 := match t with
  | 0 => rCr0
  | 1 => rCr1
  | 2 => rCr2
  | 3 => rCr3
  | 4 => rCr4
  | 5 => rCr5
  | 6 => rCr6
  | 7 => rCr7
  | 8 => rCr8
  | 9 => rCr9
  | 10 => rCr10
  | 11 => rCr11
def asF (t : Fin 2) : Rect S2x512x1024 := match t with
  | 0 => rAs0
  | 1 => rAs1
def stF (t : Fin 2) : Rect S2x512x2048 := match t with
  | 0 => rSt0
  | 1 => rSt1
theorem csF_stride (t : Fin 8) : ∀ a, (csF t).stride a = 1 := by intro a; fin_cases t <;> rfl
theorem crF_stride (t : Fin 12) : ∀ a, (crF t).stride a = 1 := by intro a; fin_cases t <;> rfl
theorem asF_stride (t : Fin 2) : ∀ a, (asF t).stride a = 1 := by intro a; fin_cases t <;> rfl
theorem stF_stride (t : Fin 2) : ∀ a, (stF t).stride a = 1 := by intro a; fin_cases t <;> rfl

theorem csM_split (c : Dev nD) : (some' c csM : sProp 𝕄) ⊣⊢ iprop(some' c (csM.slice rCs0 st1) ∗ some' c (csM.slice rCs1 st1) ∗ some' c (csM.slice rCs2 st1) ∗ some' c (csM.slice rCs3 st1) ∗ some' c (csM.slice rCs8 st1) ∗ some' c (csM.slice rCs9 st1) ∗ some' c (csM.slice rCs10 st1) ∗ some' c (csM.slice rCs11 st1)) := by
  have e : (bigSep Finset.univ (fun t => some' c (csM.slice (csF t) (csF_stride t))) : sProp 𝕄)
      = iprop(some' c (csM.slice rCs0 st1) ∗ some' c (csM.slice rCs1 st1) ∗ some' c (csM.slice rCs2 st1) ∗ some' c (csM.slice rCs3 st1) ∗ some' c (csM.slice rCs8 st1) ∗ some' c (csM.slice rCs9 st1) ∗ some' c (csM.slice rCs10 st1) ∗ some' c (csM.slice rCs11 st1)) := by
    rw [bigSep_univ_eq_bigSepL [0, 1, 2, 3, 4, 5, 6, 7] (by decide) (by decide)]; rfl
  rw [← e]
  exact some'_rects c csM csF csF_stride (apart csF csF_stride (by decide +kernel)) (covers_pages (p := 6) (n := 2) (w := 2048) csF csF_stride (by decide +kernel))

theorem crM_split (c : Dev nD) : (some' c crM : sProp 𝕄) ⊣⊢ iprop(some' c (crM.slice rCr0 st1) ∗ some' c (crM.slice rCr1 st1) ∗ some' c (crM.slice rCr2 st1) ∗ some' c (crM.slice rCr3 st1) ∗ some' c (crM.slice rCr4 st1) ∗ some' c (crM.slice rCr5 st1) ∗ some' c (crM.slice rCr6 st1) ∗ some' c (crM.slice rCr7 st1) ∗ some' c (crM.slice rCr8 st1) ∗ some' c (crM.slice rCr9 st1) ∗ some' c (crM.slice rCr10 st1) ∗ some' c (crM.slice rCr11 st1)) := by
  have e : (bigSep Finset.univ (fun t => some' c (crM.slice (crF t) (crF_stride t))) : sProp 𝕄)
      = iprop(some' c (crM.slice rCr0 st1) ∗ some' c (crM.slice rCr1 st1) ∗ some' c (crM.slice rCr2 st1) ∗ some' c (crM.slice rCr3 st1) ∗ some' c (crM.slice rCr4 st1) ∗ some' c (crM.slice rCr5 st1) ∗ some' c (crM.slice rCr6 st1) ∗ some' c (crM.slice rCr7 st1) ∗ some' c (crM.slice rCr8 st1) ∗ some' c (crM.slice rCr9 st1) ∗ some' c (crM.slice rCr10 st1) ∗ some' c (crM.slice rCr11 st1)) := by
    rw [bigSep_univ_eq_bigSepL [0, 1, 2, 3, 4, 5, 6, 7, 8, 9, 10, 11] (by decide) (by decide)]; rfl
  rw [← e]
  exact some'_rects c crM crF crF_stride (apart crF crF_stride (by decide +kernel)) (covers_pages (p := 10) (n := 2) (w := 2048) crF crF_stride (by decide +kernel))

theorem asM_split (c : Dev nD) : (some' c asM : sProp 𝕄) ⊣⊢ iprop(some' c (asM.slice rAs0 st1) ∗ some' c (asM.slice rAs1 st1)) := by
  have e : (bigSep Finset.univ (fun t => some' c (asM.slice (asF t) (asF_stride t))) : sProp 𝕄)
      = iprop(some' c (asM.slice rAs0 st1) ∗ some' c (asM.slice rAs1 st1)) := by
    rw [bigSep_univ_eq_bigSepL [0, 1] (by decide) (by decide)]; rfl
  rw [← e]
  exact some'_rects c asM asF asF_stride (apart asF asF_stride (by decide +kernel)) (covers_pages (p := 2) (n := 2) (w := 1024) asF asF_stride (by decide +kernel))

theorem stM_split (c : Dev nD) : (some' c stM : sProp 𝕄) ⊣⊢ iprop(some' c (stM.slice rSt0 st1) ∗ some' c (stM.slice rSt1 st1)) := by
  have e : (bigSep Finset.univ (fun t => some' c (stM.slice (stF t) (stF_stride t))) : sProp 𝕄)
      = iprop(some' c (stM.slice rSt0 st1) ∗ some' c (stM.slice rSt1 st1)) := by
    rw [bigSep_univ_eq_bigSepL [0, 1] (by decide) (by decide)]; rfl
  rw [← e]
  exact some'_rects c stM stF stF_stride (apart stF stF_stride (by decide +kernel)) (covers_pages (p := 2) (n := 2) (w := 2048) stF stF_stride (by decide +kernel))

/-! ## The result

Piece `t` of device `c`'s result is `256 · oLen t` rows from row `256 · oAt c t`: of the four blocks of eight times 256
rows, the one `oDev t` devices on from `c`. -/

def oDev (t : Fin 20) : ℕ := ([0, 0, 0, 0, 3, 1, 3, 1, 1, 3, 1, 3, 2, 2, 1, 3, 2, 2, 2, 2] : List ℕ).getD t.val 0
def oIn (t : Fin 20) : ℕ := ([0, 2, 4, 6, 4, 6, 5, 7, 0, 0, 2, 2, 0, 2, 4, 6, 4, 6, 5, 7] : List ℕ).getD t.val 0
def oLen (t : Fin 20) : ℕ := ([2, 2, 2, 2, 1, 1, 1, 1, 2, 2, 2, 2, 2, 2, 2, 2, 1, 1, 1, 1] : List ℕ).getD t.val 0
def oAt (c : Dev nD) (t : Fin 20) : ℕ := (c.val + oDev t) % 4 * 8 + oIn t

theorem rO_at : ∀ (c : Dev nD) (t : Fin 20), (rO c t).off 0 = 256 * oAt c t ∧ (rO c t).size 0 = 256 * oLen t ∧ (rO c t).off 1 = 0 ∧ (rO c t).size 1 = 2048 := by
  decide +kernel

theorem rO_apart (c : Dev nD) : ∀ t t', t ≠ t' → Disjoint (rO c t).set (rO c t').set := by
  refine apart (rO c) (rO_stride c) fun t t' htt => ⟨0, ?_⟩
  obtain ⟨h1, h2, -, -⟩ := rO_at c t
  obtain ⟨h1', h2', -, -⟩ := rO_at c t'
  have h : ∀ (c : Dev nD) (t t' : Fin 20), t ≠ t' → oAt c t + oLen t ≤ oAt c t' ∨ oAt c t' + oLen t' ≤ oAt c t := by decide +kernel
  have := h c t t' htt
  omega

set_option backward.proofsInPublic true in
theorem rO_covers (c : Dev nD) : (Finset.univ : Finset (Fin 20)).biUnion (fun t => (rO c t).set) = Finset.univ := by
  refine covers (rO c) (rO_stride c) fun i => ?_
  have h0 : (i 0 : ℕ) < 8192 := (i 0).isLt
  have h1 : (i 1 : ℕ) < 2048 := (i 1).isLt
  have h : ∀ (c : Dev nD) (k : Fin 32), ∃ t, oAt c t ≤ k.val ∧ k.val < oAt c t + oLen t := by decide +kernel
  obtain ⟨t, ht⟩ := h c ⟨i 0 / 256, by omega⟩
  dsimp only at ht
  refine ⟨t, fun a => ?_⟩
  obtain ⟨e1, e2, e3, e4⟩ := rO_at c t
  fin_cases a
  · show (rO c t).off 0 ≤ (i 0 : ℕ) ∧ (i 0 : ℕ) < (rO c t).off 0 + (rO c t).size 0
    exact ⟨by omega, by omega⟩
  · show (rO c t).off 1 ≤ (i 1 : ℕ) ∧ (i 1 : ℕ) < (rO c t).off 1 + (rO c t).size 1
    exact ⟨by omega, by omega⟩

/-- The result before is its pieces before, -/
theorem oM_split (c : Dev nD) : (some' c oM : sProp 𝕄) ⊢ bigSep Finset.univ fun t => outS t c :=
  (some'_rects c oM (rO c) (rO_stride c) (rO_apart c) (rO_covers c)).1

/-- and the pieces after are the result, each part of it at what was left there. -/
def outOk (c : Dev nD) (X : S8192x2048.Idx → Elt F .f32) : Prop := ∀ t, (fun j => X ((rO c t).emb j)) = vO m ρ c t

theorem oM_join (c : Dev nD) : (bigSep Finset.univ fun t => outD m ρ t c) ⊢ ownsSat (c : Thread nD τ) oM fullShare (outOk m ρ c) := by
  refine (bigSep_mono fun t _ => ?_).trans (ownsSat_of_rects (c : Thread nD τ) oM fullShare (rO c) (rO_stride c) (rO_apart c) (rO_covers c) fun t Y => Y = vO m ρ c t)
  exact ownsSat_intro (c : Thread nD τ) (oM.slice (rO c t) (rO_stride c t)) fullShare rfl

end Cert.MatmulProof

end
-- ==== Proof.PartsOut.lean ====
/-
# The run, first half: multiplying and sending

The kernel is printed in parts. For each part up to the last transfer: from what it needs to what it leaves, the one
device `c` that runs it being any.
-/
module

public import proofs.«01_k».proof.Proof.Buffers

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The upper half of the first send slot. -/
abbrev rCs0t : Rect S6x512x2048 := Rect.unit (s := S6x512x2048) ![0, 0, 0] S1x256x2048.size inb_S6x512x2048_S1x256x2048_0_0_0

/-- A part of the kernel, on the buffers it is given. -/
abbrev onBufs {β : Type 1} (f : ∀ (arg0 : Memref sig .tc .vmem S2048x1024 .f32) (harg0 : arg0.IsWhole) (arg1 : Memref sig .tc .vmem S1024x2048 .f32) (harg1 : arg1.IsWhole) (arg2 : Memref sig .tc .hbm S8192x2048 .f32) (harg2 : arg2.IsWhole) (arg3 : Memref sig .tc .vmem S2x512x2048 .f32) (harg3 : arg3.IsWhole) (arg4 : Memref sig .tc .vmem S6x512x2048 .bf16) (harg4 : arg4.IsWhole) (arg5 : Memref sig .tc .vmem S2x512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S10x512x2048 .bf16) (harg8 : arg8.IsWhole) (arg9 : DmaSems sig S2) (arg10 : DmaSems sig S2) (arg11 : DmaSems sig S12) (arg12 : DmaSems sig S12) (arg13 : DmaSems sig S20), β) : β :=
  f aM (Memref.isWhole_whole _) bM (Memref.isWhole_whole _) oM (Memref.isWhole_whole _) stM (Memref.isWhole_whole _) csM (Memref.isWhole_whole _) asM (Memref.isWhole_whole _) lbM (Memref.isWhole_whole _) rbM (Memref.isWhole_whole _) crM (Memref.isWhole_whole _) cc0_scratch6 cc0_scratch7 cc0_scratch8 cc0_scratch9 cc0_scratch10

/-! What transfer `x` brings the device it lands on is what this device sent. -/

theorem rcvPay_0 (c : Dev nD) : (rcvPay m ρ 0 (dst 0 c) : sProp 𝕄) = ownsTc (dst 0 c) (crM.slice rCr0 st1) fullShare (u0 m ρ c) :=
  congrArg (fun e => (ownsTc (lf c) (crM.slice rCr0 st1) fullShare (u0 m ρ e) : sProp 𝕄)) (rt_lf c)

theorem rcvPay_1 (c : Dev nD) : (rcvPay m ρ 1 (dst 1 c) : sProp 𝕄) = ownsTc (dst 1 c) (crM.slice rCr1 st1) fullShare (u0 m ρ c) :=
  congrArg (fun e => (ownsTc (rt c) (crM.slice rCr1 st1) fullShare (u0 m ρ e) : sProp 𝕄)) (lf_rt c)

theorem rcvPay_2 (c : Dev nD) : (rcvPay m ρ 2 (dst 2 c) : sProp 𝕄) = ownsTc (dst 2 c) (crM.slice rCr2 st1) fullShare (u0 m ρ c) :=
  congrArg (fun e => (ownsTc (dg c) (crM.slice rCr2 st1) fullShare (u0 m ρ e) : sProp 𝕄)) (dg_dg c)

theorem rcvPay_3 (c : Dev nD) : (rcvPay m ρ 3 (dst 3 c) : sProp 𝕄) = ownsTc (dst 3 c) (crM.slice rCr3 st1) fullShare (u1 m ρ c) :=
  congrArg (fun e => (ownsTc (lf c) (crM.slice rCr3 st1) fullShare (u1 m ρ e) : sProp 𝕄)) (rt_lf c)

theorem rcvPay_4 (c : Dev nD) : (rcvPay m ρ 4 (dst 4 c) : sProp 𝕄) = ownsTc (dst 4 c) (crM.slice rCr4 st1) fullShare (u1 m ρ c) :=
  congrArg (fun e => (ownsTc (rt c) (crM.slice rCr4 st1) fullShare (u1 m ρ e) : sProp 𝕄)) (lf_rt c)

theorem rcvPay_5 (c : Dev nD) : (rcvPay m ρ 5 (dst 5 c) : sProp 𝕄) = ownsTc (dst 5 c) (crM.slice rCr5 st1) fullShare (u1 m ρ c) :=
  congrArg (fun e => (ownsTc (dg c) (crM.slice rCr5 st1) fullShare (u1 m ρ e) : sProp 𝕄)) (dg_dg c)

theorem rcvPay_6 (c : Dev nD) : (rcvPay m ρ 6 (dst 6 c) : sProp 𝕄) = ownsTc (dst 6 c) (crM.slice rCr6 st1) fullShare (u2 m ρ c) :=
  congrArg (fun e => (ownsTc (lf c) (crM.slice rCr6 st1) fullShare (u2 m ρ e) : sProp 𝕄)) (rt_lf c)

theorem rcvPay_7 (c : Dev nD) : (rcvPay m ρ 7 (dst 7 c) : sProp 𝕄) = ownsTc (dst 7 c) (crM.slice rCr7 st1) fullShare (u3 m ρ c) :=
  congrArg (fun e => (ownsTc (rt c) (crM.slice rCr7 st1) fullShare (u3 m ρ e) : sProp 𝕄)) (lf_rt c)

theorem rcvPay_8 (c : Dev nD) : (rcvPay m ρ 8 (dst 8 c) : sProp 𝕄) = ownsTc (dst 8 c) (crM.slice rCr8 st1) fullShare (u4 m ρ c) :=
  congrArg (fun e => (ownsTc (rt c) (crM.slice rCr8 st1) fullShare (u4 m ρ e) : sProp 𝕄)) (lf_rt c)

theorem rcvPay_9 (c : Dev nD) : (rcvPay m ρ 9 (dst 9 c) : sProp 𝕄) = ownsTc (dst 9 c) (crM.slice rCr9 st1) fullShare (u5 m ρ c) :=
  congrArg (fun e => (ownsTc (lf c) (crM.slice rCr9 st1) fullShare (u5 m ρ e) : sProp 𝕄)) (rt_lf c)

theorem rcvPay_10 (c : Dev nD) : (rcvPay m ρ 10 (dst 10 c) : sProp 𝕄) = ownsTc (dst 10 c) (crM.slice rCr10 st1) fullShare (u6 m ρ c) :=
  congrArg (fun e => (ownsTc (rt c) (crM.slice rCr10 st1) fullShare (u6 m ρ e) : sProp 𝕄)) (lf_rt c)

theorem rcvPay_11 (c : Dev nD) : (rcvPay m ρ 11 (dst 11 c) : sProp 𝕄) = ownsTc (dst 11 c) (crM.slice rCr11 st1) fullShare (u7 m ρ c) :=
  congrArg (fun e => (ownsTc (lf c) (crM.slice rCr11 st1) fullShare (u7 m ρ e) : sProp 𝕄)) (rt_lf c)

theorem rcvPay_12 (c : Dev nD) : (rcvPay m ρ 12 (dst 12 c) : sProp 𝕄) = ownsTc (dst 12 c) rbM fullShare (re squeezes_S1x512x1024_S512x1024.numel_eq (vAs0 m ρ c)) :=
  congrArg (fun e => (ownsTc (lf c) rbM fullShare (re squeezes_S1x512x1024_S512x1024.numel_eq (vAs0 m ρ e)) : sProp 𝕄)) (rt_lf c)

theorem rcvPay_13 (c : Dev nD) : (rcvPay m ρ 13 (dst 13 c) : sProp 𝕄) = ownsTc (dst 13 c) lbM fullShare (re squeezes_S1x512x1024_S512x1024.numel_eq (vAs1 m ρ c)) :=
  congrArg (fun e => (ownsTc (rt c) lbM fullShare (re squeezes_S1x512x1024_S512x1024.numel_eq (vAs1 m ρ e)) : sProp 𝕄)) (lf_rt c)

/-- A run that ends. -/
theorem fin (c : Dev nD) {α : Type} {Q : α → sProp (MT nD τ sig Unit (Elt F) ℕ UU ℕ)} (a : α) : Q a ⊢ run c (.ret a) Q := by
  unfold run; rw [wp_ret]; iintro H; imodintro; iexact H

/-! The credit of each copy. -/

theorem nO_0 (c : Dev nD) : (oM.slice (rO c 0) (rO_stride c 0)).view.dmaCredit = nO 0 := by
  unfold nO; rw [if_pos (by decide)]; rfl

theorem nO_1 (c : Dev nD) : (oM.slice (rO c 1) (rO_stride c 1)).view.dmaCredit = nO 1 := by
  unfold nO; rw [if_pos (by decide)]; rfl

theorem nO_2 (c : Dev nD) : (oM.slice (rO c 2) (rO_stride c 2)).view.dmaCredit = nO 2 := by
  unfold nO; rw [if_pos (by decide)]; rfl

theorem nO_3 (c : Dev nD) : (oM.slice (rO c 3) (rO_stride c 3)).view.dmaCredit = nO 3 := by
  unfold nO; rw [if_pos (by decide)]; rfl

theorem nO_5 (c : Dev nD) : (oM.slice (rO c 5) (rO_stride c 5)).view.dmaCredit = nO 5 := by
  unfold nO; rw [if_neg (by decide)]; rfl

theorem nO_6 (c : Dev nD) : (oM.slice (rO c 6) (rO_stride c 6)).view.dmaCredit = nO 6 := by
  unfold nO; rw [if_neg (by decide)]; rfl

theorem nO_7 (c : Dev nD) : (oM.slice (rO c 7) (rO_stride c 7)).view.dmaCredit = nO 7 := by
  unfold nO; rw [if_neg (by decide)]; rfl

theorem nO_8 (c : Dev nD) : (oM.slice (rO c 8) (rO_stride c 8)).view.dmaCredit = nO 8 := by
  unfold nO; rw [if_pos (by decide)]; rfl

theorem nO_9 (c : Dev nD) : (oM.slice (rO c 9) (rO_stride c 9)).view.dmaCredit = nO 9 := by
  unfold nO; rw [if_pos (by decide)]; rfl

theorem nO_10 (c : Dev nD) : (oM.slice (rO c 10) (rO_stride c 10)).view.dmaCredit = nO 10 := by
  unfold nO; rw [if_pos (by decide)]; rfl

theorem nO_11 (c : Dev nD) : (oM.slice (rO c 11) (rO_stride c 11)).view.dmaCredit = nO 11 := by
  unfold nO; rw [if_pos (by decide)]; rfl

theorem nO_12 (c : Dev nD) : (oM.slice (rO c 12) (rO_stride c 12)).view.dmaCredit = nO 12 := by
  unfold nO; rw [if_pos (by decide)]; rfl

theorem nO_13 (c : Dev nD) : (oM.slice (rO c 13) (rO_stride c 13)).view.dmaCredit = nO 13 := by
  unfold nO; rw [if_pos (by decide)]; rfl

theorem nO_14 (c : Dev nD) : (oM.slice (rO c 14) (rO_stride c 14)).view.dmaCredit = nO 14 := by
  unfold nO; rw [if_pos (by decide)]; rfl

theorem nO_15 (c : Dev nD) : (oM.slice (rO c 15) (rO_stride c 15)).view.dmaCredit = nO 15 := by
  unfold nO; rw [if_pos (by decide)]; rfl

theorem nO_16 (c : Dev nD) : (oM.slice (rO c 16) (rO_stride c 16)).view.dmaCredit = nO 16 := by
  unfold nO; rw [if_neg (by decide)]; rfl

theorem nO_17 (c : Dev nD) : (oM.slice (rO c 17) (rO_stride c 17)).view.dmaCredit = nO 17 := by
  unfold nO; rw [if_neg (by decide)]; rfl

theorem nO_18 (c : Dev nD) : (oM.slice (rO c 18) (rO_stride c 18)).view.dmaCredit = nO 18 := by
  unfold nO; rw [if_neg (by decide)]; rfl

theorem nO_19 (c : Dev nD) : (oM.slice (rO c 19) (rO_stride c 19)).view.dmaCredit = nO 19 := by
  unfold nO; rw [if_neg (by decide)]; rfl

theorem nO_4 (c : Dev nD) : (oM.slice (rO c 4) (rO_stride c 4)).view.dmaCredit = nO 4 :=
  (show (oM.slice (rO c 4) (rO_stride c 4)).view.dmaCredit = (oM.slice (rO c 5) (rO_stride c 5)).view.dmaCredit from rfl).trans (nO_5 c)

section
variable (K : Dev nD × CIx → ℕ) (c : Dev nD)

theorem part2 {Q : BitVec 32 → sProp (MT nD τ sig Unit (Elt F) ℕ UU ℕ)} (v14 : BitVec 32) (v25 : BitVec 32) (v28 : BitVec 32) (v29 : BitVec 32) (v34 : BitVec 1) :
    iprop(ctx m ρ K ∗ dutyTok ER (barC (lf c)) 0 0 ∗ barPay (lf c) 0 ∗ dutyTok ER (barC (rt c)) 0 1 ∗ barPay (rt c) 1 ∗ dutyTok ER (barC (dg c)) 0 2 ∗ barPay (dg c) 2 ∗ cred (tallyAt (barC c) () 3) ∗ atPos ER (barC c) 0 ∅ 0 ∗ Owe c (O₀ c) ∗ ownsTc c aM fullShare (xA m ρ c) ∗ some' c (asM.slice rAs0 st1) ∗ some' c (asM.slice rAs1 st1))
      ⊢ iprop((∀ r, (landPay 1 (dst 1 c) ∗ landPay 4 (dst 4 c) ∗ landPay 7 (dst 7 c) ∗ landPay 8 (dst 8 c) ∗ landPay 10 (dst 10 c) ∗ landPay 13 (dst 13 c) ∗ landPay 0 (dst 0 c) ∗ landPay 3 (dst 3 c) ∗ landPay 6 (dst 6 c) ∗ landPay 9 (dst 9 c) ∗ landPay 11 (dst 11 c) ∗ landPay 12 (dst 12 c) ∗ landPay 2 (dst 2 c) ∗ landPay 5 (dst 5 c) ∗ semVal (barC c) 0 ∗ Owe c (debt c [12, 13, 0, 1, 2, 3, 4, 5, 6, 7, 8, 9, 10, 11]) ∗ sndPay m ρ 12 c ∗ ownsTc c aM fullShare (xA m ρ c) ∗ sndPay m ρ 13 c) -∗ Q r) -∗ run c (onBufs (k0_part2 (F := F)) c v14 v25 v28 v29 v34) Q) := by
  unfold onBufs
  rw [k0_part2_eq_skeleton]; unfold k0_part2_skel
  simp only [semSignalWord, semWaitWord, Prog.lift, Prog.bind_op, Prog.bind_ret, Prog.pure_eq_ret, Prog.bind_assoc]
  iintro ⟨#Hc, Htl, Hpl, Htr, Hpr, Htd, Hpd, Hbc, Hba, HO, HA, Has0, Has1⟩ Hk
  ihave Hc' := (show ctx m ρ K ⊢ iprop(records m ρ K ∗ levAts L lv) from .rfl) $$ Hc
  icases Hc' with ⟨#HR, #HL⟩
  iapply (sig' m ρ K c (dev1_eq c) 0 (O₁ c) rfl) $$ [HO Htl Hpl]
  · isplitr; · iexact HR
    isplitl [HO]; · iexact HO
    isplitl [Htl] <;> iassumption
  iintro HO
  iapply (sig' m ρ K c (dev2_eq c) 1 (O₂ c) rfl) $$ [HO Htr Hpr]
  · isplitr; · iexact HR
    isplitl [HO]; · iexact HO
    isplitl [Htr] <;> iassumption
  iintro HO
  iapply (sig' m ρ K c (dev3_eq c) 2 (debt c sends) rfl) $$ [HO Htd Hpd]
  · isplitr; · iexact HR
    isplitl [HO]; · iexact HO
    isplitl [Htd] <;> iassumption
  iintro HO
  ihave Hm := (mayWait_debt c (.reg barS) 1 (by rw [show ((c : Thread nD τ), SemLoc.reg barS) = cell (c, none) from rfl, lv_cell]; exact Nat.le_refl _) sends (by decide)) $$ HL
  iapply (wtb m ρ K c) $$ [Hbc Hba HO Hm]
  · isplitr; · iexact HR
    isplitl [Hbc Hba]; · isplitl [Hbc] <;> iassumption
    isplitl [HO] <;> iassumption
  iintro ⟨⟨Hb0, Hb1, Hb2⟩, Hbz, HO⟩
  ihave Hb0 := (show barPay c 0 ⊢ iprop(landPay 1 (dst 1 c) ∗ landPay 4 (dst 4 c) ∗ landPay 7 (dst 7 c) ∗ landPay 8 (dst 8 c) ∗ landPay 10 (dst 10 c) ∗ landPay 13 (dst 13 c)) from .rfl) $$ Hb0
  icases Hb0 with ⟨Hland1, Hland4, Hland7, Hland8, Hland10, Hland13⟩
  ihave Hb1 := (show barPay c 1 ⊢ iprop(landPay 0 (dst 0 c) ∗ landPay 3 (dst 3 c) ∗ landPay 6 (dst 6 c) ∗ landPay 9 (dst 9 c) ∗ landPay 11 (dst 11 c) ∗ landPay 12 (dst 12 c)) from .rfl) $$ Hb1
  icases Hb1 with ⟨Hland0, Hland3, Hland6, Hland9, Hland11, Hland12⟩
  ihave Hb2 := (show barPay c 2 ⊢ iprop(landPay 2 (dst 2 c) ∗ landPay 5 (dst 5 c)) from .rfl) $$ Hb2
  icases Hb2 with ⟨Hland2, Hland5⟩
  iapply (ldR (mr := aM) (r := rA3) (q := fullShare) (X := xA m ρ c) c (ownsTc c aM fullShare (xA m ρ c)) (vA3 m ρ c) rfl rfl) $$ HA
  iintro HA
  iapply (lst (mr := asM) (r := rAs0) c st1 (sndPay m ρ 12 c) (vAs0 m ρ c) rfl .rfl) $$ Has0
  iintro Hsp12
  iapply (ldR (mr := aM) (r := rA2) (q := fullShare) (X := xA m ρ c) c (ownsTc c aM fullShare (xA m ρ c)) (vA2 m ρ c) rfl rfl) $$ HA
  iintro HA
  iapply (lst (mr := asM) (r := rAs1) c st1 (sndPay m ρ 13 c) (vAs1 m ρ c) rfl .rfl) $$ Has1
  iintro Hsp13
  iapply (fin c)
  iapply Hk
  isplitl [Hland1]; · iexact Hland1
  isplitl [Hland4]; · iexact Hland4
  isplitl [Hland7]; · iexact Hland7
  isplitl [Hland8]; · iexact Hland8
  isplitl [Hland10]; · iexact Hland10
  isplitl [Hland13]; · iexact Hland13
  isplitl [Hland0]; · iexact Hland0
  isplitl [Hland3]; · iexact Hland3
  isplitl [Hland6]; · iexact Hland6
  isplitl [Hland9]; · iexact Hland9
  isplitl [Hland11]; · iexact Hland11
  isplitl [Hland12]; · iexact Hland12
  isplitl [Hland2]; · iexact Hland2
  isplitl [Hland5]; · iexact Hland5
  isplitl [Hbz]; · iexact Hbz
  isplitl [HO]; · iexact HO
  isplitl [Hsp12]; · iexact Hsp12
  isplitl [HA]; · iexact HA
  iexact Hsp13

theorem part3 {Q : FVec F S512x2048 .bf16 → sProp (MT nD τ sig Unit (Elt F) ℕ UU ℕ)} (v2 : BitVec 32) (v25 : BitVec 32) :
    iprop(ctx m ρ K ∗ sndPay m ρ 12 c ∗ landPay 12 (dst 12 c) ∗ sendKit 12 c ∗ Owe c (debt c [12, 13, 0, 1, 2, 3, 4, 5, 6, 7, 8, 9, 10, 11]) ∗ sndPay m ρ 13 c ∗ landPay 13 (dst 13 c) ∗ sendKit 13 c ∗ ownsTc c aM fullShare (xA m ρ c) ∗ ownsTc c bM fullShare (xB m ρ c) ∗ slot0 c ∗ outS 0 c ∗ cpy0 0 c)
      ⊢ iprop(((sent 12 c ∗ sent 13 c ∗ Owe c (debt c [0, 1, 2, 3, 4, 5, 6, 7, 8, 9, 10, 11]) ∗ ownsTc c aM fullShare (xA m ρ c) ∗ ownsTc c bM fullShare (xB m ρ c) ∗ flies m ρ 0 c ∗ stP m ρ fullShare.left 0 c) -∗ Q (k0_pay4 (w0 m ρ c))) -∗ run c (onBufs (k0_part3 (F := F)) c v2 v25) Q) := by
  unfold onBufs
  rw [k0_part3_eq_skeleton]; unfold k0_part3_skel
  simp only [semSignalWord, semWaitWord, Prog.lift, Prog.bind_op, Prog.bind_ret, Prog.pure_eq_ret, Prog.bind_assoc]
  iintro ⟨#Hc, Hsp12, Hland12, Hkit12, HO, Hsp13, Hland13, Hkit13, HA, HB, Hslot0, HoutS0, Hz0⟩ Hk
  iapply (sndw (ms := asM.slice rAs0 st1) (h := squeezes_S1x512x1024_S512x1024) (md := rbM) (q := fullShare) m ρ c K 12 (dev4_eq c) rfl rfl (vAs0 m ρ c) [13, 0, 1, 2, 3, 4, 5, 6, 7, 8, 9, 10, 11] rfl rfl rfl (rcvPay_12 m ρ c)) $$ [Hsp12 Hland12 Hkit12 HO]
  · isplitr; · iexact Hc
    isplitl [Hsp12]; · iexact Hsp12
    isplitl [Hland12]; · iexact Hland12
    isplitl [Hkit12]; · iexact Hkit12
    iexact HO
  iintro ⟨Hsent12, HO⟩
  iapply (sndw (ms := asM.slice rAs1 st1) (h := squeezes_S1x512x1024_S512x1024) (md := lbM) (q := fullShare) m ρ c K 13 (dev5_eq c) rfl rfl (vAs1 m ρ c) [0, 1, 2, 3, 4, 5, 6, 7, 8, 9, 10, 11] rfl rfl rfl (rcvPay_13 m ρ c)) $$ [Hsp13 Hland13 Hkit13 HO]
  · isplitr; · iexact Hc
    isplitl [Hsp13]; · iexact Hsp13
    isplitl [Hland13]; · iexact Hland13
    isplitl [Hkit13]; · iexact Hkit13
    iexact HO
  iintro ⟨Hsent13, HO⟩
  iapply (ldR (mr := aM) (r := rA0) (q := fullShare) (X := xA m ρ c) c (ownsTc c aM fullShare (xA m ρ c)) (vA0 m ρ c) rfl rfl) $$ HA
  iintro HA
  iapply (ldR (mr := bM) (r := rB) (q := fullShare) (X := xB m ρ c) c (ownsTc c bM fullShare (xB m ρ c)) (vB m ρ c) rfl rfl) $$ HB
  iintro HB
  iapply (lst (mr := stM) (r := rSt0) c st1 (stP m ρ fullShare 0 c) (w0 m ρ c) rfl .rfl) $$ Hslot0
  iintro HstF0
  iapply (cpo (ms := stM.slice rSt0 st1) (h := squeezes_S1x512x2048_S512x2048) (dm := oM.slice (rO c 0) (rO_stride c 0)) (W := w0 m ρ c) m ρ c 0 rfl (fun _ => rfl) rfl rfl (nO_0 c)) $$ [HstF0 HoutS0 Hz0]
  · isplitl [HstF0]; · iexact HstF0
    isplitl [HoutS0]; · iexact HoutS0
    iexact Hz0
  iintro ⟨HstL0, Hfl0⟩
  iapply (ldS (mr := stM) (r := rSt0) (q := fullShare.left) c st1 (stP m ρ fullShare.left 0 c) (w0 m ρ c) rfl) $$ HstL0
  iintro HstL0
  iapply (fin c)
  iapply Hk
  isplitl [Hsent12]; · iexact Hsent12
  isplitl [Hsent13]; · iexact Hsent13
  isplitl [HO]; · iexact HO
  isplitl [HA]; · iexact HA
  isplitl [HB]; · iexact HB
  isplitl [Hfl0]; · iexact Hfl0
  iexact HstL0

theorem part4 {Q : PUnit → sProp (MT nD τ sig Unit (Elt F) ℕ UU ℕ)} (v14 : BitVec 32) (v25 : BitVec 32) (v36 : BitVec 32) :
    iprop(ctx m ρ K ∗ some' c (csM.slice rCs0 st1) ∗ landPay 0 (dst 0 c) ∗ sendKit 0 c ∗ Owe c (debt c [0, 1, 2, 3, 4, 5, 6, 7, 8, 9, 10, 11]) ∗ landPay 1 (dst 1 c) ∗ sendKit 1 c)
      ⊢ iprop(((sndPay m ρ 2 c ∗ sent 0 c ∗ sent 1 c ∗ Owe c (debt c [2, 3, 4, 5, 6, 7, 8, 9, 10, 11])) -∗ Q ⟨⟩) -∗ run c (onBufs (k0_part4 (F := F)) c v14 v25 v36 (k0_pay4 (w0 m ρ c))) Q) := by
  unfold onBufs
  rw [k0_part4_eq_skeleton]; unfold k0_part4_skel
  simp only [semSignalWord, semWaitWord, Prog.lift, Prog.bind_op, Prog.bind_ret, Prog.pure_eq_ret, Prog.bind_assoc]
  iintro ⟨#Hc, Hcs0, Hland0, Hkit0, HO, Hland1, Hkit1⟩ Hk
  iapply (lst (mr := csM) (r := rCs0) c st1 iprop(sndPay m ρ 0 c ∗ sndPay m ρ 1 c ∗ sndPay m ρ 2 c) (u0 m ρ c) rfl (owns_third c (csM.slice rCs0 st1) (u0 m ρ c)).1) $$ Hcs0
  iintro ⟨Hsp0, Hsp1, Hsp2⟩
  iapply (sndq (ms := csM.slice rCs0 st1) (h := squeezes_S1x512x2048_S512x2048) (md := crM.slice rCr0 st1) (h' := squeezes_S1x512x2048_S512x2048) (q := fullShare.left) m ρ c K 0 (dev6_eq c) rfl rfl (u0 m ρ c) [1, 2, 3, 4, 5, 6, 7, 8, 9, 10, 11] rfl rfl rfl (rcvPay_0 m ρ c)) $$ [Hsp0 Hland0 Hkit0 HO]
  · isplitr; · iexact Hc
    isplitl [Hsp0]; · iexact Hsp0
    isplitl [Hland0]; · iexact Hland0
    isplitl [Hkit0]; · iexact Hkit0
    iexact HO
  iintro ⟨Hsent0, HO⟩
  iapply (sndq (ms := csM.slice rCs0 st1) (h := squeezes_S1x512x2048_S512x2048) (md := crM.slice rCr1 st1) (h' := squeezes_S1x512x2048_S512x2048) (q := fullShare.right.left) m ρ c K 1 (dev7_eq c) rfl rfl (u0 m ρ c) [2, 3, 4, 5, 6, 7, 8, 9, 10, 11] rfl rfl rfl (rcvPay_1 m ρ c)) $$ [Hsp1 Hland1 Hkit1 HO]
  · isplitr; · iexact Hc
    isplitl [Hsp1]; · iexact Hsp1
    isplitl [Hland1]; · iexact Hland1
    isplitl [Hkit1]; · iexact Hkit1
    iexact HO
  iintro ⟨Hsent1, HO⟩
  iapply (fin c)
  iapply Hk
  isplitl [Hsp2]; · iexact Hsp2
  isplitl [Hsent0]; · iexact Hsent0
  isplitl [Hsent1]; · iexact Hsent1
  iexact HO

theorem part5 {Q : (Σ' (v144 : BitVec 32), BitVec 32) → sProp (MT nD τ sig Unit (Elt F) ℕ UU ℕ)} (v2 : BitVec 32) (v14 : BitVec 32) :
    iprop(ctx m ρ K ∗ sndPay m ρ 2 c ∗ landPay 2 (dst 2 c) ∗ sendKit 2 c ∗ Owe c (debt c [2, 3, 4, 5, 6, 7, 8, 9, 10, 11]) ∗ ownsTc c aM fullShare (xA m ρ c) ∗ ownsTc c bM fullShare (xB m ρ c) ∗ slot1 c ∗ outS 1 c ∗ cpy0 1 c ∗ some' c (csM.slice rCs1 st1))
      ⊢ iprop((∀ r, (sent 2 c ∗ Owe c (debt c [3, 4, 5, 6, 7, 8, 9, 10, 11]) ∗ ownsTc c aM fullShare (xA m ρ c) ∗ ownsTc c bM fullShare (xB m ρ c) ∗ flies m ρ 1 c ∗ stP m ρ fullShare.left 1 c ∗ sndPay m ρ 3 c ∗ sndPay m ρ 4 c ∗ sndPay m ρ 5 c) -∗ Q r) -∗ run c (onBufs (k0_part5 (F := F)) c v2 v14) Q) := by
  unfold onBufs
  rw [k0_part5_eq_skeleton]; unfold k0_part5_skel
  simp only [semSignalWord, semWaitWord, Prog.lift, Prog.bind_op, Prog.bind_ret, Prog.pure_eq_ret, Prog.bind_assoc]
  iintro ⟨#Hc, Hsp2, Hland2, Hkit2, HO, HA, HB, Hslot1, HoutS1, Hz1, Hcs1⟩ Hk
  iapply (sndq (ms := csM.slice rCs0 st1) (h := squeezes_S1x512x2048_S512x2048) (md := crM.slice rCr2 st1) (h' := squeezes_S1x512x2048_S512x2048) (q := fullShare.right.right) m ρ c K 2 (dev8_eq c) rfl rfl (u0 m ρ c) [3, 4, 5, 6, 7, 8, 9, 10, 11] rfl rfl rfl (rcvPay_2 m ρ c)) $$ [Hsp2 Hland2 Hkit2 HO]
  · isplitr; · iexact Hc
    isplitl [Hsp2]; · iexact Hsp2
    isplitl [Hland2]; · iexact Hland2
    isplitl [Hkit2]; · iexact Hkit2
    iexact HO
  iintro ⟨Hsent2, HO⟩
  iapply (ldR (mr := aM) (r := rA1) (q := fullShare) (X := xA m ρ c) c (ownsTc c aM fullShare (xA m ρ c)) (vA1 m ρ c) rfl rfl) $$ HA
  iintro HA
  iapply (ldR (mr := bM) (r := rB) (q := fullShare) (X := xB m ρ c) c (ownsTc c bM fullShare (xB m ρ c)) (vB m ρ c) rfl rfl) $$ HB
  iintro HB
  iapply (lst (mr := stM) (r := rSt1) c st1 (stP m ρ fullShare 1 c) (w1 m ρ c) rfl .rfl) $$ Hslot1
  iintro HstF1
  iapply (cpo (ms := stM.slice rSt1 st1) (h := squeezes_S1x512x2048_S512x2048) (dm := oM.slice (rO c 1) (rO_stride c 1)) (W := w1 m ρ c) m ρ c 1 rfl (fun _ => rfl) rfl rfl (nO_1 c)) $$ [HstF1 HoutS1 Hz1]
  · isplitl [HstF1]; · iexact HstF1
    isplitl [HoutS1]; · iexact HoutS1
    iexact Hz1
  iintro ⟨HstL1, Hfl1⟩
  iapply (ldS (mr := stM) (r := rSt1) (q := fullShare.left) c st1 (stP m ρ fullShare.left 1 c) (w1 m ρ c) rfl) $$ HstL1
  iintro HstL1
  iapply (lst (mr := csM) (r := rCs1) c st1 iprop(sndPay m ρ 3 c ∗ sndPay m ρ 4 c ∗ sndPay m ρ 5 c) (u1 m ρ c) rfl (owns_third c (csM.slice rCs1 st1) (u1 m ρ c)).1) $$ Hcs1
  iintro ⟨Hsp3, Hsp4, Hsp5⟩
  iapply (fin c)
  iapply Hk
  isplitl [Hsent2]; · iexact Hsent2
  isplitl [HO]; · iexact HO
  isplitl [HA]; · iexact HA
  isplitl [HB]; · iexact HB
  isplitl [Hfl1]; · iexact Hfl1
  isplitl [HstL1]; · iexact HstL1
  isplitl [Hsp3]; · iexact Hsp3
  isplitl [Hsp4]; · iexact Hsp4
  iexact Hsp5

theorem part6 {Q : FVec F S512x1024 .f32 → sProp (MT nD τ sig Unit (Elt F) ℕ UU ℕ)} (v25 : BitVec 32) (v36 : BitVec 32) (v144 : BitVec 32) (z0 : BitVec 32) :
    iprop(ctx m ρ K ∗ sndPay m ρ 3 c ∗ landPay 3 (dst 3 c) ∗ sendKit 3 c ∗ Owe c (debt c [3, 4, 5, 6, 7, 8, 9, 10, 11]) ∗ sndPay m ρ 4 c ∗ landPay 4 (dst 4 c) ∗ sendKit 4 c ∗ sndPay m ρ 5 c ∗ landPay 5 (dst 5 c) ∗ sendKit 5 c ∗ ownsTc c aM fullShare (xA m ρ c))
      ⊢ iprop(((sent 3 c ∗ sent 4 c ∗ sent 5 c ∗ Owe c (debt c [6, 7, 8, 9, 10, 11]) ∗ ownsTc c aM fullShare (xA m ρ c)) -∗ Q (k0_pay8 (vA2 m ρ c))) -∗ run c (onBufs (k0_part6 (F := F)) c v25 v36 v144 z0) Q) := by
  unfold onBufs
  rw [k0_part6_eq_skeleton]; unfold k0_part6_skel
  simp only [semSignalWord, semWaitWord, Prog.lift, Prog.bind_op, Prog.bind_ret, Prog.pure_eq_ret, Prog.bind_assoc]
  iintro ⟨#Hc, Hsp3, Hland3, Hkit3, HO, Hsp4, Hland4, Hkit4, Hsp5, Hland5, Hkit5, HA⟩ Hk
  iapply (sndq (ms := csM.slice rCs1 st1) (h := squeezes_S1x512x2048_S512x2048) (md := crM.slice rCr3 st1) (h' := squeezes_S1x512x2048_S512x2048) (q := fullShare.left) m ρ c K 3 (dev9_eq c) rfl rfl (u1 m ρ c) [4, 5, 6, 7, 8, 9, 10, 11] rfl rfl rfl (rcvPay_3 m ρ c)) $$ [Hsp3 Hland3 Hkit3 HO]
  · isplitr; · iexact Hc
    isplitl [Hsp3]; · iexact Hsp3
    isplitl [Hland3]; · iexact Hland3
    isplitl [Hkit3]; · iexact Hkit3
    iexact HO
  iintro ⟨Hsent3, HO⟩
  iapply (sndq (ms := csM.slice rCs1 st1) (h := squeezes_S1x512x2048_S512x2048) (md := crM.slice rCr4 st1) (h' := squeezes_S1x512x2048_S512x2048) (q := fullShare.right.left) m ρ c K 4 (dev10_eq c) rfl rfl (u1 m ρ c) [5, 6, 7, 8, 9, 10, 11] rfl rfl rfl (rcvPay_4 m ρ c)) $$ [Hsp4 Hland4 Hkit4 HO]
  · isplitr; · iexact Hc
    isplitl [Hsp4]; · iexact Hsp4
    isplitl [Hland4]; · iexact Hland4
    isplitl [Hkit4]; · iexact Hkit4
    iexact HO
  iintro ⟨Hsent4, HO⟩
  iapply (sndq (ms := csM.slice rCs1 st1) (h := squeezes_S1x512x2048_S512x2048) (md := crM.slice rCr5 st1) (h' := squeezes_S1x512x2048_S512x2048) (q := fullShare.right.right) m ρ c K 5 (dev11_eq c) rfl rfl (u1 m ρ c) [6, 7, 8, 9, 10, 11] rfl rfl rfl (rcvPay_5 m ρ c)) $$ [Hsp5 Hland5 Hkit5 HO]
  · isplitr; · iexact Hc
    isplitl [Hsp5]; · iexact Hsp5
    isplitl [Hland5]; · iexact Hland5
    isplitl [Hkit5]; · iexact Hkit5
    iexact HO
  iintro ⟨Hsent5, HO⟩
  iapply (ldR (mr := aM) (r := rA2) (q := fullShare) (X := xA m ρ c) c (ownsTc c aM fullShare (xA m ρ c)) (vA2 m ρ c) rfl rfl) $$ HA
  iintro HA
  iapply (fin c)
  iapply Hk
  isplitl [Hsent3]; · iexact Hsent3
  isplitl [Hsent4]; · iexact Hsent4
  isplitl [Hsent5]; · iexact Hsent5
  isplitl [HO]; · iexact HO
  iexact HA

theorem part7 {Q : PUnit → sProp (MT nD τ sig Unit (Elt F) ℕ UU ℕ)} (v2 : BitVec 32) (v14 : BitVec 32) :
    iprop(ctx m ρ K ∗ flies m ρ 0 c ∗ stP m ρ fullShare.left 0 c ∗ Owe c (debt c [6, 7, 8, 9, 10, 11]) ∗ ownsTc c bM fullShare (xB m ρ c) ∗ outS 2 c ∗ cpy0 2 c ∗ some' c (csM.slice rCs2 st1))
      ⊢ iprop(((outD m ρ 0 c ∗ cpy0 0 c ∗ Owe c (debt c [6, 7, 8, 9, 10, 11]) ∗ ownsTc c bM fullShare (xB m ρ c) ∗ flies m ρ 2 c ∗ stP m ρ fullShare.left 2 c ∗ sndPay m ρ 6 c) -∗ Q ⟨⟩) -∗ run c (onBufs (k0_part7 (F := F)) c v2 v14 (k0_pay8 (vA2 m ρ c))) Q) := by
  unfold onBufs
  rw [k0_part7_eq_skeleton]; unfold k0_part7_skel
  simp only [semSignalWord, semWaitWord, Prog.lift, Prog.bind_op, Prog.bind_ret, Prog.pure_eq_ret, Prog.bind_assoc]
  iintro ⟨#Hc, Hfl0, HstL0, HO, HB, HoutS2, Hz2, Hcs2⟩ Hk
  iapply (wtc (dstw := oM.slice (rO c 0) (rO_stride c 0)) (ms := stM.slice rSt0 st1) (W := w0 m ρ c) m ρ c K 0 rfl (nO_0 c) (fun _ => rfl) [6, 7, 8, 9, 10, 11]) $$ [Hfl0 HstL0 HO]
  · isplitr; · iexact Hc
    isplitl [Hfl0]; · iexact Hfl0
    isplitl [HstL0]; · iexact HstL0
    iexact HO
  iintro ⟨HoutD0, Hz0, Hslot0, HO⟩
  iapply (ldR (mr := bM) (r := rB) (q := fullShare) (X := xB m ρ c) c (ownsTc c bM fullShare (xB m ρ c)) (vB m ρ c) rfl rfl) $$ HB
  iintro HB
  iapply (lst (mr := stM) (r := rSt0) c st1 (stP m ρ fullShare 2 c) (w2 m ρ c) rfl .rfl) $$ Hslot0
  iintro HstF2
  iapply (cpo (ms := stM.slice rSt0 st1) (h := squeezes_S1x512x2048_S512x2048) (dm := oM.slice (rO c 2) (rO_stride c 2)) (W := w2 m ρ c) m ρ c 2 rfl (fun _ => rfl) rfl rfl (nO_2 c)) $$ [HstF2 HoutS2 Hz2]
  · isplitl [HstF2]; · iexact HstF2
    isplitl [HoutS2]; · iexact HoutS2
    iexact Hz2
  iintro ⟨HstL2, Hfl2⟩
  iapply (ldS (mr := stM) (r := rSt0) (q := fullShare.left) c st1 (stP m ρ fullShare.left 2 c) (w2 m ρ c) rfl) $$ HstL2
  iintro HstL2
  iapply (lst (mr := csM) (r := rCs2) c st1 (sndPay m ρ 6 c) (u2 m ρ c) rfl .rfl) $$ Hcs2
  iintro Hsp6
  iapply (fin c)
  iapply Hk
  isplitl [HoutD0]; · iexact HoutD0
  isplitl [Hz0]; · iexact Hz0
  isplitl [HO]; · iexact HO
  isplitl [HB]; · iexact HB
  isplitl [Hfl2]; · iexact Hfl2
  isplitl [HstL2]; · iexact HstL2
  iexact Hsp6

theorem part8 {Q : Vec F S1x512x2048 .f32 → sProp (MT nD τ sig Unit (Elt F) ℕ UU ℕ)} (v2 : BitVec 32) :
    iprop(ctx m ρ K ∗ sndPay m ρ 6 c ∗ landPay 6 (dst 6 c) ∗ sendKit 6 c ∗ Owe c (debt c [6, 7, 8, 9, 10, 11]) ∗ ownsTc c aM fullShare (xA m ρ c) ∗ flies m ρ 1 c ∗ stP m ρ fullShare.left 1 c ∗ ownsTc c bM fullShare (xB m ρ c) ∗ outS 3 c ∗ cpy0 3 c)
      ⊢ iprop(((sent 6 c ∗ ownsTc c aM fullShare (xA m ρ c) ∗ outD m ρ 1 c ∗ cpy0 1 c ∗ Owe c (debt c [7, 8, 9, 10, 11]) ∗ ownsTc c bM fullShare (xB m ρ c) ∗ flies m ρ 3 c ∗ stP m ρ fullShare.left 3 c) -∗ Q (w3 m ρ c)) -∗ run c (onBufs (k0_part8 (F := F)) c v2) Q) := by
  unfold onBufs
  rw [k0_part8_eq_skeleton]; unfold k0_part8_skel
  simp only [semSignalWord, semWaitWord, Prog.lift, Prog.bind_op, Prog.bind_ret, Prog.pure_eq_ret, Prog.bind_assoc]
  iintro ⟨#Hc, Hsp6, Hland6, Hkit6, HO, HA, Hfl1, HstL1, HB, HoutS3, Hz3⟩ Hk
  iapply (sndq (ms := csM.slice rCs2 st1) (h := squeezes_S1x512x2048_S512x2048) (md := crM.slice rCr6 st1) (h' := squeezes_S1x512x2048_S512x2048) (q := fullShare) m ρ c K 6 (dev12_eq c) rfl rfl (u2 m ρ c) [7, 8, 9, 10, 11] rfl rfl rfl (rcvPay_6 m ρ c)) $$ [Hsp6 Hland6 Hkit6 HO]
  · isplitr; · iexact Hc
    isplitl [Hsp6]; · iexact Hsp6
    isplitl [Hland6]; · iexact Hland6
    isplitl [Hkit6]; · iexact Hkit6
    iexact HO
  iintro ⟨Hsent6, HO⟩
  iapply (ldR (mr := aM) (r := rA3) (q := fullShare) (X := xA m ρ c) c (ownsTc c aM fullShare (xA m ρ c)) (vA3 m ρ c) rfl rfl) $$ HA
  iintro HA
  iapply (wtc (dstw := oM.slice (rO c 1) (rO_stride c 1)) (ms := stM.slice rSt1 st1) (W := w1 m ρ c) m ρ c K 1 rfl (nO_1 c) (fun _ => rfl) [7, 8, 9, 10, 11]) $$ [Hfl1 HstL1 HO]
  · isplitr; · iexact Hc
    isplitl [Hfl1]; · iexact Hfl1
    isplitl [HstL1]; · iexact HstL1
    iexact HO
  iintro ⟨HoutD1, Hz1, Hslot1, HO⟩
  iapply (ldR (mr := bM) (r := rB) (q := fullShare) (X := xB m ρ c) c (ownsTc c bM fullShare (xB m ρ c)) (vB m ρ c) rfl rfl) $$ HB
  iintro HB
  iapply (lst (mr := stM) (r := rSt1) c st1 (stP m ρ fullShare 3 c) (w3 m ρ c) rfl .rfl) $$ Hslot1
  iintro HstF3
  iapply (cpo (ms := stM.slice rSt1 st1) (h := squeezes_S1x512x2048_S512x2048) (dm := oM.slice (rO c 3) (rO_stride c 3)) (W := w3 m ρ c) m ρ c 3 rfl (fun _ => rfl) rfl rfl (nO_3 c)) $$ [HstF3 HoutS3 Hz3]
  · isplitl [HstF3]; · iexact HstF3
    isplitl [HoutS3]; · iexact HoutS3
    iexact Hz3
  iintro ⟨HstL3, Hfl3⟩
  iapply (ldS (mr := stM) (r := rSt1) (q := fullShare.left) c st1 (stP m ρ fullShare.left 3 c) (w3 m ρ c) rfl) $$ HstL3
  iintro HstL3
  iapply (fin c)
  iapply Hk
  isplitl [Hsent6]; · iexact Hsent6
  isplitl [HA]; · iexact HA
  isplitl [HoutD1]; · iexact HoutD1
  isplitl [Hz1]; · iexact Hz1
  isplitl [HO]; · iexact HO
  isplitl [HB]; · iexact HB
  isplitl [Hfl3]; · iexact Hfl3
  iexact HstL3

theorem part9 {Q : BitVec 32 → sProp (MT nD τ sig Unit (Elt F) ℕ UU ℕ)} (v14 : BitVec 32) (v25 : BitVec 32) :
    iprop(ctx m ρ K ∗ some' c (csM.slice rCs3 st1) ∗ landPay 7 (dst 7 c) ∗ sendKit 7 c ∗ Owe c (debt c [7, 8, 9, 10, 11]) ∗ recvKit 13 c ∗ recvKit 12 c)
      ⊢ iprop((∀ r, (sent 7 c ∗ rcvPay m ρ 13 c ∗ rcv0 13 c ∗ rcvPay m ρ 12 c ∗ rcv0 12 c ∗ Owe c (debt c [8, 9, 10, 11])) -∗ Q r) -∗ run c (onBufs (k0_part9 (F := F)) c v14 v25 (w3 m ρ c)) Q) := by
  unfold onBufs
  rw [k0_part9_eq_skeleton]; unfold k0_part9_skel
  simp only [semSignalWord, semWaitWord, Prog.lift, Prog.bind_op, Prog.bind_ret, Prog.pure_eq_ret, Prog.bind_assoc]
  iintro ⟨#Hc, Hcs3, Hland7, Hkit7, HO, Hrk13, Hrk12⟩ Hk
  iapply (lst (mr := csM) (r := rCs3) c st1 (sndPay m ρ 7 c) (u3 m ρ c) rfl .rfl) $$ Hcs3
  iintro Hsp7
  iapply (sndq (ms := csM.slice rCs3 st1) (h := squeezes_S1x512x2048_S512x2048) (md := crM.slice rCr7 st1) (h' := squeezes_S1x512x2048_S512x2048) (q := fullShare) m ρ c K 7 (dev13_eq c) rfl rfl (u3 m ρ c) [8, 9, 10, 11] rfl rfl rfl (rcvPay_7 m ρ c)) $$ [Hsp7 Hland7 Hkit7 HO]
  · isplitr; · iexact Hc
    isplitl [Hsp7]; · iexact Hsp7
    isplitl [Hland7]; · iexact Hland7
    isplitl [Hkit7]; · iexact Hkit7
    iexact HO
  iintro ⟨Hsent7, HO⟩
  iapply (wtr (dstw := lbM) m ρ c K 13 rfl rfl [8, 9, 10, 11] (by decide)) $$ [Hrk13 HO]
  · isplitr; · iexact Hc
    isplitl [Hrk13]; · iexact Hrk13
    iexact HO
  iintro ⟨Hrp13, Hrcv013, HO⟩
  iapply (wtr (dstw := rbM) m ρ c K 12 rfl rfl [8, 9, 10, 11] (by decide)) $$ [Hrk12 HO]
  · isplitr; · iexact Hc
    isplitl [Hrk12]; · iexact Hrk12
    iexact HO
  iintro ⟨Hrp12, Hrcv012, HO⟩
  iapply (fin c)
  iapply Hk
  isplitl [Hsent7]; · iexact Hsent7
  isplitl [Hrp13]; · iexact Hrp13
  isplitl [Hrcv013]; · iexact Hrcv013
  isplitl [Hrp12]; · iexact Hrp12
  isplitl [Hrcv012]; · iexact Hrcv012
  iexact HO

theorem part10 {Q : (Σ' (v259 : BitVec 32), BitVec 32) → sProp (MT nD τ sig Unit (Elt F) ℕ UU ℕ)} (v25 : BitVec 32) (v258 : BitVec 32) :
    iprop(ctx m ρ K ∗ flies m ρ 2 c ∗ stP m ρ fullShare.left 2 c ∗ Owe c (debt c [8, 9, 10, 11]) ∗ rcvPay m ρ 13 c ∗ ownsTc c bM fullShare (xB m ρ c) ∗ outS 4 c ∗ cpy0 4 c ∗ some' c (csM.slice rCs8 st1))
      ⊢ iprop((∀ r, (outD m ρ 2 c ∗ cpy0 2 c ∗ Owe c (debt c [8, 9, 10, 11]) ∗ slot0b c ∗ rcvPay m ρ 13 c ∗ ownsTc c bM fullShare (xB m ρ c) ∗ flies m ρ 4 c ∗ stP m ρ fullShare.left 4 c ∗ sndPay m ρ 8 c) -∗ Q r) -∗ run c (onBufs (k0_part10 (F := F)) c v25 v258) Q) := by
  unfold onBufs
  rw [k0_part10_eq_skeleton]; unfold k0_part10_skel
  simp only [semSignalWord, semWaitWord, Prog.lift, Prog.bind_op, Prog.bind_ret, Prog.pure_eq_ret, Prog.bind_assoc]
  iintro ⟨#Hc, Hfl2, HstL2, HO, Hrp13, HB, HoutS4, Hz4, Hcs8⟩ Hk
  iapply (wtc (dstw := oM.slice (rO c 2) (rO_stride c 2)) (ms := stM.slice rSt0 st1) (W := w2 m ρ c) m ρ c K 2 rfl (nO_2 c) (fun _ => rfl) [8, 9, 10, 11]) $$ [Hfl2 HstL2 HO]
  · isplitr; · iexact Hc
    isplitl [Hfl2]; · iexact Hfl2
    isplitl [HstL2]; · iexact HstL2
    iexact HO
  iintro ⟨HoutD2, Hz2, Hslot0, HO⟩
  ihave H := (slot0_two c).1 $$ Hslot0
  icases H with ⟨Hslot0t, Hslot0b⟩
  iapply (ldR (mr := lbM) (r := rLt) (q := fullShare) (X := vLb m ρ c) c (rcvPay m ρ 13 c) (vLt m ρ c) rfl rfl) $$ Hrp13
  iintro Hrp13
  iapply (ldR (mr := bM) (r := rB) (q := fullShare) (X := xB m ρ c) c (ownsTc c bM fullShare (xB m ρ c)) (vB m ρ c) rfl rfl) $$ HB
  iintro HB
  iapply (lst (mr := stM) (r := rSt0t) c st1 (stP m ρ fullShare 4 c) (w4 m ρ c) rfl .rfl) $$ Hslot0t
  iintro HstF4
  iapply (cpo (ms := stM.slice rSt0t st1) (h := squeezes_S1x256x2048_S256x2048) (dm := oM.slice (rO c 4) (rO_stride c 4)) (W := w4 m ρ c) m ρ c 4 rfl (fun _ => rfl) rfl rfl (nO_4 c)) $$ [HstF4 HoutS4 Hz4]
  · isplitl [HstF4]; · iexact HstF4
    isplitl [HoutS4]; · iexact HoutS4
    iexact Hz4
  iintro ⟨HstL4, Hfl4⟩
  iapply (ldS (mr := stM) (r := rSt0t) (q := fullShare.left) c st1 (stP m ρ fullShare.left 4 c) (w4 m ρ c) rfl) $$ HstL4
  iintro HstL4
  iapply (lst (mr := csM) (r := rCs8) c st1 (sndPay m ρ 8 c) (u4 m ρ c) rfl .rfl) $$ Hcs8
  iintro Hsp8
  iapply (fin c)
  iapply Hk
  isplitl [HoutD2]; · iexact HoutD2
  isplitl [Hz2]; · iexact Hz2
  isplitl [HO]; · iexact HO
  isplitl [Hslot0b]; · iexact Hslot0b
  isplitl [Hrp13]; · iexact Hrp13
  isplitl [HB]; · iexact HB
  isplitl [Hfl4]; · iexact Hfl4
  isplitl [HstL4]; · iexact HstL4
  iexact Hsp8

theorem part11 {Q : PUnit → sProp (MT nD τ sig Unit (Elt F) ℕ UU ℕ)} (v25 : BitVec 32) (v261 : BitVec 32) :
    iprop(ctx m ρ K ∗ sndPay m ρ 8 c ∗ landPay 8 (dst 8 c) ∗ sendKit 8 c ∗ Owe c (debt c [8, 9, 10, 11]) ∗ flies m ρ 3 c ∗ stP m ρ fullShare.left 3 c ∗ rcvPay m ρ 12 c ∗ ownsTc c bM fullShare (xB m ρ c))
      ⊢ iprop(((sent 8 c ∗ outD m ρ 3 c ∗ cpy0 3 c ∗ Owe c (debt c [9, 10, 11]) ∗ slot1b c ∗ rcvPay m ρ 12 c ∗ ownsTc c bM fullShare (xB m ρ c) ∗ stP m ρ fullShare 5 c) -∗ Q ⟨⟩) -∗ run c (onBufs (k0_part11 (F := F)) c v25 v261) Q) := by
  unfold onBufs
  rw [k0_part11_eq_skeleton]; unfold k0_part11_skel
  simp only [semSignalWord, semWaitWord, Prog.lift, Prog.bind_op, Prog.bind_ret, Prog.pure_eq_ret, Prog.bind_assoc]
  iintro ⟨#Hc, Hsp8, Hland8, Hkit8, HO, Hfl3, HstL3, Hrp12, HB⟩ Hk
  iapply (sndq (ms := csM.slice rCs8 st1) (h := squeezes_S1x256x2048_S256x2048) (md := crM.slice rCr8 st1) (h' := squeezes_S1x256x2048_S256x2048) (q := fullShare) m ρ c K 8 (dev14_eq c) rfl rfl (u4 m ρ c) [9, 10, 11] rfl rfl rfl (rcvPay_8 m ρ c)) $$ [Hsp8 Hland8 Hkit8 HO]
  · isplitr; · iexact Hc
    isplitl [Hsp8]; · iexact Hsp8
    isplitl [Hland8]; · iexact Hland8
    isplitl [Hkit8]; · iexact Hkit8
    iexact HO
  iintro ⟨Hsent8, HO⟩
  iapply (wtc (dstw := oM.slice (rO c 3) (rO_stride c 3)) (ms := stM.slice rSt1 st1) (W := w3 m ρ c) m ρ c K 3 rfl (nO_3 c) (fun _ => rfl) [9, 10, 11]) $$ [Hfl3 HstL3 HO]
  · isplitr; · iexact Hc
    isplitl [Hfl3]; · iexact Hfl3
    isplitl [HstL3]; · iexact HstL3
    iexact HO
  iintro ⟨HoutD3, Hz3, Hslot1, HO⟩
  ihave H := (slot1_two c).1 $$ Hslot1
  icases H with ⟨Hslot1t, Hslot1b⟩
  iapply (ldR (mr := rbM) (r := rLt) (q := fullShare) (X := vRb m ρ c) c (rcvPay m ρ 12 c) (vRt m ρ c) rfl rfl) $$ Hrp12
  iintro Hrp12
  iapply (ldR (mr := bM) (r := rB) (q := fullShare) (X := xB m ρ c) c (ownsTc c bM fullShare (xB m ρ c)) (vB m ρ c) rfl rfl) $$ HB
  iintro HB
  iapply (lst (mr := stM) (r := rSt1t) c st1 (stP m ρ fullShare 5 c) (w5 m ρ c) rfl .rfl) $$ Hslot1t
  iintro HstF5
  iapply (fin c)
  iapply Hk
  isplitl [Hsent8]; · iexact Hsent8
  isplitl [HoutD3]; · iexact HoutD3
  isplitl [Hz3]; · iexact Hz3
  isplitl [HO]; · iexact HO
  isplitl [Hslot1b]; · iexact Hslot1b
  isplitl [Hrp12]; · iexact Hrp12
  isplitl [HB]; · iexact HB
  iexact HstF5

theorem part12 {Q : FVec F S256x2048 .f32 → sProp (MT nD τ sig Unit (Elt F) ℕ UU ℕ)} (v14 : BitVec 32) :
    iprop(ctx m ρ K ∗ stP m ρ fullShare 5 c ∗ outS 5 c ∗ cpy0 5 c ∗ some' c (csM.slice rCs9 st1) ∗ landPay 9 (dst 9 c) ∗ sendKit 9 c ∗ Owe c (debt c [9, 10, 11]) ∗ flies m ρ 4 c ∗ stP m ρ fullShare.left 4 c ∗ rcvPay m ρ 13 c ∗ ownsTc c bM fullShare (xB m ρ c))
      ⊢ iprop(((flies m ρ 5 c ∗ stP m ρ fullShare.left 5 c ∗ sent 9 c ∗ outD m ρ 4 c ∗ cpy0 4 c ∗ slot0t c ∗ Owe c (debt c [10, 11]) ∗ rcvPay m ρ 13 c ∗ ownsTc c bM fullShare (xB m ρ c)) -∗ Q (k0_pay17 (vLl m ρ c) (vB m ρ c))) -∗ run c (onBufs (k0_part12 (F := F)) c v14) Q) := by
  unfold onBufs
  rw [k0_part12_eq_skeleton]; unfold k0_part12_skel
  simp only [semSignalWord, semWaitWord, Prog.lift, Prog.bind_op, Prog.bind_ret, Prog.pure_eq_ret, Prog.bind_assoc]
  iintro ⟨#Hc, HstF5, HoutS5, Hz5, Hcs9, Hland9, Hkit9, HO, Hfl4, HstL4, Hrp13, HB⟩ Hk
  iapply (cpo (ms := stM.slice rSt1t st1) (h := squeezes_S1x256x2048_S256x2048) (dm := oM.slice (rO c 5) (rO_stride c 5)) (W := w5 m ρ c) m ρ c 5 rfl (fun _ => rfl) rfl rfl (nO_5 c)) $$ [HstF5 HoutS5 Hz5]
  · isplitl [HstF5]; · iexact HstF5
    isplitl [HoutS5]; · iexact HoutS5
    iexact Hz5
  iintro ⟨HstL5, Hfl5⟩
  iapply (ldS (mr := stM) (r := rSt1t) (q := fullShare.left) c st1 (stP m ρ fullShare.left 5 c) (w5 m ρ c) rfl) $$ HstL5
  iintro HstL5
  iapply (lst (mr := csM) (r := rCs9) c st1 (sndPay m ρ 9 c) (u5 m ρ c) rfl .rfl) $$ Hcs9
  iintro Hsp9
  iapply (sndq (ms := csM.slice rCs9 st1) (h := squeezes_S1x256x2048_S256x2048) (md := crM.slice rCr9 st1) (h' := squeezes_S1x256x2048_S256x2048) (q := fullShare) m ρ c K 9 (dev15_eq c) rfl rfl (u5 m ρ c) [10, 11] rfl rfl rfl (rcvPay_9 m ρ c)) $$ [Hsp9 Hland9 Hkit9 HO]
  · isplitr; · iexact Hc
    isplitl [Hsp9]; · iexact Hsp9
    isplitl [Hland9]; · iexact Hland9
    isplitl [Hkit9]; · iexact Hkit9
    iexact HO
  iintro ⟨Hsent9, HO⟩
  iapply (wtc (dstw := oM.slice (rO c 4) (rO_stride c 4)) (ms := stM.slice rSt0t st1) (W := w4 m ρ c) m ρ c K 4 rfl (nO_4 c) (fun _ => rfl) [10, 11]) $$ [Hfl4 HstL4 HO]
  · isplitr; · iexact Hc
    isplitl [Hfl4]; · iexact Hfl4
    isplitl [HstL4]; · iexact HstL4
    iexact HO
  iintro ⟨HoutD4, Hz4, Hslot0t, HO⟩
  iapply (ldR (mr := lbM) (r := rLb) (q := fullShare) (X := vLb m ρ c) c (rcvPay m ρ 13 c) (vLl m ρ c) rfl rfl) $$ Hrp13
  iintro Hrp13
  iapply (ldR (mr := bM) (r := rB) (q := fullShare) (X := xB m ρ c) c (ownsTc c bM fullShare (xB m ρ c)) (vB m ρ c) rfl rfl) $$ HB
  iintro HB
  iapply (fin c)
  iapply Hk
  isplitl [Hfl5]; · iexact Hfl5
  isplitl [HstL5]; · iexact HstL5
  isplitl [Hsent9]; · iexact Hsent9
  isplitl [HoutD4]; · iexact HoutD4
  isplitl [Hz4]; · iexact Hz4
  isplitl [Hslot0t]; · iexact Hslot0t
  isplitl [HO]; · iexact HO
  isplitl [Hrp13]; · iexact Hrp13
  iexact HB

theorem part13 {Q : PUnit → sProp (MT nD τ sig Unit (Elt F) ℕ UU ℕ)} (v25 : BitVec 32) (v259 : BitVec 32) :
    iprop(ctx m ρ K ∗ slot0t c ∗ outS 6 c ∗ cpy0 6 c ∗ some' c (csM.slice rCs10 st1) ∗ landPay 10 (dst 10 c) ∗ sendKit 10 c ∗ Owe c (debt c [10, 11]))
      ⊢ iprop(((flies m ρ 6 c ∗ stP m ρ fullShare.left 6 c ∗ sent 10 c ∗ Owe c (debt c [11])) -∗ Q ⟨⟩) -∗ run c (onBufs (k0_part13 (F := F)) c v25 v259 (k0_pay17 (vLl m ρ c) (vB m ρ c))) Q) := by
  unfold onBufs
  rw [k0_part13_eq_skeleton]; unfold k0_part13_skel
  simp only [semSignalWord, semWaitWord, Prog.lift, Prog.bind_op, Prog.bind_ret, Prog.pure_eq_ret, Prog.bind_assoc]
  iintro ⟨#Hc, Hslot0t, HoutS6, Hz6, Hcs10, Hland10, Hkit10, HO⟩ Hk
  iapply (lst (mr := stM) (r := rSt0t) c st1 (stP m ρ fullShare 6 c) (w6 m ρ c) rfl .rfl) $$ Hslot0t
  iintro HstF6
  iapply (cpo (ms := stM.slice rSt0t st1) (h := squeezes_S1x256x2048_S256x2048) (dm := oM.slice (rO c 6) (rO_stride c 6)) (W := w6 m ρ c) m ρ c 6 rfl (fun _ => rfl) rfl rfl (nO_6 c)) $$ [HstF6 HoutS6 Hz6]
  · isplitl [HstF6]; · iexact HstF6
    isplitl [HoutS6]; · iexact HoutS6
    iexact Hz6
  iintro ⟨HstL6, Hfl6⟩
  iapply (ldS (mr := stM) (r := rSt0t) (q := fullShare.left) c st1 (stP m ρ fullShare.left 6 c) (w6 m ρ c) rfl) $$ HstL6
  iintro HstL6
  iapply (lst (mr := csM) (r := rCs10) c st1 (sndPay m ρ 10 c) (u6 m ρ c) rfl .rfl) $$ Hcs10
  iintro Hsp10
  iapply (sndq (ms := csM.slice rCs10 st1) (h := squeezes_S1x256x2048_S256x2048) (md := crM.slice rCr10 st1) (h' := squeezes_S1x256x2048_S256x2048) (q := fullShare) m ρ c K 10 (dev16_eq c) rfl rfl (u6 m ρ c) [11] rfl rfl rfl (rcvPay_10 m ρ c)) $$ [Hsp10 Hland10 Hkit10 HO]
  · isplitr; · iexact Hc
    isplitl [Hsp10]; · iexact Hsp10
    isplitl [Hland10]; · iexact Hland10
    isplitl [Hkit10]; · iexact Hkit10
    iexact HO
  iintro ⟨Hsent10, HO⟩
  iapply (fin c)
  iapply Hk
  isplitl [Hfl6]; · iexact Hfl6
  isplitl [HstL6]; · iexact HstL6
  isplitl [Hsent10]; · iexact Hsent10
  iexact HO

theorem part14 {Q : PUnit → sProp (MT nD τ sig Unit (Elt F) ℕ UU ℕ)} (v14 : BitVec 32) (v261 : BitVec 32) :
    iprop(ctx m ρ K ∗ flies m ρ 5 c ∗ stP m ρ fullShare.left 5 c ∗ Owe c (debt c [11]) ∗ rcvPay m ρ 12 c ∗ ownsTc c bM fullShare (xB m ρ c) ∗ outS 7 c ∗ cpy0 7 c ∗ some' c (csM.slice rCs11 st1))
      ⊢ iprop(((outD m ρ 5 c ∗ cpy0 5 c ∗ Owe c (debt c [11]) ∗ rcvPay m ρ 12 c ∗ ownsTc c bM fullShare (xB m ρ c) ∗ flies m ρ 7 c ∗ stP m ρ fullShare.left 7 c ∗ sndPay m ρ 11 c) -∗ Q ⟨⟩) -∗ run c (onBufs (k0_part14 (F := F)) c v14 v261) Q) := by
  unfold onBufs
  rw [k0_part14_eq_skeleton]; unfold k0_part14_skel
  simp only [semSignalWord, semWaitWord, Prog.lift, Prog.bind_op, Prog.bind_ret, Prog.pure_eq_ret, Prog.bind_assoc]
  iintro ⟨#Hc, Hfl5, HstL5, HO, Hrp12, HB, HoutS7, Hz7, Hcs11⟩ Hk
  iapply (wtc (dstw := oM.slice (rO c 5) (rO_stride c 5)) (ms := stM.slice rSt1t st1) (W := w5 m ρ c) m ρ c K 5 rfl (nO_5 c) (fun _ => rfl) [11]) $$ [Hfl5 HstL5 HO]
  · isplitr; · iexact Hc
    isplitl [Hfl5]; · iexact Hfl5
    isplitl [HstL5]; · iexact HstL5
    iexact HO
  iintro ⟨HoutD5, Hz5, Hslot1t, HO⟩
  iapply (ldR (mr := rbM) (r := rLb) (q := fullShare) (X := vRb m ρ c) c (rcvPay m ρ 12 c) (vRl m ρ c) rfl rfl) $$ Hrp12
  iintro Hrp12
  iapply (ldR (mr := bM) (r := rB) (q := fullShare) (X := xB m ρ c) c (ownsTc c bM fullShare (xB m ρ c)) (vB m ρ c) rfl rfl) $$ HB
  iintro HB
  iapply (lst (mr := stM) (r := rSt1t) c st1 (stP m ρ fullShare 7 c) (w7 m ρ c) rfl .rfl) $$ Hslot1t
  iintro HstF7
  iapply (cpo (ms := stM.slice rSt1t st1) (h := squeezes_S1x256x2048_S256x2048) (dm := oM.slice (rO c 7) (rO_stride c 7)) (W := w7 m ρ c) m ρ c 7 rfl (fun _ => rfl) rfl rfl (nO_7 c)) $$ [HstF7 HoutS7 Hz7]
  · isplitl [HstF7]; · iexact HstF7
    isplitl [HoutS7]; · iexact HoutS7
    iexact Hz7
  iintro ⟨HstL7, Hfl7⟩
  iapply (ldS (mr := stM) (r := rSt1t) (q := fullShare.left) c st1 (stP m ρ fullShare.left 7 c) (w7 m ρ c) rfl) $$ HstL7
  iintro HstL7
  iapply (lst (mr := csM) (r := rCs11) c st1 (sndPay m ρ 11 c) (u7 m ρ c) rfl .rfl) $$ Hcs11
  iintro Hsp11
  iapply (fin c)
  iapply Hk
  isplitl [HoutD5]; · iexact HoutD5
  isplitl [Hz5]; · iexact Hz5
  isplitl [HO]; · iexact HO
  isplitl [Hrp12]; · iexact Hrp12
  isplitl [HB]; · iexact HB
  isplitl [Hfl7]; · iexact Hfl7
  isplitl [HstL7]; · iexact HstL7
  iexact Hsp11

theorem part15 {Q : PUnit → sProp (MT nD τ sig Unit (Elt F) ℕ UU ℕ)} (v14 : BitVec 32) (v25 : BitVec 32) (v36 : BitVec 32) :
    iprop(ctx m ρ K ∗ sndPay m ρ 11 c ∗ landPay 11 (dst 11 c) ∗ sendKit 11 c ∗ Owe c (debt c [11]))
      ⊢ iprop(((sent 11 c ∗ Owe c (debt c [])) -∗ Q ⟨⟩) -∗ run c (onBufs (k0_part15 (F := F)) c v14 v25 v36) Q) := by
  unfold onBufs
  rw [k0_part15_eq_skeleton]; unfold k0_part15_skel
  simp only [semSignalWord, semWaitWord, Prog.lift, Prog.bind_op, Prog.bind_ret, Prog.pure_eq_ret, Prog.bind_assoc]
  iintro ⟨#Hc, Hsp11, Hland11, Hkit11, HO⟩ Hk
  iapply (sndq (ms := csM.slice rCs11 st1) (h := squeezes_S1x256x2048_S256x2048) (md := crM.slice rCr11 st1) (h' := squeezes_S1x256x2048_S256x2048) (q := fullShare) m ρ c K 11 (dev17_eq c) rfl rfl (u7 m ρ c) [] rfl rfl rfl (rcvPay_11 m ρ c)) $$ [Hsp11 Hland11 Hkit11 HO]
  · isplitr; · iexact Hc
    isplitl [Hsp11]; · iexact Hsp11
    isplitl [Hland11]; · iexact Hland11
    isplitl [Hkit11]; · iexact Hkit11
    iexact HO
  iintro ⟨Hsent11, HO⟩
  iapply (fin c)
  iapply Hk
  isplitl [Hsent11]; · iexact Hsent11
  iexact HO

end

end Cert.MatmulProof

end
-- ==== Proof.PartsIn.lean ====
/-
# The run, second half: taking in what arrives

The parts that wait for the pieces the other devices send, copy them into the result, and wait for the device's own
transfers to have left.
-/
module

public import proofs.«01_k».proof.Proof.PartsOut

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (K : Dev nD × CIx → ℕ) (c : Dev nD)

theorem part16 {Q : PUnit → sProp (MT nD τ sig Unit (Elt F) ℕ UU ℕ)} (v14 : BitVec 32) :
    iprop(ctx m ρ K ∗ recvKit 0 c ∗ Owe c (debt c []) ∗ flies m ρ 6 c ∗ stP m ρ fullShare.left 6 c ∗ slot0b c ∗ outS 8 c ∗ cpy0 8 c)
      ⊢ iprop(((rcv0 0 c ∗ outD m ρ 6 c ∗ cpy0 6 c ∗ Owe c (debt c []) ∗ rcvPay m ρ 0 c ∗ stP m ρ fullShare.left 8 c ∗ flies m ρ 8 c) -∗ Q ⟨⟩) -∗ run c (onBufs (k0_part16 (F := F)) c v14) Q) := by
  unfold onBufs
  rw [k0_part16_eq_skeleton]; unfold k0_part16_skel
  simp only [semSignalWord, semWaitWord, Prog.lift, Prog.bind_op, Prog.bind_ret, Prog.pure_eq_ret, Prog.bind_assoc]
  iintro ⟨#Hc, Hrk0, HO, Hfl6, HstL6, Hslot0b, HoutS8, Hz8⟩ Hk
  iapply (wtr (dstw := (crM.slice rCr0 st1).squeeze S512x2048 squeezes_S1x512x2048_S512x2048) m ρ c K 0 rfl rfl [] (by decide)) $$ [Hrk0 HO]
  · isplitr; · iexact Hc
    isplitl [Hrk0]; · iexact Hrk0
    iexact HO
  iintro ⟨Hrp0, Hrcv00, HO⟩
  iapply (wtc (dstw := oM.slice (rO c 6) (rO_stride c 6)) (ms := stM.slice rSt0t st1) (W := w6 m ρ c) m ρ c K 6 rfl (nO_6 c) (fun _ => rfl) []) $$ [Hfl6 HstL6 HO]
  · isplitr; · iexact Hc
    isplitl [Hfl6]; · iexact Hfl6
    isplitl [HstL6]; · iexact HstL6
    iexact HO
  iintro ⟨HoutD6, Hz6, Hslot0t, HO⟩
  ihave Hslot0 := (slot0_two c).2 $$ [Hslot0t Hslot0b]
  · isplitl [Hslot0t] <;> iassumption
  iapply (ldS (mr := crM) (r := rCr0) (q := fullShare) c st1 (rcvPay m ρ 0 c) (u0 m ρ (rt c)) rfl) $$ Hrp0
  iintro Hrp0
  iapply (lst (mr := stM) (r := rSt0) c st1 (stP m ρ fullShare 8 c) (w8 m ρ c) rfl .rfl) $$ Hslot0
  iintro HstF8
  iapply (cpo (ms := stM.slice rSt0 st1) (h := squeezes_S1x512x2048_S512x2048) (dm := oM.slice (rO c 8) (rO_stride c 8)) (W := w8 m ρ c) m ρ c 8 rfl (fun _ => rfl) rfl rfl (nO_8 c)) $$ [HstF8 HoutS8 Hz8]
  · isplitl [HstF8]; · iexact HstF8
    isplitl [HoutS8]; · iexact HoutS8
    iexact Hz8
  iintro ⟨HstL8, Hfl8⟩
  iapply (fin c)
  iapply Hk
  isplitl [Hrcv00]; · iexact Hrcv00
  isplitl [HoutD6]; · iexact HoutD6
  isplitl [Hz6]; · iexact Hz6
  isplitl [HO]; · iexact HO
  isplitl [Hrp0]; · iexact Hrp0
  isplitl [HstL8]; · iexact HstL8
  iexact Hfl8

theorem part17 {Q : PUnit → sProp (MT nD τ sig Unit (Elt F) ℕ UU ℕ)} (v14 : BitVec 32) :
    iprop(ctx m ρ K ∗ recvKit 1 c ∗ Owe c (debt c []) ∗ flies m ρ 7 c ∗ stP m ρ fullShare.left 7 c ∗ slot1b c ∗ outS 9 c ∗ cpy0 9 c)
      ⊢ iprop(((rcv0 1 c ∗ outD m ρ 7 c ∗ cpy0 7 c ∗ Owe c (debt c []) ∗ rcvPay m ρ 1 c ∗ stP m ρ fullShare.left 9 c ∗ flies m ρ 9 c) -∗ Q ⟨⟩) -∗ run c (onBufs (k0_part17 (F := F)) c v14) Q) := by
  unfold onBufs
  rw [k0_part17_eq_skeleton]; unfold k0_part17_skel
  simp only [semSignalWord, semWaitWord, Prog.lift, Prog.bind_op, Prog.bind_ret, Prog.pure_eq_ret, Prog.bind_assoc]
  iintro ⟨#Hc, Hrk1, HO, Hfl7, HstL7, Hslot1b, HoutS9, Hz9⟩ Hk
  iapply (wtr (dstw := (crM.slice rCr1 st1).squeeze S512x2048 squeezes_S1x512x2048_S512x2048) m ρ c K 1 rfl rfl [] (by decide)) $$ [Hrk1 HO]
  · isplitr; · iexact Hc
    isplitl [Hrk1]; · iexact Hrk1
    iexact HO
  iintro ⟨Hrp1, Hrcv01, HO⟩
  iapply (wtc (dstw := oM.slice (rO c 7) (rO_stride c 7)) (ms := stM.slice rSt1t st1) (W := w7 m ρ c) m ρ c K 7 rfl (nO_7 c) (fun _ => rfl) []) $$ [Hfl7 HstL7 HO]
  · isplitr; · iexact Hc
    isplitl [Hfl7]; · iexact Hfl7
    isplitl [HstL7]; · iexact HstL7
    iexact HO
  iintro ⟨HoutD7, Hz7, Hslot1t, HO⟩
  ihave Hslot1 := (slot1_two c).2 $$ [Hslot1t Hslot1b]
  · isplitl [Hslot1t] <;> iassumption
  iapply (ldS (mr := crM) (r := rCr1) (q := fullShare) c st1 (rcvPay m ρ 1 c) (u0 m ρ (lf c)) rfl) $$ Hrp1
  iintro Hrp1
  iapply (lst (mr := stM) (r := rSt1) c st1 (stP m ρ fullShare 9 c) (w9 m ρ c) rfl .rfl) $$ Hslot1
  iintro HstF9
  iapply (cpo (ms := stM.slice rSt1 st1) (h := squeezes_S1x512x2048_S512x2048) (dm := oM.slice (rO c 9) (rO_stride c 9)) (W := w9 m ρ c) m ρ c 9 rfl (fun _ => rfl) rfl rfl (nO_9 c)) $$ [HstF9 HoutS9 Hz9]
  · isplitl [HstF9]; · iexact HstF9
    isplitl [HoutS9]; · iexact HoutS9
    iexact Hz9
  iintro ⟨HstL9, Hfl9⟩
  iapply (fin c)
  iapply Hk
  isplitl [Hrcv01]; · iexact Hrcv01
  isplitl [HoutD7]; · iexact HoutD7
  isplitl [Hz7]; · iexact Hz7
  isplitl [HO]; · iexact HO
  isplitl [Hrp1]; · iexact Hrp1
  isplitl [HstL9]; · iexact HstL9
  iexact Hfl9

theorem part18 {Q : PUnit → sProp (MT nD τ sig Unit (Elt F) ℕ UU ℕ)} (v14 : BitVec 32) :
    iprop(ctx m ρ K ∗ recvKit 3 c ∗ Owe c (debt c []) ∗ flies m ρ 8 c ∗ stP m ρ fullShare.left 8 c ∗ outS 10 c ∗ cpy0 10 c ∗ recvKit 4 c)
      ⊢ iprop(((rcv0 3 c ∗ outD m ρ 8 c ∗ cpy0 8 c ∗ rcvPay m ρ 3 c ∗ stP m ρ fullShare.left 10 c ∗ flies m ρ 10 c ∗ rcvPay m ρ 4 c ∗ rcv0 4 c ∗ Owe c (debt c [])) -∗ Q ⟨⟩) -∗ run c (onBufs (k0_part18 (F := F)) c v14) Q) := by
  unfold onBufs
  rw [k0_part18_eq_skeleton]; unfold k0_part18_skel
  simp only [semSignalWord, semWaitWord, Prog.lift, Prog.bind_op, Prog.bind_ret, Prog.pure_eq_ret, Prog.bind_assoc]
  iintro ⟨#Hc, Hrk3, HO, Hfl8, HstL8, HoutS10, Hz10, Hrk4⟩ Hk
  iapply (wtr (dstw := (crM.slice rCr3 st1).squeeze S512x2048 squeezes_S1x512x2048_S512x2048) m ρ c K 3 rfl rfl [] (by decide)) $$ [Hrk3 HO]
  · isplitr; · iexact Hc
    isplitl [Hrk3]; · iexact Hrk3
    iexact HO
  iintro ⟨Hrp3, Hrcv03, HO⟩
  iapply (wtc (dstw := oM.slice (rO c 8) (rO_stride c 8)) (ms := stM.slice rSt0 st1) (W := w8 m ρ c) m ρ c K 8 rfl (nO_8 c) (fun _ => rfl) []) $$ [Hfl8 HstL8 HO]
  · isplitr; · iexact Hc
    isplitl [Hfl8]; · iexact Hfl8
    isplitl [HstL8]; · iexact HstL8
    iexact HO
  iintro ⟨HoutD8, Hz8, Hslot0, HO⟩
  iapply (ldS (mr := crM) (r := rCr3) (q := fullShare) c st1 (rcvPay m ρ 3 c) (u1 m ρ (rt c)) rfl) $$ Hrp3
  iintro Hrp3
  iapply (lst (mr := stM) (r := rSt0) c st1 (stP m ρ fullShare 10 c) (w10 m ρ c) rfl .rfl) $$ Hslot0
  iintro HstF10
  iapply (cpo (ms := stM.slice rSt0 st1) (h := squeezes_S1x512x2048_S512x2048) (dm := oM.slice (rO c 10) (rO_stride c 10)) (W := w10 m ρ c) m ρ c 10 rfl (fun _ => rfl) rfl rfl (nO_10 c)) $$ [HstF10 HoutS10 Hz10]
  · isplitl [HstF10]; · iexact HstF10
    isplitl [HoutS10]; · iexact HoutS10
    iexact Hz10
  iintro ⟨HstL10, Hfl10⟩
  iapply (wtr (dstw := (crM.slice rCr4 st1).squeeze S512x2048 squeezes_S1x512x2048_S512x2048) m ρ c K 4 rfl rfl [] (by decide)) $$ [Hrk4 HO]
  · isplitr; · iexact Hc
    isplitl [Hrk4]; · iexact Hrk4
    iexact HO
  iintro ⟨Hrp4, Hrcv04, HO⟩
  iapply (fin c)
  iapply Hk
  isplitl [Hrcv03]; · iexact Hrcv03
  isplitl [HoutD8]; · iexact HoutD8
  isplitl [Hz8]; · iexact Hz8
  isplitl [Hrp3]; · iexact Hrp3
  isplitl [HstL10]; · iexact HstL10
  isplitl [Hfl10]; · iexact Hfl10
  isplitl [Hrp4]; · iexact Hrp4
  isplitl [Hrcv04]; · iexact Hrcv04
  iexact HO

theorem part19 {Q : PUnit → sProp (MT nD τ sig Unit (Elt F) ℕ UU ℕ)} (v14 : BitVec 32) :
    iprop(ctx m ρ K ∗ flies m ρ 9 c ∗ stP m ρ fullShare.left 9 c ∗ Owe c (debt c []) ∗ rcvPay m ρ 4 c ∗ outS 11 c ∗ cpy0 11 c ∗ recvKit 2 c)
      ⊢ iprop(((outD m ρ 9 c ∗ cpy0 9 c ∗ rcvPay m ρ 4 c ∗ stP m ρ fullShare.left 11 c ∗ flies m ρ 11 c ∗ rcvPay m ρ 2 c ∗ rcv0 2 c ∗ Owe c (debt c [])) -∗ Q ⟨⟩) -∗ run c (onBufs (k0_part19 (F := F)) c v14) Q) := by
  unfold onBufs
  rw [k0_part19_eq_skeleton]; unfold k0_part19_skel
  simp only [semSignalWord, semWaitWord, Prog.lift, Prog.bind_op, Prog.bind_ret, Prog.pure_eq_ret, Prog.bind_assoc]
  iintro ⟨#Hc, Hfl9, HstL9, HO, Hrp4, HoutS11, Hz11, Hrk2⟩ Hk
  iapply (wtc (dstw := oM.slice (rO c 9) (rO_stride c 9)) (ms := stM.slice rSt1 st1) (W := w9 m ρ c) m ρ c K 9 rfl (nO_9 c) (fun _ => rfl) []) $$ [Hfl9 HstL9 HO]
  · isplitr; · iexact Hc
    isplitl [Hfl9]; · iexact Hfl9
    isplitl [HstL9]; · iexact HstL9
    iexact HO
  iintro ⟨HoutD9, Hz9, Hslot1, HO⟩
  iapply (ldS (mr := crM) (r := rCr4) (q := fullShare) c st1 (rcvPay m ρ 4 c) (u1 m ρ (lf c)) rfl) $$ Hrp4
  iintro Hrp4
  iapply (lst (mr := stM) (r := rSt1) c st1 (stP m ρ fullShare 11 c) (w11 m ρ c) rfl .rfl) $$ Hslot1
  iintro HstF11
  iapply (cpo (ms := stM.slice rSt1 st1) (h := squeezes_S1x512x2048_S512x2048) (dm := oM.slice (rO c 11) (rO_stride c 11)) (W := w11 m ρ c) m ρ c 11 rfl (fun _ => rfl) rfl rfl (nO_11 c)) $$ [HstF11 HoutS11 Hz11]
  · isplitl [HstF11]; · iexact HstF11
    isplitl [HoutS11]; · iexact HoutS11
    iexact Hz11
  iintro ⟨HstL11, Hfl11⟩
  iapply (wtr (dstw := (crM.slice rCr2 st1).squeeze S512x2048 squeezes_S1x512x2048_S512x2048) m ρ c K 2 rfl rfl [] (by decide)) $$ [Hrk2 HO]
  · isplitr; · iexact Hc
    isplitl [Hrk2]; · iexact Hrk2
    iexact HO
  iintro ⟨Hrp2, Hrcv02, HO⟩
  iapply (fin c)
  iapply Hk
  isplitl [HoutD9]; · iexact HoutD9
  isplitl [Hz9]; · iexact Hz9
  isplitl [Hrp4]; · iexact Hrp4
  isplitl [HstL11]; · iexact HstL11
  isplitl [Hfl11]; · iexact Hfl11
  isplitl [Hrp2]; · iexact Hrp2
  isplitl [Hrcv02]; · iexact Hrcv02
  iexact HO

theorem part20 {Q : PUnit → sProp (MT nD τ sig Unit (Elt F) ℕ UU ℕ)} (v14 : BitVec 32) :
    iprop(ctx m ρ K ∗ flies m ρ 10 c ∗ stP m ρ fullShare.left 10 c ∗ Owe c (debt c []) ∗ rcvPay m ρ 2 c ∗ outS 12 c ∗ cpy0 12 c ∗ recvKit 5 c ∗ flies m ρ 11 c ∗ stP m ρ fullShare.left 11 c)
      ⊢ iprop(((outD m ρ 10 c ∗ cpy0 10 c ∗ rcvPay m ρ 2 c ∗ stP m ρ fullShare.left 12 c ∗ flies m ρ 12 c ∗ rcvPay m ρ 5 c ∗ rcv0 5 c ∗ outD m ρ 11 c ∗ cpy0 11 c ∗ slot1 c ∗ Owe c (debt c [])) -∗ Q ⟨⟩) -∗ run c (onBufs (k0_part20 (F := F)) c v14) Q) := by
  unfold onBufs
  rw [k0_part20_eq_skeleton]; unfold k0_part20_skel
  simp only [semSignalWord, semWaitWord, Prog.lift, Prog.bind_op, Prog.bind_ret, Prog.pure_eq_ret, Prog.bind_assoc]
  iintro ⟨#Hc, Hfl10, HstL10, HO, Hrp2, HoutS12, Hz12, Hrk5, Hfl11, HstL11⟩ Hk
  iapply (wtc (dstw := oM.slice (rO c 10) (rO_stride c 10)) (ms := stM.slice rSt0 st1) (W := w10 m ρ c) m ρ c K 10 rfl (nO_10 c) (fun _ => rfl) []) $$ [Hfl10 HstL10 HO]
  · isplitr; · iexact Hc
    isplitl [Hfl10]; · iexact Hfl10
    isplitl [HstL10]; · iexact HstL10
    iexact HO
  iintro ⟨HoutD10, Hz10, Hslot0, HO⟩
  iapply (ldS (mr := crM) (r := rCr2) (q := fullShare) c st1 (rcvPay m ρ 2 c) (u0 m ρ (dg c)) rfl) $$ Hrp2
  iintro Hrp2
  iapply (lst (mr := stM) (r := rSt0) c st1 (stP m ρ fullShare 12 c) (w12 m ρ c) rfl .rfl) $$ Hslot0
  iintro HstF12
  iapply (cpo (ms := stM.slice rSt0 st1) (h := squeezes_S1x512x2048_S512x2048) (dm := oM.slice (rO c 12) (rO_stride c 12)) (W := w12 m ρ c) m ρ c 12 rfl (fun _ => rfl) rfl rfl (nO_12 c)) $$ [HstF12 HoutS12 Hz12]
  · isplitl [HstF12]; · iexact HstF12
    isplitl [HoutS12]; · iexact HoutS12
    iexact Hz12
  iintro ⟨HstL12, Hfl12⟩
  iapply (wtr (dstw := (crM.slice rCr5 st1).squeeze S512x2048 squeezes_S1x512x2048_S512x2048) m ρ c K 5 rfl rfl [] (by decide)) $$ [Hrk5 HO]
  · isplitr; · iexact Hc
    isplitl [Hrk5]; · iexact Hrk5
    iexact HO
  iintro ⟨Hrp5, Hrcv05, HO⟩
  iapply (wtc (dstw := oM.slice (rO c 11) (rO_stride c 11)) (ms := stM.slice rSt1 st1) (W := w11 m ρ c) m ρ c K 11 rfl (nO_11 c) (fun _ => rfl) []) $$ [Hfl11 HstL11 HO]
  · isplitr; · iexact Hc
    isplitl [Hfl11]; · iexact Hfl11
    isplitl [HstL11]; · iexact HstL11
    iexact HO
  iintro ⟨HoutD11, Hz11, Hslot1, HO⟩
  iapply (fin c)
  iapply Hk
  isplitl [HoutD10]; · iexact HoutD10
  isplitl [Hz10]; · iexact Hz10
  isplitl [Hrp2]; · iexact Hrp2
  isplitl [HstL12]; · iexact HstL12
  isplitl [Hfl12]; · iexact Hfl12
  isplitl [Hrp5]; · iexact Hrp5
  isplitl [Hrcv05]; · iexact Hrcv05
  isplitl [HoutD11]; · iexact HoutD11
  isplitl [Hz11]; · iexact Hz11
  isplitl [Hslot1]; · iexact Hslot1
  iexact HO

theorem part21 {Q : FVec F S512x2048 .f32 → sProp (MT nD τ sig Unit (Elt F) ℕ UU ℕ)} (v14 : BitVec 32) :
    iprop(ctx m ρ K ∗ rcvPay m ρ 5 c ∗ slot1 c ∗ outS 13 c ∗ cpy0 13 c ∗ recvKit 6 c ∗ Owe c (debt c []) ∗ flies m ρ 12 c ∗ stP m ρ fullShare.left 12 c)
      ⊢ iprop(((rcvPay m ρ 5 c ∗ stP m ρ fullShare.left 13 c ∗ flies m ρ 13 c ∗ rcv0 6 c ∗ outD m ρ 12 c ∗ cpy0 12 c ∗ slot0 c ∗ Owe c (debt c []) ∗ rcvPay m ρ 6 c) -∗ Q (k0_pay28 (u2 m ρ (rt c)))) -∗ run c (onBufs (k0_part21 (F := F)) c v14) Q) := by
  unfold onBufs
  rw [k0_part21_eq_skeleton]; unfold k0_part21_skel
  simp only [semSignalWord, semWaitWord, Prog.lift, Prog.bind_op, Prog.bind_ret, Prog.pure_eq_ret, Prog.bind_assoc]
  iintro ⟨#Hc, Hrp5, Hslot1, HoutS13, Hz13, Hrk6, HO, Hfl12, HstL12⟩ Hk
  iapply (ldS (mr := crM) (r := rCr5) (q := fullShare) c st1 (rcvPay m ρ 5 c) (u1 m ρ (dg c)) rfl) $$ Hrp5
  iintro Hrp5
  iapply (lst (mr := stM) (r := rSt1) c st1 (stP m ρ fullShare 13 c) (w13 m ρ c) rfl .rfl) $$ Hslot1
  iintro HstF13
  iapply (cpo (ms := stM.slice rSt1 st1) (h := squeezes_S1x512x2048_S512x2048) (dm := oM.slice (rO c 13) (rO_stride c 13)) (W := w13 m ρ c) m ρ c 13 rfl (fun _ => rfl) rfl rfl (nO_13 c)) $$ [HstF13 HoutS13 Hz13]
  · isplitl [HstF13]; · iexact HstF13
    isplitl [HoutS13]; · iexact HoutS13
    iexact Hz13
  iintro ⟨HstL13, Hfl13⟩
  iapply (wtr (dstw := (crM.slice rCr6 st1).squeeze S512x2048 squeezes_S1x512x2048_S512x2048) m ρ c K 6 rfl rfl [] (by decide)) $$ [Hrk6 HO]
  · isplitr; · iexact Hc
    isplitl [Hrk6]; · iexact Hrk6
    iexact HO
  iintro ⟨Hrp6, Hrcv06, HO⟩
  iapply (wtc (dstw := oM.slice (rO c 12) (rO_stride c 12)) (ms := stM.slice rSt0 st1) (W := w12 m ρ c) m ρ c K 12 rfl (nO_12 c) (fun _ => rfl) []) $$ [Hfl12 HstL12 HO]
  · isplitr; · iexact Hc
    isplitl [Hfl12]; · iexact Hfl12
    isplitl [HstL12]; · iexact HstL12
    iexact HO
  iintro ⟨HoutD12, Hz12, Hslot0, HO⟩
  iapply (ldS (mr := crM) (r := rCr6) (q := fullShare) c st1 (rcvPay m ρ 6 c) (u2 m ρ (rt c)) rfl) $$ Hrp6
  iintro Hrp6
  iapply (fin c)
  iapply Hk
  isplitl [Hrp5]; · iexact Hrp5
  isplitl [HstL13]; · iexact HstL13
  isplitl [Hfl13]; · iexact Hfl13
  isplitl [Hrcv06]; · iexact Hrcv06
  isplitl [HoutD12]; · iexact HoutD12
  isplitl [Hz12]; · iexact Hz12
  isplitl [Hslot0]; · iexact Hslot0
  isplitl [HO]; · iexact HO
  iexact Hrp6

theorem part22 {Q : PUnit → sProp (MT nD τ sig Unit (Elt F) ℕ UU ℕ)} (v14 : BitVec 32) :
    iprop(ctx m ρ K ∗ slot0 c ∗ outS 14 c ∗ cpy0 14 c ∗ recvKit 7 c ∗ Owe c (debt c []) ∗ flies m ρ 13 c ∗ stP m ρ fullShare.left 13 c)
      ⊢ iprop(((stP m ρ fullShare.left 14 c ∗ flies m ρ 14 c ∗ rcv0 7 c ∗ outD m ρ 13 c ∗ cpy0 13 c ∗ Owe c (debt c []) ∗ rcvPay m ρ 7 c ∗ stP m ρ fullShare 15 c) -∗ Q ⟨⟩) -∗ run c (onBufs (k0_part22 (F := F)) c v14 (k0_pay28 (u2 m ρ (rt c)))) Q) := by
  unfold onBufs
  rw [k0_part22_eq_skeleton]; unfold k0_part22_skel
  simp only [semSignalWord, semWaitWord, Prog.lift, Prog.bind_op, Prog.bind_ret, Prog.pure_eq_ret, Prog.bind_assoc]
  iintro ⟨#Hc, Hslot0, HoutS14, Hz14, Hrk7, HO, Hfl13, HstL13⟩ Hk
  iapply (lst (mr := stM) (r := rSt0) c st1 (stP m ρ fullShare 14 c) (w14 m ρ c) rfl .rfl) $$ Hslot0
  iintro HstF14
  iapply (cpo (ms := stM.slice rSt0 st1) (h := squeezes_S1x512x2048_S512x2048) (dm := oM.slice (rO c 14) (rO_stride c 14)) (W := w14 m ρ c) m ρ c 14 rfl (fun _ => rfl) rfl rfl (nO_14 c)) $$ [HstF14 HoutS14 Hz14]
  · isplitl [HstF14]; · iexact HstF14
    isplitl [HoutS14]; · iexact HoutS14
    iexact Hz14
  iintro ⟨HstL14, Hfl14⟩
  iapply (wtr (dstw := (crM.slice rCr7 st1).squeeze S512x2048 squeezes_S1x512x2048_S512x2048) m ρ c K 7 rfl rfl [] (by decide)) $$ [Hrk7 HO]
  · isplitr; · iexact Hc
    isplitl [Hrk7]; · iexact Hrk7
    iexact HO
  iintro ⟨Hrp7, Hrcv07, HO⟩
  iapply (wtc (dstw := oM.slice (rO c 13) (rO_stride c 13)) (ms := stM.slice rSt1 st1) (W := w13 m ρ c) m ρ c K 13 rfl (nO_13 c) (fun _ => rfl) []) $$ [Hfl13 HstL13 HO]
  · isplitr; · iexact Hc
    isplitl [Hfl13]; · iexact Hfl13
    isplitl [HstL13]; · iexact HstL13
    iexact HO
  iintro ⟨HoutD13, Hz13, Hslot1, HO⟩
  iapply (ldS (mr := crM) (r := rCr7) (q := fullShare) c st1 (rcvPay m ρ 7 c) (u3 m ρ (lf c)) rfl) $$ Hrp7
  iintro Hrp7
  iapply (lst (mr := stM) (r := rSt1) c st1 (stP m ρ fullShare 15 c) (w15 m ρ c) rfl .rfl) $$ Hslot1
  iintro HstF15
  iapply (fin c)
  iapply Hk
  isplitl [HstL14]; · iexact HstL14
  isplitl [Hfl14]; · iexact Hfl14
  isplitl [Hrcv07]; · iexact Hrcv07
  isplitl [HoutD13]; · iexact HoutD13
  isplitl [Hz13]; · iexact Hz13
  isplitl [HO]; · iexact HO
  isplitl [Hrp7]; · iexact Hrp7
  iexact HstF15

theorem part23 {Q : PUnit → sProp (MT nD τ sig Unit (Elt F) ℕ UU ℕ)} (v14 : BitVec 32) :
    iprop(ctx m ρ K ∗ stP m ρ fullShare 15 c ∗ outS 15 c ∗ cpy0 15 c ∗ recvKit 8 c ∗ Owe c (debt c []) ∗ flies m ρ 14 c ∗ stP m ρ fullShare.left 14 c)
      ⊢ iprop(((stP m ρ fullShare.left 15 c ∗ flies m ρ 15 c ∗ rcv0 8 c ∗ outD m ρ 14 c ∗ cpy0 14 c ∗ Owe c (debt c []) ∗ slot0b c ∗ rcvPay m ρ 8 c ∗ stP m ρ fullShare 16 c) -∗ Q ⟨⟩) -∗ run c (onBufs (k0_part23 (F := F)) c v14) Q) := by
  unfold onBufs
  rw [k0_part23_eq_skeleton]; unfold k0_part23_skel
  simp only [semSignalWord, semWaitWord, Prog.lift, Prog.bind_op, Prog.bind_ret, Prog.pure_eq_ret, Prog.bind_assoc]
  iintro ⟨#Hc, HstF15, HoutS15, Hz15, Hrk8, HO, Hfl14, HstL14⟩ Hk
  iapply (cpo (ms := stM.slice rSt1 st1) (h := squeezes_S1x512x2048_S512x2048) (dm := oM.slice (rO c 15) (rO_stride c 15)) (W := w15 m ρ c) m ρ c 15 rfl (fun _ => rfl) rfl rfl (nO_15 c)) $$ [HstF15 HoutS15 Hz15]
  · isplitl [HstF15]; · iexact HstF15
    isplitl [HoutS15]; · iexact HoutS15
    iexact Hz15
  iintro ⟨HstL15, Hfl15⟩
  iapply (wtr (dstw := (crM.slice rCr8 st1).squeeze S256x2048 squeezes_S1x256x2048_S256x2048) m ρ c K 8 rfl rfl [] (by decide)) $$ [Hrk8 HO]
  · isplitr; · iexact Hc
    isplitl [Hrk8]; · iexact Hrk8
    iexact HO
  iintro ⟨Hrp8, Hrcv08, HO⟩
  iapply (wtc (dstw := oM.slice (rO c 14) (rO_stride c 14)) (ms := stM.slice rSt0 st1) (W := w14 m ρ c) m ρ c K 14 rfl (nO_14 c) (fun _ => rfl) []) $$ [Hfl14 HstL14 HO]
  · isplitr; · iexact Hc
    isplitl [Hfl14]; · iexact Hfl14
    isplitl [HstL14]; · iexact HstL14
    iexact HO
  iintro ⟨HoutD14, Hz14, Hslot0, HO⟩
  ihave H := (slot0_two c).1 $$ Hslot0
  icases H with ⟨Hslot0t, Hslot0b⟩
  iapply (ldS (mr := crM) (r := rCr8) (q := fullShare) c st1 (rcvPay m ρ 8 c) (u4 m ρ (lf c)) rfl) $$ Hrp8
  iintro Hrp8
  iapply (lst (mr := stM) (r := rSt0t) c st1 (stP m ρ fullShare 16 c) (w16 m ρ c) rfl .rfl) $$ Hslot0t
  iintro HstF16
  iapply (fin c)
  iapply Hk
  isplitl [HstL15]; · iexact HstL15
  isplitl [Hfl15]; · iexact Hfl15
  isplitl [Hrcv08]; · iexact Hrcv08
  isplitl [HoutD14]; · iexact HoutD14
  isplitl [Hz14]; · iexact Hz14
  isplitl [HO]; · iexact HO
  isplitl [Hslot0b]; · iexact Hslot0b
  isplitl [Hrp8]; · iexact Hrp8
  iexact HstF16

theorem part24 {Q : PUnit → sProp (MT nD τ sig Unit (Elt F) ℕ UU ℕ)} (v14 : BitVec 32) :
    iprop(ctx m ρ K ∗ stP m ρ fullShare 16 c ∗ outS 16 c ∗ cpy0 16 c ∗ recvKit 9 c ∗ Owe c (debt c []) ∗ flies m ρ 15 c ∗ stP m ρ fullShare.left 15 c ∗ outS 17 c ∗ cpy0 17 c)
      ⊢ iprop(((stP m ρ fullShare.left 16 c ∗ flies m ρ 16 c ∗ rcv0 9 c ∗ outD m ρ 15 c ∗ cpy0 15 c ∗ Owe c (debt c []) ∗ slot1b c ∗ rcvPay m ρ 9 c ∗ stP m ρ fullShare.left 17 c ∗ flies m ρ 17 c) -∗ Q ⟨⟩) -∗ run c (onBufs (k0_part24 (F := F)) c v14) Q) := by
  unfold onBufs
  rw [k0_part24_eq_skeleton]; unfold k0_part24_skel
  simp only [semSignalWord, semWaitWord, Prog.lift, Prog.bind_op, Prog.bind_ret, Prog.pure_eq_ret, Prog.bind_assoc]
  iintro ⟨#Hc, HstF16, HoutS16, Hz16, Hrk9, HO, Hfl15, HstL15, HoutS17, Hz17⟩ Hk
  iapply (cpo (ms := stM.slice rSt0t st1) (h := squeezes_S1x256x2048_S256x2048) (dm := oM.slice (rO c 16) (rO_stride c 16)) (W := w16 m ρ c) m ρ c 16 rfl (fun _ => rfl) rfl rfl (nO_16 c)) $$ [HstF16 HoutS16 Hz16]
  · isplitl [HstF16]; · iexact HstF16
    isplitl [HoutS16]; · iexact HoutS16
    iexact Hz16
  iintro ⟨HstL16, Hfl16⟩
  iapply (wtr (dstw := (crM.slice rCr9 st1).squeeze S256x2048 squeezes_S1x256x2048_S256x2048) m ρ c K 9 rfl rfl [] (by decide)) $$ [Hrk9 HO]
  · isplitr; · iexact Hc
    isplitl [Hrk9]; · iexact Hrk9
    iexact HO
  iintro ⟨Hrp9, Hrcv09, HO⟩
  iapply (wtc (dstw := oM.slice (rO c 15) (rO_stride c 15)) (ms := stM.slice rSt1 st1) (W := w15 m ρ c) m ρ c K 15 rfl (nO_15 c) (fun _ => rfl) []) $$ [Hfl15 HstL15 HO]
  · isplitr; · iexact Hc
    isplitl [Hfl15]; · iexact Hfl15
    isplitl [HstL15]; · iexact HstL15
    iexact HO
  iintro ⟨HoutD15, Hz15, Hslot1, HO⟩
  ihave H := (slot1_two c).1 $$ Hslot1
  icases H with ⟨Hslot1t, Hslot1b⟩
  iapply (ldS (mr := crM) (r := rCr9) (q := fullShare) c st1 (rcvPay m ρ 9 c) (u5 m ρ (rt c)) rfl) $$ Hrp9
  iintro Hrp9
  iapply (lst (mr := stM) (r := rSt1t) c st1 (stP m ρ fullShare 17 c) (w17 m ρ c) rfl .rfl) $$ Hslot1t
  iintro HstF17
  iapply (cpo (ms := stM.slice rSt1t st1) (h := squeezes_S1x256x2048_S256x2048) (dm := oM.slice (rO c 17) (rO_stride c 17)) (W := w17 m ρ c) m ρ c 17 rfl (fun _ => rfl) rfl rfl (nO_17 c)) $$ [HstF17 HoutS17 Hz17]
  · isplitl [HstF17]; · iexact HstF17
    isplitl [HoutS17]; · iexact HoutS17
    iexact Hz17
  iintro ⟨HstL17, Hfl17⟩
  iapply (fin c)
  iapply Hk
  isplitl [HstL16]; · iexact HstL16
  isplitl [Hfl16]; · iexact Hfl16
  isplitl [Hrcv09]; · iexact Hrcv09
  isplitl [HoutD15]; · iexact HoutD15
  isplitl [Hz15]; · iexact Hz15
  isplitl [HO]; · iexact HO
  isplitl [Hslot1b]; · iexact Hslot1b
  isplitl [Hrp9]; · iexact Hrp9
  isplitl [HstL17]; · iexact HstL17
  iexact Hfl17

theorem part25 {Q : PUnit → sProp (MT nD τ sig Unit (Elt F) ℕ UU ℕ)} (v14 : BitVec 32) :
    iprop(ctx m ρ K ∗ recvKit 10 c ∗ Owe c (debt c []) ∗ flies m ρ 16 c ∗ stP m ρ fullShare.left 16 c ∗ outS 18 c ∗ cpy0 18 c)
      ⊢ iprop(((rcv0 10 c ∗ outD m ρ 16 c ∗ cpy0 16 c ∗ Owe c (debt c []) ∗ rcvPay m ρ 10 c ∗ stP m ρ fullShare.left 18 c ∗ flies m ρ 18 c) -∗ Q ⟨⟩) -∗ run c (onBufs (k0_part25 (F := F)) c v14) Q) := by
  unfold onBufs
  rw [k0_part25_eq_skeleton]; unfold k0_part25_skel
  simp only [semSignalWord, semWaitWord, Prog.lift, Prog.bind_op, Prog.bind_ret, Prog.pure_eq_ret, Prog.bind_assoc]
  iintro ⟨#Hc, Hrk10, HO, Hfl16, HstL16, HoutS18, Hz18⟩ Hk
  iapply (wtr (dstw := (crM.slice rCr10 st1).squeeze S256x2048 squeezes_S1x256x2048_S256x2048) m ρ c K 10 rfl rfl [] (by decide)) $$ [Hrk10 HO]
  · isplitr; · iexact Hc
    isplitl [Hrk10]; · iexact Hrk10
    iexact HO
  iintro ⟨Hrp10, Hrcv010, HO⟩
  iapply (wtc (dstw := oM.slice (rO c 16) (rO_stride c 16)) (ms := stM.slice rSt0t st1) (W := w16 m ρ c) m ρ c K 16 rfl (nO_16 c) (fun _ => rfl) []) $$ [Hfl16 HstL16 HO]
  · isplitr; · iexact Hc
    isplitl [Hfl16]; · iexact Hfl16
    isplitl [HstL16]; · iexact HstL16
    iexact HO
  iintro ⟨HoutD16, Hz16, Hslot0t, HO⟩
  iapply (ldS (mr := crM) (r := rCr10) (q := fullShare) c st1 (rcvPay m ρ 10 c) (u6 m ρ (lf c)) rfl) $$ Hrp10
  iintro Hrp10
  iapply (lst (mr := stM) (r := rSt0t) c st1 (stP m ρ fullShare 18 c) (w18 m ρ c) rfl .rfl) $$ Hslot0t
  iintro HstF18
  iapply (cpo (ms := stM.slice rSt0t st1) (h := squeezes_S1x256x2048_S256x2048) (dm := oM.slice (rO c 18) (rO_stride c 18)) (W := w18 m ρ c) m ρ c 18 rfl (fun _ => rfl) rfl rfl (nO_18 c)) $$ [HstF18 HoutS18 Hz18]
  · isplitl [HstF18]; · iexact HstF18
    isplitl [HoutS18]; · iexact HoutS18
    iexact Hz18
  iintro ⟨HstL18, Hfl18⟩
  iapply (fin c)
  iapply Hk
  isplitl [Hrcv010]; · iexact Hrcv010
  isplitl [HoutD16]; · iexact HoutD16
  isplitl [Hz16]; · iexact Hz16
  isplitl [HO]; · iexact HO
  isplitl [Hrp10]; · iexact Hrp10
  isplitl [HstL18]; · iexact HstL18
  iexact Hfl18

theorem part26 {Q : PUnit → sProp (MT nD τ sig Unit (Elt F) ℕ UU ℕ)}  :
    iprop(ctx m ρ K ∗ recvKit 11 c ∗ Owe c (debt c []) ∗ flies m ρ 17 c ∗ stP m ρ fullShare.left 17 c ∗ outS 19 c ∗ cpy0 19 c ∗ sent 12 c)
      ⊢ iprop(((rcv0 11 c ∗ outD m ρ 17 c ∗ cpy0 17 c ∗ rcvPay m ρ 11 c ∗ stP m ρ fullShare.left 19 c ∗ flies m ρ 19 c ∗ sndPay m ρ 12 c ∗ snd0 12 c ∗ Owe c (debt c [])) -∗ Q ⟨⟩) -∗ run c (onBufs (k0_part26 (F := F)) c) Q) := by
  unfold onBufs
  rw [k0_part26_eq_skeleton]; unfold k0_part26_skel
  simp only [semSignalWord, semWaitWord, Prog.lift, Prog.bind_op, Prog.bind_ret, Prog.pure_eq_ret, Prog.bind_assoc]
  iintro ⟨#Hc, Hrk11, HO, Hfl17, HstL17, HoutS19, Hz19, Hsent12⟩ Hk
  iapply (wtr (dstw := (crM.slice rCr11 st1).squeeze S256x2048 squeezes_S1x256x2048_S256x2048) m ρ c K 11 rfl rfl [] (by decide)) $$ [Hrk11 HO]
  · isplitr; · iexact Hc
    isplitl [Hrk11]; · iexact Hrk11
    iexact HO
  iintro ⟨Hrp11, Hrcv011, HO⟩
  iapply (wtc (dstw := oM.slice (rO c 17) (rO_stride c 17)) (ms := stM.slice rSt1t st1) (W := w17 m ρ c) m ρ c K 17 rfl (nO_17 c) (fun _ => rfl) []) $$ [Hfl17 HstL17 HO]
  · isplitr; · iexact Hc
    isplitl [Hfl17]; · iexact Hfl17
    isplitl [HstL17]; · iexact HstL17
    iexact HO
  iintro ⟨HoutD17, Hz17, Hslot1t, HO⟩
  iapply (ldS (mr := crM) (r := rCr11) (q := fullShare) c st1 (rcvPay m ρ 11 c) (u7 m ρ (rt c)) rfl) $$ Hrp11
  iintro Hrp11
  iapply (lst (mr := stM) (r := rSt1t) c st1 (stP m ρ fullShare 19 c) (w19 m ρ c) rfl .rfl) $$ Hslot1t
  iintro HstF19
  iapply (cpo (ms := stM.slice rSt1t st1) (h := squeezes_S1x256x2048_S256x2048) (dm := oM.slice (rO c 19) (rO_stride c 19)) (W := w19 m ρ c) m ρ c 19 rfl (fun _ => rfl) rfl rfl (nO_19 c)) $$ [HstF19 HoutS19 Hz19]
  · isplitl [HstF19]; · iexact HstF19
    isplitl [HoutS19]; · iexact HoutS19
    iexact Hz19
  iintro ⟨HstL19, Hfl19⟩
  iapply (wts (dstw := (asM.slice rAs0 st1).squeeze S512x1024 squeezes_S1x512x1024_S512x1024) m ρ c K 12 rfl rfl []) $$ [Hsent12 HO]
  · isplitr; · iexact Hc
    isplitl [Hsent12]; · iexact Hsent12
    iexact HO
  iintro ⟨Hsp12, Hsnd012, HO⟩
  iapply (fin c)
  iapply Hk
  isplitl [Hrcv011]; · iexact Hrcv011
  isplitl [HoutD17]; · iexact HoutD17
  isplitl [Hz17]; · iexact Hz17
  isplitl [Hrp11]; · iexact Hrp11
  isplitl [HstL19]; · iexact HstL19
  isplitl [Hfl19]; · iexact Hfl19
  isplitl [Hsp12]; · iexact Hsp12
  isplitl [Hsnd012]; · iexact Hsnd012
  iexact HO

theorem part27 {Q : PUnit → sProp (MT nD τ sig Unit (Elt F) ℕ UU ℕ)}  :
    iprop(ctx m ρ K ∗ sent 13 c ∗ Owe c (debt c []) ∗ sent 0 c ∗ sent 1 c ∗ sent 2 c)
      ⊢ iprop(((sndPay m ρ 13 c ∗ snd0 13 c ∗ sndPay m ρ 0 c ∗ snd0 0 c ∗ sndPay m ρ 1 c ∗ snd0 1 c ∗ sndPay m ρ 2 c ∗ snd0 2 c ∗ Owe c (debt c [])) -∗ Q ⟨⟩) -∗ run c (onBufs (k0_part27 (F := F)) ) Q) := by
  unfold onBufs
  rw [k0_part27_eq_skeleton]; unfold k0_part27_skel
  simp only [semSignalWord, semWaitWord, Prog.lift, Prog.bind_op, Prog.bind_ret, Prog.pure_eq_ret, Prog.bind_assoc]
  iintro ⟨#Hc, Hsent13, HO, Hsent0, Hsent1, Hsent2⟩ Hk
  iapply (wts (dstw := (asM.slice rAs1 st1).squeeze S512x1024 squeezes_S1x512x1024_S512x1024) m ρ c K 13 rfl rfl []) $$ [Hsent13 HO]
  · isplitr; · iexact Hc
    isplitl [Hsent13]; · iexact Hsent13
    iexact HO
  iintro ⟨Hsp13, Hsnd013, HO⟩
  iapply (wts (dstw := (csM.slice rCs0 st1).squeeze S512x2048 squeezes_S1x512x2048_S512x2048) m ρ c K 0 rfl rfl []) $$ [Hsent0 HO]
  · isplitr; · iexact Hc
    isplitl [Hsent0]; · iexact Hsent0
    iexact HO
  iintro ⟨Hsp0, Hsnd00, HO⟩
  iapply (wts (dstw := (csM.slice rCs0 st1).squeeze S512x2048 squeezes_S1x512x2048_S512x2048) m ρ c K 1 rfl rfl []) $$ [Hsent1 HO]
  · isplitr; · iexact Hc
    isplitl [Hsent1]; · iexact Hsent1
    iexact HO
  iintro ⟨Hsp1, Hsnd01, HO⟩
  iapply (wts (dstw := (csM.slice rCs0 st1).squeeze S512x2048 squeezes_S1x512x2048_S512x2048) m ρ c K 2 rfl rfl []) $$ [Hsent2 HO]
  · isplitr; · iexact Hc
    isplitl [Hsent2]; · iexact Hsent2
    iexact HO
  iintro ⟨Hsp2, Hsnd02, HO⟩
  iapply (fin c)
  iapply Hk
  isplitl [Hsp13]; · iexact Hsp13
  isplitl [Hsnd013]; · iexact Hsnd013
  isplitl [Hsp0]; · iexact Hsp0
  isplitl [Hsnd00]; · iexact Hsnd00
  isplitl [Hsp1]; · iexact Hsp1
  isplitl [Hsnd01]; · iexact Hsnd01
  isplitl [Hsp2]; · iexact Hsp2
  isplitl [Hsnd02]; · iexact Hsnd02
  iexact HO

theorem part28 {Q : PUnit → sProp (MT nD τ sig Unit (Elt F) ℕ UU ℕ)}  :
    iprop(ctx m ρ K ∗ sent 3 c ∗ Owe c (debt c []) ∗ sent 4 c ∗ sent 5 c ∗ sent 6 c)
      ⊢ iprop(((sndPay m ρ 3 c ∗ snd0 3 c ∗ sndPay m ρ 4 c ∗ snd0 4 c ∗ sndPay m ρ 5 c ∗ snd0 5 c ∗ sndPay m ρ 6 c ∗ snd0 6 c ∗ Owe c (debt c [])) -∗ Q ⟨⟩) -∗ run c (onBufs (k0_part28 (F := F)) ) Q) := by
  unfold onBufs
  rw [k0_part28_eq_skeleton]; unfold k0_part28_skel
  simp only [semSignalWord, semWaitWord, Prog.lift, Prog.bind_op, Prog.bind_ret, Prog.pure_eq_ret, Prog.bind_assoc]
  iintro ⟨#Hc, Hsent3, HO, Hsent4, Hsent5, Hsent6⟩ Hk
  iapply (wts (dstw := (csM.slice rCs0 st1).squeeze S512x2048 squeezes_S1x512x2048_S512x2048) m ρ c K 3 rfl rfl []) $$ [Hsent3 HO]
  · isplitr; · iexact Hc
    isplitl [Hsent3]; · iexact Hsent3
    iexact HO
  iintro ⟨Hsp3, Hsnd03, HO⟩
  iapply (wts (dstw := (csM.slice rCs0 st1).squeeze S512x2048 squeezes_S1x512x2048_S512x2048) m ρ c K 4 rfl rfl []) $$ [Hsent4 HO]
  · isplitr; · iexact Hc
    isplitl [Hsent4]; · iexact Hsent4
    iexact HO
  iintro ⟨Hsp4, Hsnd04, HO⟩
  iapply (wts (dstw := (csM.slice rCs0 st1).squeeze S512x2048 squeezes_S1x512x2048_S512x2048) m ρ c K 5 rfl rfl []) $$ [Hsent5 HO]
  · isplitr; · iexact Hc
    isplitl [Hsent5]; · iexact Hsent5
    iexact HO
  iintro ⟨Hsp5, Hsnd05, HO⟩
  iapply (wts (dstw := (csM.slice rCs0 st1).squeeze S512x2048 squeezes_S1x512x2048_S512x2048) m ρ c K 6 rfl rfl []) $$ [Hsent6 HO]
  · isplitr; · iexact Hc
    isplitl [Hsent6]; · iexact Hsent6
    iexact HO
  iintro ⟨Hsp6, Hsnd06, HO⟩
  iapply (fin c)
  iapply Hk
  isplitl [Hsp3]; · iexact Hsp3
  isplitl [Hsnd03]; · iexact Hsnd03
  isplitl [Hsp4]; · iexact Hsp4
  isplitl [Hsnd04]; · iexact Hsnd04
  isplitl [Hsp5]; · iexact Hsp5
  isplitl [Hsnd05]; · iexact Hsnd05
  isplitl [Hsp6]; · iexact Hsp6
  isplitl [Hsnd06]; · iexact Hsnd06
  iexact HO

theorem part29 {Q : PUnit → sProp (MT nD τ sig Unit (Elt F) ℕ UU ℕ)}  :
    iprop(ctx m ρ K ∗ sent 7 c ∗ Owe c (debt c []) ∗ sent 8 c ∗ sent 9 c)
      ⊢ iprop(((sndPay m ρ 7 c ∗ snd0 7 c ∗ sndPay m ρ 8 c ∗ snd0 8 c ∗ sndPay m ρ 9 c ∗ snd0 9 c ∗ Owe c (debt c [])) -∗ Q ⟨⟩) -∗ run c (onBufs (k0_part29 (F := F)) ) Q) := by
  unfold onBufs
  rw [k0_part29_eq_skeleton]; unfold k0_part29_skel
  simp only [semSignalWord, semWaitWord, Prog.lift, Prog.bind_op, Prog.bind_ret, Prog.pure_eq_ret, Prog.bind_assoc]
  iintro ⟨#Hc, Hsent7, HO, Hsent8, Hsent9⟩ Hk
  iapply (wts (dstw := (csM.slice rCs0 st1).squeeze S512x2048 squeezes_S1x512x2048_S512x2048) m ρ c K 7 rfl rfl []) $$ [Hsent7 HO]
  · isplitr; · iexact Hc
    isplitl [Hsent7]; · iexact Hsent7
    iexact HO
  iintro ⟨Hsp7, Hsnd07, HO⟩
  iapply (wts (dstw := (csM.slice rCs0t st1).squeeze S256x2048 squeezes_S1x256x2048_S256x2048) m ρ c K 8 rfl rfl []) $$ [Hsent8 HO]
  · isplitr; · iexact Hc
    isplitl [Hsent8]; · iexact Hsent8
    iexact HO
  iintro ⟨Hsp8, Hsnd08, HO⟩
  iapply (wts (dstw := (csM.slice rCs0t st1).squeeze S256x2048 squeezes_S1x256x2048_S256x2048) m ρ c K 9 rfl rfl []) $$ [Hsent9 HO]
  · isplitr; · iexact Hc
    isplitl [Hsent9]; · iexact Hsent9
    iexact HO
  iintro ⟨Hsp9, Hsnd09, HO⟩
  iapply (fin c)
  iapply Hk
  isplitl [Hsp7]; · iexact Hsp7
  isplitl [Hsnd07]; · iexact Hsnd07
  isplitl [Hsp8]; · iexact Hsp8
  isplitl [Hsnd08]; · iexact Hsnd08
  isplitl [Hsp9]; · iexact Hsp9
  isplitl [Hsnd09]; · iexact Hsnd09
  iexact HO

end

end Cert.MatmulProof

end
-- ==== Proof.Whole.lean ====
/-
# The run of a device

The parts in the order they are called, then the last waits: from what a device holds when the kernel starts to what it
holds when it has ended.
-/
module

public import proofs.«01_k».proof.Proof.PartsIn

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (K : Dev nD × CIx → ℕ) (c : Dev nD)

theorem bnd {α β : Type} {Q : β → sProp (MT nD τ sig Unit (Elt F) ℕ UU ℕ)} {p : Prog (TpuEff nD τ sig (Elt F) Λ₀ .tc) α} {k : α → Prog (TpuEff nD τ sig (Elt F) Λ₀ .tc) β} :
    run c p (fun a => run c (k a) Q) ⊢ run c (p >>= k) Q := Entails.of_eq (by unfold run; rw [wp_bind])

theorem part1 {Q : (Σ' (d0 : Dev nD) (v2 : BitVec 32) (v14 : BitVec 32) (v25 : BitVec 32) (v28 : BitVec 32) (v29 : BitVec 32), BitVec 1) → sProp (MT nD τ sig Unit (Elt F) ℕ UU ℕ)} :
    iprop(∀ v2 v14 v25 v28 v29 v34, Q ⟨c, v2, v14, v25, v28, v29, v34⟩) ⊢ run c (onBufs (k0_part1 (F := F))) Q := by
  unfold onBufs run
  rw [k0_part1_eq_skeleton]; unfold k0_part1_skel
  simp only [Prog.lift, Prog.bind_op, Prog.bind_ret, Prog.pure_eq_ret, Prog.bind_assoc, wp_deviceId]
  iintro H
  iapply (fin c)
  iapply H

theorem part30 {Q : Dev nD → sProp (MT nD τ sig Unit (Elt F) ℕ UU ℕ)} :
    iprop(ctx m ρ K ∗ dutyTok ER (barC (lf c)) 0 0 ∗ barPay (lf c) 0 ∗ dutyTok ER (barC (rt c)) 0 1 ∗ barPay (rt c) 1 ∗ dutyTok ER (barC (dg c)) 0 2 ∗ barPay (dg c) 2 ∗ cred (tallyAt (barC c) () 3) ∗ atPos ER (barC c) 0 ∅ 0 ∗ Owe c (O₀ c) ∗ ownsTc c aM fullShare (xA m ρ c) ∗ some' c (asM.slice rAs0 st1) ∗ some' c (asM.slice rAs1 st1) ∗ sendKit 12 c ∗ sendKit 13 c ∗ ownsTc c bM fullShare (xB m ρ c) ∗ slot0 c ∗ outS 0 c ∗ cpy0 0 c ∗ some' c (csM.slice rCs0 st1) ∗ sendKit 0 c ∗ sendKit 1 c ∗ sendKit 2 c ∗ slot1 c ∗ outS 1 c ∗ cpy0 1 c ∗ some' c (csM.slice rCs1 st1) ∗ sendKit 3 c ∗ sendKit 4 c ∗ sendKit 5 c ∗ outS 2 c ∗ cpy0 2 c ∗ some' c (csM.slice rCs2 st1) ∗ sendKit 6 c ∗ outS 3 c ∗ cpy0 3 c ∗ some' c (csM.slice rCs3 st1) ∗ sendKit 7 c ∗ recvKit 13 c ∗ recvKit 12 c ∗ outS 4 c ∗ cpy0 4 c ∗ some' c (csM.slice rCs8 st1) ∗ sendKit 8 c ∗ outS 5 c ∗ cpy0 5 c ∗ some' c (csM.slice rCs9 st1) ∗ sendKit 9 c ∗ outS 6 c ∗ cpy0 6 c ∗ some' c (csM.slice rCs10 st1) ∗ sendKit 10 c ∗ outS 7 c ∗ cpy0 7 c ∗ some' c (csM.slice rCs11 st1) ∗ sendKit 11 c ∗ recvKit 0 c ∗ outS 8 c ∗ cpy0 8 c ∗ recvKit 1 c ∗ outS 9 c ∗ cpy0 9 c ∗ recvKit 3 c ∗ outS 10 c ∗ cpy0 10 c ∗ recvKit 4 c ∗ outS 11 c ∗ cpy0 11 c ∗ recvKit 2 c ∗ outS 12 c ∗ cpy0 12 c ∗ recvKit 5 c ∗ outS 13 c ∗ cpy0 13 c ∗ recvKit 6 c ∗ outS 14 c ∗ cpy0 14 c ∗ recvKit 7 c ∗ outS 15 c ∗ cpy0 15 c ∗ recvKit 8 c ∗ outS 16 c ∗ cpy0 16 c ∗ recvKit 9 c ∗ outS 17 c ∗ cpy0 17 c ∗ recvKit 10 c ∗ outS 18 c ∗ cpy0 18 c ∗ recvKit 11 c ∗ outS 19 c ∗ cpy0 19 c)
      ⊢ iprop(((semVal (barC c) 0 ∗ outD m ρ 0 c ∗ cpy0 0 c ∗ ownsTc c aM fullShare (xA m ρ c) ∗ outD m ρ 1 c ∗ cpy0 1 c ∗ rcv0 13 c ∗ rcv0 12 c ∗ outD m ρ 2 c ∗ cpy0 2 c ∗ outD m ρ 3 c ∗ cpy0 3 c ∗ outD m ρ 4 c ∗ cpy0 4 c ∗ rcvPay m ρ 13 c ∗ outD m ρ 5 c ∗ cpy0 5 c ∗ rcvPay m ρ 12 c ∗ ownsTc c bM fullShare (xB m ρ c) ∗ rcv0 0 c ∗ outD m ρ 6 c ∗ cpy0 6 c ∗ rcvPay m ρ 0 c ∗ rcv0 1 c ∗ outD m ρ 7 c ∗ cpy0 7 c ∗ rcvPay m ρ 1 c ∗ rcv0 3 c ∗ outD m ρ 8 c ∗ cpy0 8 c ∗ rcvPay m ρ 3 c ∗ rcv0 4 c ∗ outD m ρ 9 c ∗ cpy0 9 c ∗ rcvPay m ρ 4 c ∗ rcv0 2 c ∗ outD m ρ 10 c ∗ cpy0 10 c ∗ rcvPay m ρ 2 c ∗ rcv0 5 c ∗ outD m ρ 11 c ∗ cpy0 11 c ∗ rcvPay m ρ 5 c ∗ rcv0 6 c ∗ outD m ρ 12 c ∗ cpy0 12 c ∗ rcvPay m ρ 6 c ∗ rcv0 7 c ∗ outD m ρ 13 c ∗ cpy0 13 c ∗ rcvPay m ρ 7 c ∗ rcv0 8 c ∗ outD m ρ 14 c ∗ cpy0 14 c ∗ slot0b c ∗ rcvPay m ρ 8 c ∗ rcv0 9 c ∗ outD m ρ 15 c ∗ cpy0 15 c ∗ slot1b c ∗ rcvPay m ρ 9 c ∗ rcv0 10 c ∗ outD m ρ 16 c ∗ cpy0 16 c ∗ rcvPay m ρ 10 c ∗ rcv0 11 c ∗ outD m ρ 17 c ∗ cpy0 17 c ∗ rcvPay m ρ 11 c ∗ stP m ρ fullShare.left 19 c ∗ flies m ρ 19 c ∗ sndPay m ρ 12 c ∗ snd0 12 c ∗ sndPay m ρ 13 c ∗ snd0 13 c ∗ sndPay m ρ 0 c ∗ snd0 0 c ∗ sndPay m ρ 1 c ∗ snd0 1 c ∗ sndPay m ρ 2 c ∗ snd0 2 c ∗ sndPay m ρ 3 c ∗ snd0 3 c ∗ sndPay m ρ 4 c ∗ snd0 4 c ∗ sndPay m ρ 5 c ∗ snd0 5 c ∗ sndPay m ρ 6 c ∗ snd0 6 c ∗ sndPay m ρ 7 c ∗ snd0 7 c ∗ sndPay m ρ 8 c ∗ snd0 8 c ∗ sndPay m ρ 9 c ∗ snd0 9 c ∗ sndPay m ρ 10 c ∗ snd0 10 c ∗ sndPay m ρ 11 c ∗ snd0 11 c ∗ outD m ρ 18 c ∗ cpy0 18 c ∗ slot0t c ∗ Owe c (debt c [])) -∗ Q c) -∗ run c (onBufs (k0_part30 (F := F))) Q) := by
  unfold onBufs run
  rw [k0_part30_eq_skeleton]; unfold k0_part30_skel
  iintro ⟨#Hc, Htl, Hpl, Htr, Hpr, Htd, Hpd, Hbc, Hba, HO, HA, Has0, Has1, Hkit12, Hkit13, HB, Hslot0, HoutS0, Hz0, Hcs0, Hkit0, Hkit1, Hkit2, Hslot1, HoutS1, Hz1, Hcs1, Hkit3, Hkit4, Hkit5, HoutS2, Hz2, Hcs2, Hkit6, HoutS3, Hz3, Hcs3, Hkit7, Hrk13, Hrk12, HoutS4, Hz4, Hcs8, Hkit8, HoutS5, Hz5, Hcs9, Hkit9, HoutS6, Hz6, Hcs10, Hkit10, HoutS7, Hz7, Hcs11, Hkit11, Hrk0, HoutS8, Hz8, Hrk1, HoutS9, Hz9, Hrk3, HoutS10, Hz10, Hrk4, HoutS11, Hz11, Hrk2, HoutS12, Hz12, Hrk5, HoutS13, Hz13, Hrk6, HoutS14, Hz14, Hrk7, HoutS15, Hz15, Hrk8, HoutS16, Hz16, Hrk9, HoutS17, Hz17, Hrk10, HoutS18, Hz18, Hrk11, HoutS19, Hz19⟩ Hk
  rw [wp_bind]
  iapply (part1 c)
  iintro %v2 %v14 %v25 %v28 %v29 %v34
  dsimp only
  iapply (bnd c)
  iapply (part2 m ρ K c _ _ _ _ _) $$ [Htl Hpl Htr Hpr Htd Hpd Hbc Hba HO HA Has0 Has1]
  · isplitr; · iexact Hc
    isplitl [Htl]; · iexact Htl
    isplitl [Hpl]; · iexact Hpl
    isplitl [Htr]; · iexact Htr
    isplitl [Hpr]; · iexact Hpr
    isplitl [Htd]; · iexact Htd
    isplitl [Hpd]; · iexact Hpd
    isplitl [Hbc]; · iexact Hbc
    isplitl [Hba]; · iexact Hba
    isplitl [HO]; · iexact HO
    isplitl [HA]; · iexact HA
    isplitl [Has0]; · iexact Has0
    iexact Has1
  iintro %v36 ⟨Hland1, Hland4, Hland7, Hland8, Hland10, Hland13, Hland0, Hland3, Hland6, Hland9, Hland11, Hland12, Hland2, Hland5, Hbz, HO, Hsp12, HA, Hsp13⟩
  iapply (bnd c)
  iapply (part3 m ρ K c _ _) $$ [Hsp12 Hland12 Hkit12 HO Hsp13 Hland13 Hkit13 HA HB Hslot0 HoutS0 Hz0]
  · isplitr; · iexact Hc
    isplitl [Hsp12]; · iexact Hsp12
    isplitl [Hland12]; · iexact Hland12
    isplitl [Hkit12]; · iexact Hkit12
    isplitl [HO]; · iexact HO
    isplitl [Hsp13]; · iexact Hsp13
    isplitl [Hland13]; · iexact Hland13
    isplitl [Hkit13]; · iexact Hkit13
    isplitl [HA]; · iexact HA
    isplitl [HB]; · iexact HB
    isplitl [Hslot0]; · iexact Hslot0
    isplitl [HoutS0]; · iexact HoutS0
    iexact Hz0
  iintro ⟨Hsent12, Hsent13, HO, HA, HB, Hfl0, HstL0⟩
  iapply (bnd c)
  iapply (part4 m ρ K c _ _ _) $$ [Hcs0 Hland0 Hkit0 HO Hland1 Hkit1]
  · isplitr; · iexact Hc
    isplitl [Hcs0]; · iexact Hcs0
    isplitl [Hland0]; · iexact Hland0
    isplitl [Hkit0]; · iexact Hkit0
    isplitl [HO]; · iexact HO
    isplitl [Hland1]; · iexact Hland1
    iexact Hkit1
  iintro ⟨Hsp2, Hsent0, Hsent1, HO⟩
  iapply (bnd c)
  iapply (part5 m ρ K c _ _) $$ [Hsp2 Hland2 Hkit2 HO HA HB Hslot1 HoutS1 Hz1 Hcs1]
  · isplitr; · iexact Hc
    isplitl [Hsp2]; · iexact Hsp2
    isplitl [Hland2]; · iexact Hland2
    isplitl [Hkit2]; · iexact Hkit2
    isplitl [HO]; · iexact HO
    isplitl [HA]; · iexact HA
    isplitl [HB]; · iexact HB
    isplitl [Hslot1]; · iexact Hslot1
    isplitl [HoutS1]; · iexact HoutS1
    isplitl [Hz1]; · iexact Hz1
    iexact Hcs1
  iintro %r5 ⟨Hsent2, HO, HA, HB, Hfl1, HstL1, Hsp3, Hsp4, Hsp5⟩
  obtain ⟨v144, z0⟩ := r5
  dsimp only
  iapply (bnd c)
  iapply (part6 m ρ K c _ _ _ _) $$ [Hsp3 Hland3 Hkit3 HO Hsp4 Hland4 Hkit4 Hsp5 Hland5 Hkit5 HA]
  · isplitr; · iexact Hc
    isplitl [Hsp3]; · iexact Hsp3
    isplitl [Hland3]; · iexact Hland3
    isplitl [Hkit3]; · iexact Hkit3
    isplitl [HO]; · iexact HO
    isplitl [Hsp4]; · iexact Hsp4
    isplitl [Hland4]; · iexact Hland4
    isplitl [Hkit4]; · iexact Hkit4
    isplitl [Hsp5]; · iexact Hsp5
    isplitl [Hland5]; · iexact Hland5
    isplitl [Hkit5]; · iexact Hkit5
    iexact HA
  iintro ⟨Hsent3, Hsent4, Hsent5, HO, HA⟩
  iapply (bnd c)
  iapply (part7 m ρ K c _ _) $$ [Hfl0 HstL0 HO HB HoutS2 Hz2 Hcs2]
  · isplitr; · iexact Hc
    isplitl [Hfl0]; · iexact Hfl0
    isplitl [HstL0]; · iexact HstL0
    isplitl [HO]; · iexact HO
    isplitl [HB]; · iexact HB
    isplitl [HoutS2]; · iexact HoutS2
    isplitl [Hz2]; · iexact Hz2
    iexact Hcs2
  iintro ⟨HoutD0, Hz0, HO, HB, Hfl2, HstL2, Hsp6⟩
  iapply (bnd c)
  iapply (part8 m ρ K c _) $$ [Hsp6 Hland6 Hkit6 HO HA Hfl1 HstL1 HB HoutS3 Hz3]
  · isplitr; · iexact Hc
    isplitl [Hsp6]; · iexact Hsp6
    isplitl [Hland6]; · iexact Hland6
    isplitl [Hkit6]; · iexact Hkit6
    isplitl [HO]; · iexact HO
    isplitl [HA]; · iexact HA
    isplitl [Hfl1]; · iexact Hfl1
    isplitl [HstL1]; · iexact HstL1
    isplitl [HB]; · iexact HB
    isplitl [HoutS3]; · iexact HoutS3
    iexact Hz3
  iintro ⟨Hsent6, HA, HoutD1, Hz1, HO, HB, Hfl3, HstL3⟩
  iapply (bnd c)
  iapply (part9 m ρ K c _ _) $$ [Hcs3 Hland7 Hkit7 HO Hrk13 Hrk12]
  · isplitr; · iexact Hc
    isplitl [Hcs3]; · iexact Hcs3
    isplitl [Hland7]; · iexact Hland7
    isplitl [Hkit7]; · iexact Hkit7
    isplitl [HO]; · iexact HO
    isplitl [Hrk13]; · iexact Hrk13
    iexact Hrk12
  iintro %v258 ⟨Hsent7, Hrp13, Hrcv013, Hrp12, Hrcv012, HO⟩
  iapply (bnd c)
  iapply (part10 m ρ K c _ _) $$ [Hfl2 HstL2 HO Hrp13 HB HoutS4 Hz4 Hcs8]
  · isplitr; · iexact Hc
    isplitl [Hfl2]; · iexact Hfl2
    isplitl [HstL2]; · iexact HstL2
    isplitl [HO]; · iexact HO
    isplitl [Hrp13]; · iexact Hrp13
    isplitl [HB]; · iexact HB
    isplitl [HoutS4]; · iexact HoutS4
    isplitl [Hz4]; · iexact Hz4
    iexact Hcs8
  iintro %r10 ⟨HoutD2, Hz2, HO, Hslot0b, Hrp13, HB, Hfl4, HstL4, Hsp8⟩
  obtain ⟨v259, v261⟩ := r10
  dsimp only
  iapply (bnd c)
  iapply (part11 m ρ K c _ _) $$ [Hsp8 Hland8 Hkit8 HO Hfl3 HstL3 Hrp12 HB]
  · isplitr; · iexact Hc
    isplitl [Hsp8]; · iexact Hsp8
    isplitl [Hland8]; · iexact Hland8
    isplitl [Hkit8]; · iexact Hkit8
    isplitl [HO]; · iexact HO
    isplitl [Hfl3]; · iexact Hfl3
    isplitl [HstL3]; · iexact HstL3
    isplitl [Hrp12]; · iexact Hrp12
    iexact HB
  iintro ⟨Hsent8, HoutD3, Hz3, HO, Hslot1b, Hrp12, HB, HstF5⟩
  iapply (bnd c)
  iapply (part12 m ρ K c _) $$ [HstF5 HoutS5 Hz5 Hcs9 Hland9 Hkit9 HO Hfl4 HstL4 Hrp13 HB]
  · isplitr; · iexact Hc
    isplitl [HstF5]; · iexact HstF5
    isplitl [HoutS5]; · iexact HoutS5
    isplitl [Hz5]; · iexact Hz5
    isplitl [Hcs9]; · iexact Hcs9
    isplitl [Hland9]; · iexact Hland9
    isplitl [Hkit9]; · iexact Hkit9
    isplitl [HO]; · iexact HO
    isplitl [Hfl4]; · iexact Hfl4
    isplitl [HstL4]; · iexact HstL4
    isplitl [Hrp13]; · iexact Hrp13
    iexact HB
  iintro ⟨Hfl5, HstL5, Hsent9, HoutD4, Hz4, Hslot0t, HO, Hrp13, HB⟩
  iapply (bnd c)
  iapply (part13 m ρ K c _ _) $$ [Hslot0t HoutS6 Hz6 Hcs10 Hland10 Hkit10 HO]
  · isplitr; · iexact Hc
    isplitl [Hslot0t]; · iexact Hslot0t
    isplitl [HoutS6]; · iexact HoutS6
    isplitl [Hz6]; · iexact Hz6
    isplitl [Hcs10]; · iexact Hcs10
    isplitl [Hland10]; · iexact Hland10
    isplitl [Hkit10]; · iexact Hkit10
    iexact HO
  iintro ⟨Hfl6, HstL6, Hsent10, HO⟩
  iapply (bnd c)
  iapply (part14 m ρ K c _ _) $$ [Hfl5 HstL5 HO Hrp12 HB HoutS7 Hz7 Hcs11]
  · isplitr; · iexact Hc
    isplitl [Hfl5]; · iexact Hfl5
    isplitl [HstL5]; · iexact HstL5
    isplitl [HO]; · iexact HO
    isplitl [Hrp12]; · iexact Hrp12
    isplitl [HB]; · iexact HB
    isplitl [HoutS7]; · iexact HoutS7
    isplitl [Hz7]; · iexact Hz7
    iexact Hcs11
  iintro ⟨HoutD5, Hz5, HO, Hrp12, HB, Hfl7, HstL7, Hsp11⟩
  iapply (bnd c)
  iapply (part15 m ρ K c _ _ _) $$ [Hsp11 Hland11 Hkit11 HO]
  · isplitr; · iexact Hc
    isplitl [Hsp11]; · iexact Hsp11
    isplitl [Hland11]; · iexact Hland11
    isplitl [Hkit11]; · iexact Hkit11
    iexact HO
  iintro ⟨Hsent11, HO⟩
  iapply (bnd c)
  iapply (part16 m ρ K c _) $$ [Hrk0 HO Hfl6 HstL6 Hslot0b HoutS8 Hz8]
  · isplitr; · iexact Hc
    isplitl [Hrk0]; · iexact Hrk0
    isplitl [HO]; · iexact HO
    isplitl [Hfl6]; · iexact Hfl6
    isplitl [HstL6]; · iexact HstL6
    isplitl [Hslot0b]; · iexact Hslot0b
    isplitl [HoutS8]; · iexact HoutS8
    iexact Hz8
  iintro ⟨Hrcv00, HoutD6, Hz6, HO, Hrp0, HstL8, Hfl8⟩
  iapply (bnd c)
  iapply (part17 m ρ K c _) $$ [Hrk1 HO Hfl7 HstL7 Hslot1b HoutS9 Hz9]
  · isplitr; · iexact Hc
    isplitl [Hrk1]; · iexact Hrk1
    isplitl [HO]; · iexact HO
    isplitl [Hfl7]; · iexact Hfl7
    isplitl [HstL7]; · iexact HstL7
    isplitl [Hslot1b]; · iexact Hslot1b
    isplitl [HoutS9]; · iexact HoutS9
    iexact Hz9
  iintro ⟨Hrcv01, HoutD7, Hz7, HO, Hrp1, HstL9, Hfl9⟩
  iapply (bnd c)
  iapply (part18 m ρ K c _) $$ [Hrk3 HO Hfl8 HstL8 HoutS10 Hz10 Hrk4]
  · isplitr; · iexact Hc
    isplitl [Hrk3]; · iexact Hrk3
    isplitl [HO]; · iexact HO
    isplitl [Hfl8]; · iexact Hfl8
    isplitl [HstL8]; · iexact HstL8
    isplitl [HoutS10]; · iexact HoutS10
    isplitl [Hz10]; · iexact Hz10
    iexact Hrk4
  iintro ⟨Hrcv03, HoutD8, Hz8, Hrp3, HstL10, Hfl10, Hrp4, Hrcv04, HO⟩
  iapply (bnd c)
  iapply (part19 m ρ K c _) $$ [Hfl9 HstL9 HO Hrp4 HoutS11 Hz11 Hrk2]
  · isplitr; · iexact Hc
    isplitl [Hfl9]; · iexact Hfl9
    isplitl [HstL9]; · iexact HstL9
    isplitl [HO]; · iexact HO
    isplitl [Hrp4]; · iexact Hrp4
    isplitl [HoutS11]; · iexact HoutS11
    isplitl [Hz11]; · iexact Hz11
    iexact Hrk2
  iintro ⟨HoutD9, Hz9, Hrp4, HstL11, Hfl11, Hrp2, Hrcv02, HO⟩
  iapply (bnd c)
  iapply (part20 m ρ K c _) $$ [Hfl10 HstL10 HO Hrp2 HoutS12 Hz12 Hrk5 Hfl11 HstL11]
  · isplitr; · iexact Hc
    isplitl [Hfl10]; · iexact Hfl10
    isplitl [HstL10]; · iexact HstL10
    isplitl [HO]; · iexact HO
    isplitl [Hrp2]; · iexact Hrp2
    isplitl [HoutS12]; · iexact HoutS12
    isplitl [Hz12]; · iexact Hz12
    isplitl [Hrk5]; · iexact Hrk5
    isplitl [Hfl11]; · iexact Hfl11
    iexact HstL11
  iintro ⟨HoutD10, Hz10, Hrp2, HstL12, Hfl12, Hrp5, Hrcv05, HoutD11, Hz11, Hslot1, HO⟩
  iapply (bnd c)
  iapply (part21 m ρ K c _) $$ [Hrp5 Hslot1 HoutS13 Hz13 Hrk6 HO Hfl12 HstL12]
  · isplitr; · iexact Hc
    isplitl [Hrp5]; · iexact Hrp5
    isplitl [Hslot1]; · iexact Hslot1
    isplitl [HoutS13]; · iexact HoutS13
    isplitl [Hz13]; · iexact Hz13
    isplitl [Hrk6]; · iexact Hrk6
    isplitl [HO]; · iexact HO
    isplitl [Hfl12]; · iexact Hfl12
    iexact HstL12
  iintro ⟨Hrp5, HstL13, Hfl13, Hrcv06, HoutD12, Hz12, Hslot0, HO, Hrp6⟩
  iapply (bnd c)
  iapply (part22 m ρ K c _) $$ [Hslot0 HoutS14 Hz14 Hrk7 HO Hfl13 HstL13]
  · isplitr; · iexact Hc
    isplitl [Hslot0]; · iexact Hslot0
    isplitl [HoutS14]; · iexact HoutS14
    isplitl [Hz14]; · iexact Hz14
    isplitl [Hrk7]; · iexact Hrk7
    isplitl [HO]; · iexact HO
    isplitl [Hfl13]; · iexact Hfl13
    iexact HstL13
  iintro ⟨HstL14, Hfl14, Hrcv07, HoutD13, Hz13, HO, Hrp7, HstF15⟩
  iapply (bnd c)
  iapply (part23 m ρ K c _) $$ [HstF15 HoutS15 Hz15 Hrk8 HO Hfl14 HstL14]
  · isplitr; · iexact Hc
    isplitl [HstF15]; · iexact HstF15
    isplitl [HoutS15]; · iexact HoutS15
    isplitl [Hz15]; · iexact Hz15
    isplitl [Hrk8]; · iexact Hrk8
    isplitl [HO]; · iexact HO
    isplitl [Hfl14]; · iexact Hfl14
    iexact HstL14
  iintro ⟨HstL15, Hfl15, Hrcv08, HoutD14, Hz14, HO, Hslot0b, Hrp8, HstF16⟩
  iapply (bnd c)
  iapply (part24 m ρ K c _) $$ [HstF16 HoutS16 Hz16 Hrk9 HO Hfl15 HstL15 HoutS17 Hz17]
  · isplitr; · iexact Hc
    isplitl [HstF16]; · iexact HstF16
    isplitl [HoutS16]; · iexact HoutS16
    isplitl [Hz16]; · iexact Hz16
    isplitl [Hrk9]; · iexact Hrk9
    isplitl [HO]; · iexact HO
    isplitl [Hfl15]; · iexact Hfl15
    isplitl [HstL15]; · iexact HstL15
    isplitl [HoutS17]; · iexact HoutS17
    iexact Hz17
  iintro ⟨HstL16, Hfl16, Hrcv09, HoutD15, Hz15, HO, Hslot1b, Hrp9, HstL17, Hfl17⟩
  iapply (bnd c)
  iapply (part25 m ρ K c _) $$ [Hrk10 HO Hfl16 HstL16 HoutS18 Hz18]
  · isplitr; · iexact Hc
    isplitl [Hrk10]; · iexact Hrk10
    isplitl [HO]; · iexact HO
    isplitl [Hfl16]; · iexact Hfl16
    isplitl [HstL16]; · iexact HstL16
    isplitl [HoutS18]; · iexact HoutS18
    iexact Hz18
  iintro ⟨Hrcv010, HoutD16, Hz16, HO, Hrp10, HstL18, Hfl18⟩
  iapply (bnd c)
  iapply (part26 m ρ K c) $$ [Hrk11 HO Hfl17 HstL17 HoutS19 Hz19 Hsent12]
  · isplitr; · iexact Hc
    isplitl [Hrk11]; · iexact Hrk11
    isplitl [HO]; · iexact HO
    isplitl [Hfl17]; · iexact Hfl17
    isplitl [HstL17]; · iexact HstL17
    isplitl [HoutS19]; · iexact HoutS19
    isplitl [Hz19]; · iexact Hz19
    iexact Hsent12
  iintro ⟨Hrcv011, HoutD17, Hz17, Hrp11, HstL19, Hfl19, Hsp12, Hsnd012, HO⟩
  iapply (bnd c)
  iapply (part27 m ρ K c) $$ [Hsent13 HO Hsent0 Hsent1 Hsent2]
  · isplitr; · iexact Hc
    isplitl [Hsent13]; · iexact Hsent13
    isplitl [HO]; · iexact HO
    isplitl [Hsent0]; · iexact Hsent0
    isplitl [Hsent1]; · iexact Hsent1
    iexact Hsent2
  iintro ⟨Hsp13, Hsnd013, Hsp0, Hsnd00, Hsp1, Hsnd01, Hsp2, Hsnd02, HO⟩
  iapply (bnd c)
  iapply (part28 m ρ K c) $$ [Hsent3 HO Hsent4 Hsent5 Hsent6]
  · isplitr; · iexact Hc
    isplitl [Hsent3]; · iexact Hsent3
    isplitl [HO]; · iexact HO
    isplitl [Hsent4]; · iexact Hsent4
    isplitl [Hsent5]; · iexact Hsent5
    iexact Hsent6
  iintro ⟨Hsp3, Hsnd03, Hsp4, Hsnd04, Hsp5, Hsnd05, Hsp6, Hsnd06, HO⟩
  iapply (bnd c)
  iapply (part29 m ρ K c) $$ [Hsent7 HO Hsent8 Hsent9]
  · isplitr; · iexact Hc
    isplitl [Hsent7]; · iexact Hsent7
    isplitl [HO]; · iexact HO
    isplitl [Hsent8]; · iexact Hsent8
    iexact Hsent9
  iintro ⟨Hsp7, Hsnd07, Hsp8, Hsnd08, Hsp9, Hsnd09, HO⟩
  simp only [Prog.lift, Prog.bind_op, Prog.bind_ret, Prog.pure_eq_ret, Prog.bind_assoc]
  iapply (wts (dstw := (csM.slice rCs0t st1).squeeze S256x2048 squeezes_S1x256x2048_S256x2048) m ρ c K 10 rfl rfl []) $$ [Hsent10 HO]
  · isplitr; · iexact Hc
    isplitl [Hsent10]; · iexact Hsent10
    iexact HO
  iintro ⟨Hsp10, Hsnd010, HO⟩
  iapply (wts (dstw := (csM.slice rCs0t st1).squeeze S256x2048 squeezes_S1x256x2048_S256x2048) m ρ c K 11 rfl rfl []) $$ [Hsent11 HO]
  · isplitr; · iexact Hc
    isplitl [Hsent11]; · iexact Hsent11
    iexact HO
  iintro ⟨Hsp11, Hsnd011, HO⟩
  iapply (wtc (dstw := oM.slice (rO c 18) (rO_stride c 18)) (ms := stM.slice rSt0t st1) (W := w18 m ρ c) m ρ c K 18 rfl (nO_18 c) (fun _ => rfl) []) $$ [Hfl18 HstL18 HO]
  · isplitr; · iexact Hc
    isplitl [Hfl18]; · iexact Hfl18
    isplitl [HstL18]; · iexact HstL18
    iexact HO
  iintro ⟨HoutD18, Hz18, Hslot0t, HO⟩
  iapply (fin c)
  iapply Hk
  isplitl [Hbz]; · iexact Hbz
  isplitl [HoutD0]; · iexact HoutD0
  isplitl [Hz0]; · iexact Hz0
  isplitl [HA]; · iexact HA
  isplitl [HoutD1]; · iexact HoutD1
  isplitl [Hz1]; · iexact Hz1
  isplitl [Hrcv013]; · iexact Hrcv013
  isplitl [Hrcv012]; · iexact Hrcv012
  isplitl [HoutD2]; · iexact HoutD2
  isplitl [Hz2]; · iexact Hz2
  isplitl [HoutD3]; · iexact HoutD3
  isplitl [Hz3]; · iexact Hz3
  isplitl [HoutD4]; · iexact HoutD4
  isplitl [Hz4]; · iexact Hz4
  isplitl [Hrp13]; · iexact Hrp13
  isplitl [HoutD5]; · iexact HoutD5
  isplitl [Hz5]; · iexact Hz5
  isplitl [Hrp12]; · iexact Hrp12
  isplitl [HB]; · iexact HB
  isplitl [Hrcv00]; · iexact Hrcv00
  isplitl [HoutD6]; · iexact HoutD6
  isplitl [Hz6]; · iexact Hz6
  isplitl [Hrp0]; · iexact Hrp0
  isplitl [Hrcv01]; · iexact Hrcv01
  isplitl [HoutD7]; · iexact HoutD7
  isplitl [Hz7]; · iexact Hz7
  isplitl [Hrp1]; · iexact Hrp1
  isplitl [Hrcv03]; · iexact Hrcv03
  isplitl [HoutD8]; · iexact HoutD8
  isplitl [Hz8]; · iexact Hz8
  isplitl [Hrp3]; · iexact Hrp3
  isplitl [Hrcv04]; · iexact Hrcv04
  isplitl [HoutD9]; · iexact HoutD9
  isplitl [Hz9]; · iexact Hz9
  isplitl [Hrp4]; · iexact Hrp4
  isplitl [Hrcv02]; · iexact Hrcv02
  isplitl [HoutD10]; · iexact HoutD10
  isplitl [Hz10]; · iexact Hz10
  isplitl [Hrp2]; · iexact Hrp2
  isplitl [Hrcv05]; · iexact Hrcv05
  isplitl [HoutD11]; · iexact HoutD11
  isplitl [Hz11]; · iexact Hz11
  isplitl [Hrp5]; · iexact Hrp5
  isplitl [Hrcv06]; · iexact Hrcv06
  isplitl [HoutD12]; · iexact HoutD12
  isplitl [Hz12]; · iexact Hz12
  isplitl [Hrp6]; · iexact Hrp6
  isplitl [Hrcv07]; · iexact Hrcv07
  isplitl [HoutD13]; · iexact HoutD13
  isplitl [Hz13]; · iexact Hz13
  isplitl [Hrp7]; · iexact Hrp7
  isplitl [Hrcv08]; · iexact Hrcv08
  isplitl [HoutD14]; · iexact HoutD14
  isplitl [Hz14]; · iexact Hz14
  isplitl [Hslot0b]; · iexact Hslot0b
  isplitl [Hrp8]; · iexact Hrp8
  isplitl [Hrcv09]; · iexact Hrcv09
  isplitl [HoutD15]; · iexact HoutD15
  isplitl [Hz15]; · iexact Hz15
  isplitl [Hslot1b]; · iexact Hslot1b
  isplitl [Hrp9]; · iexact Hrp9
  isplitl [Hrcv010]; · iexact Hrcv010
  isplitl [HoutD16]; · iexact HoutD16
  isplitl [Hz16]; · iexact Hz16
  isplitl [Hrp10]; · iexact Hrp10
  isplitl [Hrcv011]; · iexact Hrcv011
  isplitl [HoutD17]; · iexact HoutD17
  isplitl [Hz17]; · iexact Hz17
  isplitl [Hrp11]; · iexact Hrp11
  isplitl [HstL19]; · iexact HstL19
  isplitl [Hfl19]; · iexact Hfl19
  isplitl [Hsp12]; · iexact Hsp12
  isplitl [Hsnd012]; · iexact Hsnd012
  isplitl [Hsp13]; · iexact Hsp13
  isplitl [Hsnd013]; · iexact Hsnd013
  isplitl [Hsp0]; · iexact Hsp0
  isplitl [Hsnd00]; · iexact Hsnd00
  isplitl [Hsp1]; · iexact Hsp1
  isplitl [Hsnd01]; · iexact Hsnd01
  isplitl [Hsp2]; · iexact Hsp2
  isplitl [Hsnd02]; · iexact Hsnd02
  isplitl [Hsp3]; · iexact Hsp3
  isplitl [Hsnd03]; · iexact Hsnd03
  isplitl [Hsp4]; · iexact Hsp4
  isplitl [Hsnd04]; · iexact Hsnd04
  isplitl [Hsp5]; · iexact Hsp5
  isplitl [Hsnd05]; · iexact Hsnd05
  isplitl [Hsp6]; · iexact Hsp6
  isplitl [Hsnd06]; · iexact Hsnd06
  isplitl [Hsp7]; · iexact Hsp7
  isplitl [Hsnd07]; · iexact Hsnd07
  isplitl [Hsp8]; · iexact Hsp8
  isplitl [Hsnd08]; · iexact Hsnd08
  isplitl [Hsp9]; · iexact Hsp9
  isplitl [Hsnd09]; · iexact Hsnd09
  isplitl [Hsp10]; · iexact Hsp10
  isplitl [Hsnd010]; · iexact Hsnd010
  isplitl [Hsp11]; · iexact Hsp11
  isplitl [Hsnd011]; · iexact Hsnd011
  isplitl [HoutD18]; · iexact HoutD18
  isplitl [Hz18]; · iexact Hz18
  isplitl [Hslot0t]; · iexact Hslot0t
  iexact HO

theorem body {Q : PUnit → sProp (MT nD τ sig Unit (Elt F) ℕ UU ℕ)} :
    iprop(ctx m ρ K ∗ dutyTok ER (barC (lf c)) 0 0 ∗ barPay (lf c) 0 ∗ dutyTok ER (barC (rt c)) 0 1 ∗ barPay (rt c) 1 ∗ dutyTok ER (barC (dg c)) 0 2 ∗ barPay (dg c) 2 ∗ cred (tallyAt (barC c) () 3) ∗ atPos ER (barC c) 0 ∅ 0 ∗ Owe c (O₀ c) ∗ ownsTc c aM fullShare (xA m ρ c) ∗ some' c (asM.slice rAs0 st1) ∗ some' c (asM.slice rAs1 st1) ∗ sendKit 12 c ∗ sendKit 13 c ∗ ownsTc c bM fullShare (xB m ρ c) ∗ slot0 c ∗ outS 0 c ∗ cpy0 0 c ∗ some' c (csM.slice rCs0 st1) ∗ sendKit 0 c ∗ sendKit 1 c ∗ sendKit 2 c ∗ slot1 c ∗ outS 1 c ∗ cpy0 1 c ∗ some' c (csM.slice rCs1 st1) ∗ sendKit 3 c ∗ sendKit 4 c ∗ sendKit 5 c ∗ outS 2 c ∗ cpy0 2 c ∗ some' c (csM.slice rCs2 st1) ∗ sendKit 6 c ∗ outS 3 c ∗ cpy0 3 c ∗ some' c (csM.slice rCs3 st1) ∗ sendKit 7 c ∗ recvKit 13 c ∗ recvKit 12 c ∗ outS 4 c ∗ cpy0 4 c ∗ some' c (csM.slice rCs8 st1) ∗ sendKit 8 c ∗ outS 5 c ∗ cpy0 5 c ∗ some' c (csM.slice rCs9 st1) ∗ sendKit 9 c ∗ outS 6 c ∗ cpy0 6 c ∗ some' c (csM.slice rCs10 st1) ∗ sendKit 10 c ∗ outS 7 c ∗ cpy0 7 c ∗ some' c (csM.slice rCs11 st1) ∗ sendKit 11 c ∗ recvKit 0 c ∗ outS 8 c ∗ cpy0 8 c ∗ recvKit 1 c ∗ outS 9 c ∗ cpy0 9 c ∗ recvKit 3 c ∗ outS 10 c ∗ cpy0 10 c ∗ recvKit 4 c ∗ outS 11 c ∗ cpy0 11 c ∗ recvKit 2 c ∗ outS 12 c ∗ cpy0 12 c ∗ recvKit 5 c ∗ outS 13 c ∗ cpy0 13 c ∗ recvKit 6 c ∗ outS 14 c ∗ cpy0 14 c ∗ recvKit 7 c ∗ outS 15 c ∗ cpy0 15 c ∗ recvKit 8 c ∗ outS 16 c ∗ cpy0 16 c ∗ recvKit 9 c ∗ outS 17 c ∗ cpy0 17 c ∗ recvKit 10 c ∗ outS 18 c ∗ cpy0 18 c ∗ recvKit 11 c ∗ outS 19 c ∗ cpy0 19 c)
      ⊢ iprop(((semVal (barC c) 0 ∗ outD m ρ 0 c ∗ cpy0 0 c ∗ ownsTc c aM fullShare (xA m ρ c) ∗ outD m ρ 1 c ∗ cpy0 1 c ∗ rcv0 13 c ∗ rcv0 12 c ∗ outD m ρ 2 c ∗ cpy0 2 c ∗ outD m ρ 3 c ∗ cpy0 3 c ∗ outD m ρ 4 c ∗ cpy0 4 c ∗ rcvPay m ρ 13 c ∗ outD m ρ 5 c ∗ cpy0 5 c ∗ rcvPay m ρ 12 c ∗ ownsTc c bM fullShare (xB m ρ c) ∗ rcv0 0 c ∗ outD m ρ 6 c ∗ cpy0 6 c ∗ rcvPay m ρ 0 c ∗ rcv0 1 c ∗ outD m ρ 7 c ∗ cpy0 7 c ∗ rcvPay m ρ 1 c ∗ rcv0 3 c ∗ outD m ρ 8 c ∗ cpy0 8 c ∗ rcvPay m ρ 3 c ∗ rcv0 4 c ∗ outD m ρ 9 c ∗ cpy0 9 c ∗ rcvPay m ρ 4 c ∗ rcv0 2 c ∗ outD m ρ 10 c ∗ cpy0 10 c ∗ rcvPay m ρ 2 c ∗ rcv0 5 c ∗ outD m ρ 11 c ∗ cpy0 11 c ∗ rcvPay m ρ 5 c ∗ rcv0 6 c ∗ outD m ρ 12 c ∗ cpy0 12 c ∗ rcvPay m ρ 6 c ∗ rcv0 7 c ∗ outD m ρ 13 c ∗ cpy0 13 c ∗ rcvPay m ρ 7 c ∗ rcv0 8 c ∗ outD m ρ 14 c ∗ cpy0 14 c ∗ rcvPay m ρ 8 c ∗ rcv0 9 c ∗ outD m ρ 15 c ∗ cpy0 15 c ∗ rcvPay m ρ 9 c ∗ rcv0 10 c ∗ outD m ρ 16 c ∗ cpy0 16 c ∗ rcvPay m ρ 10 c ∗ rcv0 11 c ∗ outD m ρ 17 c ∗ cpy0 17 c ∗ rcvPay m ρ 11 c ∗ sndPay m ρ 12 c ∗ snd0 12 c ∗ sndPay m ρ 13 c ∗ snd0 13 c ∗ sndPay m ρ 0 c ∗ snd0 0 c ∗ sndPay m ρ 1 c ∗ snd0 1 c ∗ sndPay m ρ 2 c ∗ snd0 2 c ∗ sndPay m ρ 3 c ∗ snd0 3 c ∗ sndPay m ρ 4 c ∗ snd0 4 c ∗ sndPay m ρ 5 c ∗ snd0 5 c ∗ sndPay m ρ 6 c ∗ snd0 6 c ∗ sndPay m ρ 7 c ∗ snd0 7 c ∗ sndPay m ρ 8 c ∗ snd0 8 c ∗ sndPay m ρ 9 c ∗ snd0 9 c ∗ sndPay m ρ 10 c ∗ snd0 10 c ∗ sndPay m ρ 11 c ∗ snd0 11 c ∗ outD m ρ 18 c ∗ cpy0 18 c ∗ outD m ρ 19 c ∗ cpy0 19 c ∗ Owe c (debt c []) ∗ slot0 c ∗ slot1 c) -∗ Q ⟨⟩) -∗ run c (onBufs (cc0_body (F := F))) Q) := by
  unfold onBufs run
  rw [cc0_body_eq_skeleton]; unfold cc0_body_skel
  rw [wp_bind]
  iintro ⟨#Hc, Htl, Hpl, Htr, Hpr, Htd, Hpd, Hbc, Hba, HO, HA, Has0, Has1, Hkit12, Hkit13, HB, Hslot0, HoutS0, Hz0, Hcs0, Hkit0, Hkit1, Hkit2, Hslot1, HoutS1, Hz1, Hcs1, Hkit3, Hkit4, Hkit5, HoutS2, Hz2, Hcs2, Hkit6, HoutS3, Hz3, Hcs3, Hkit7, Hrk13, Hrk12, HoutS4, Hz4, Hcs8, Hkit8, HoutS5, Hz5, Hcs9, Hkit9, HoutS6, Hz6, Hcs10, Hkit10, HoutS7, Hz7, Hcs11, Hkit11, Hrk0, HoutS8, Hz8, Hrk1, HoutS9, Hz9, Hrk3, HoutS10, Hz10, Hrk4, HoutS11, Hz11, Hrk2, HoutS12, Hz12, Hrk5, HoutS13, Hz13, Hrk6, HoutS14, Hz14, Hrk7, HoutS15, Hz15, Hrk8, HoutS16, Hz16, Hrk9, HoutS17, Hz17, Hrk10, HoutS18, Hz18, Hrk11, HoutS19, Hz19⟩ Hk
  iapply (part30 m ρ K c) $$ [Htl Hpl Htr Hpr Htd Hpd Hbc Hba HO HA Has0 Has1 Hkit12 Hkit13 HB Hslot0 HoutS0 Hz0 Hcs0 Hkit0 Hkit1 Hkit2 Hslot1 HoutS1 Hz1 Hcs1 Hkit3 Hkit4 Hkit5 HoutS2 Hz2 Hcs2 Hkit6 HoutS3 Hz3 Hcs3 Hkit7 Hrk13 Hrk12 HoutS4 Hz4 Hcs8 Hkit8 HoutS5 Hz5 Hcs9 Hkit9 HoutS6 Hz6 Hcs10 Hkit10 HoutS7 Hz7 Hcs11 Hkit11 Hrk0 HoutS8 Hz8 Hrk1 HoutS9 Hz9 Hrk3 HoutS10 Hz10 Hrk4 HoutS11 Hz11 Hrk2 HoutS12 Hz12 Hrk5 HoutS13 Hz13 Hrk6 HoutS14 Hz14 Hrk7 HoutS15 Hz15 Hrk8 HoutS16 Hz16 Hrk9 HoutS17 Hz17 Hrk10 HoutS18 Hz18 Hrk11 HoutS19 Hz19]
  · isplitr; · iexact Hc
    isplitl [Htl]; · iexact Htl
    isplitl [Hpl]; · iexact Hpl
    isplitl [Htr]; · iexact Htr
    isplitl [Hpr]; · iexact Hpr
    isplitl [Htd]; · iexact Htd
    isplitl [Hpd]; · iexact Hpd
    isplitl [Hbc]; · iexact Hbc
    isplitl [Hba]; · iexact Hba
    isplitl [HO]; · iexact HO
    isplitl [HA]; · iexact HA
    isplitl [Has0]; · iexact Has0
    isplitl [Has1]; · iexact Has1
    isplitl [Hkit12]; · iexact Hkit12
    isplitl [Hkit13]; · iexact Hkit13
    isplitl [HB]; · iexact HB
    isplitl [Hslot0]; · iexact Hslot0
    isplitl [HoutS0]; · iexact HoutS0
    isplitl [Hz0]; · iexact Hz0
    isplitl [Hcs0]; · iexact Hcs0
    isplitl [Hkit0]; · iexact Hkit0
    isplitl [Hkit1]; · iexact Hkit1
    isplitl [Hkit2]; · iexact Hkit2
    isplitl [Hslot1]; · iexact Hslot1
    isplitl [HoutS1]; · iexact HoutS1
    isplitl [Hz1]; · iexact Hz1
    isplitl [Hcs1]; · iexact Hcs1
    isplitl [Hkit3]; · iexact Hkit3
    isplitl [Hkit4]; · iexact Hkit4
    isplitl [Hkit5]; · iexact Hkit5
    isplitl [HoutS2]; · iexact HoutS2
    isplitl [Hz2]; · iexact Hz2
    isplitl [Hcs2]; · iexact Hcs2
    isplitl [Hkit6]; · iexact Hkit6
    isplitl [HoutS3]; · iexact HoutS3
    isplitl [Hz3]; · iexact Hz3
    isplitl [Hcs3]; · iexact Hcs3
    isplitl [Hkit7]; · iexact Hkit7
    isplitl [Hrk13]; · iexact Hrk13
    isplitl [Hrk12]; · iexact Hrk12
    isplitl [HoutS4]; · iexact HoutS4
    isplitl [Hz4]; · iexact Hz4
    isplitl [Hcs8]; · iexact Hcs8
    isplitl [Hkit8]; · iexact Hkit8
    isplitl [HoutS5]; · iexact HoutS5
    isplitl [Hz5]; · iexact Hz5
    isplitl [Hcs9]; · iexact Hcs9
    isplitl [Hkit9]; · iexact Hkit9
    isplitl [HoutS6]; · iexact HoutS6
    isplitl [Hz6]; · iexact Hz6
    isplitl [Hcs10]; · iexact Hcs10
    isplitl [Hkit10]; · iexact Hkit10
    isplitl [HoutS7]; · iexact HoutS7
    isplitl [Hz7]; · iexact Hz7
    isplitl [Hcs11]; · iexact Hcs11
    isplitl [Hkit11]; · iexact Hkit11
    isplitl [Hrk0]; · iexact Hrk0
    isplitl [HoutS8]; · iexact HoutS8
    isplitl [Hz8]; · iexact Hz8
    isplitl [Hrk1]; · iexact Hrk1
    isplitl [HoutS9]; · iexact HoutS9
    isplitl [Hz9]; · iexact Hz9
    isplitl [Hrk3]; · iexact Hrk3
    isplitl [HoutS10]; · iexact HoutS10
    isplitl [Hz10]; · iexact Hz10
    isplitl [Hrk4]; · iexact Hrk4
    isplitl [HoutS11]; · iexact HoutS11
    isplitl [Hz11]; · iexact Hz11
    isplitl [Hrk2]; · iexact Hrk2
    isplitl [HoutS12]; · iexact HoutS12
    isplitl [Hz12]; · iexact Hz12
    isplitl [Hrk5]; · iexact Hrk5
    isplitl [HoutS13]; · iexact HoutS13
    isplitl [Hz13]; · iexact Hz13
    isplitl [Hrk6]; · iexact Hrk6
    isplitl [HoutS14]; · iexact HoutS14
    isplitl [Hz14]; · iexact Hz14
    isplitl [Hrk7]; · iexact Hrk7
    isplitl [HoutS15]; · iexact HoutS15
    isplitl [Hz15]; · iexact Hz15
    isplitl [Hrk8]; · iexact Hrk8
    isplitl [HoutS16]; · iexact HoutS16
    isplitl [Hz16]; · iexact Hz16
    isplitl [Hrk9]; · iexact Hrk9
    isplitl [HoutS17]; · iexact HoutS17
    isplitl [Hz17]; · iexact Hz17
    isplitl [Hrk10]; · iexact Hrk10
    isplitl [HoutS18]; · iexact HoutS18
    isplitl [Hz18]; · iexact Hz18
    isplitl [Hrk11]; · iexact Hrk11
    isplitl [HoutS19]; · iexact HoutS19
    iexact Hz19
  iintro ⟨Hbz, HoutD0, Hz0, HA, HoutD1, Hz1, Hrcv013, Hrcv012, HoutD2, Hz2, HoutD3, Hz3, HoutD4, Hz4, Hrp13, HoutD5, Hz5, Hrp12, HB, Hrcv00, HoutD6, Hz6, Hrp0, Hrcv01, HoutD7, Hz7, Hrp1, Hrcv03, HoutD8, Hz8, Hrp3, Hrcv04, HoutD9, Hz9, Hrp4, Hrcv02, HoutD10, Hz10, Hrp2, Hrcv05, HoutD11, Hz11, Hrp5, Hrcv06, HoutD12, Hz12, Hrp6, Hrcv07, HoutD13, Hz13, Hrp7, Hrcv08, HoutD14, Hz14, Hslot0b, Hrp8, Hrcv09, HoutD15, Hz15, Hslot1b, Hrp9, Hrcv010, HoutD16, Hz16, Hrp10, Hrcv011, HoutD17, Hz17, Hrp11, HstL19, Hfl19, Hsp12, Hsnd012, Hsp13, Hsnd013, Hsp0, Hsnd00, Hsp1, Hsnd01, Hsp2, Hsnd02, Hsp3, Hsnd03, Hsp4, Hsnd04, Hsp5, Hsnd05, Hsp6, Hsnd06, Hsp7, Hsnd07, Hsp8, Hsnd08, Hsp9, Hsnd09, Hsp10, Hsnd010, Hsp11, Hsnd011, HoutD18, Hz18, Hslot0t, HO⟩
  simp only [Prog.lift, Prog.bind_op, Prog.bind_ret, Prog.pure_eq_ret, Prog.bind_assoc]
  iapply (wtc (dstw := oM.slice (rO c 19) (rO_stride c 19)) (ms := stM.slice rSt1t st1) (W := w19 m ρ c) m ρ c K 19 rfl (nO_19 c) (fun _ => rfl) []) $$ [Hfl19 HstL19 HO]
  · isplitr; · iexact Hc
    isplitl [Hfl19]; · iexact Hfl19
    isplitl [HstL19]; · iexact HstL19
    iexact HO
  iintro ⟨HoutD19, Hz19, Hslot1t, HO⟩
  ihave Hslot0 := (slot0_two c).2 $$ [Hslot0t Hslot0b]
  · isplitl [Hslot0t] <;> iassumption
  ihave Hslot1 := (slot1_two c).2 $$ [Hslot1t Hslot1b]
  · isplitl [Hslot1t] <;> iassumption
  iapply (fin c)
  iapply Hk
  isplitl [Hbz]; · iexact Hbz
  isplitl [HoutD0]; · iexact HoutD0
  isplitl [Hz0]; · iexact Hz0
  isplitl [HA]; · iexact HA
  isplitl [HoutD1]; · iexact HoutD1
  isplitl [Hz1]; · iexact Hz1
  isplitl [Hrcv013]; · iexact Hrcv013
  isplitl [Hrcv012]; · iexact Hrcv012
  isplitl [HoutD2]; · iexact HoutD2
  isplitl [Hz2]; · iexact Hz2
  isplitl [HoutD3]; · iexact HoutD3
  isplitl [Hz3]; · iexact Hz3
  isplitl [HoutD4]; · iexact HoutD4
  isplitl [Hz4]; · iexact Hz4
  isplitl [Hrp13]; · iexact Hrp13
  isplitl [HoutD5]; · iexact HoutD5
  isplitl [Hz5]; · iexact Hz5
  isplitl [Hrp12]; · iexact Hrp12
  isplitl [HB]; · iexact HB
  isplitl [Hrcv00]; · iexact Hrcv00
  isplitl [HoutD6]; · iexact HoutD6
  isplitl [Hz6]; · iexact Hz6
  isplitl [Hrp0]; · iexact Hrp0
  isplitl [Hrcv01]; · iexact Hrcv01
  isplitl [HoutD7]; · iexact HoutD7
  isplitl [Hz7]; · iexact Hz7
  isplitl [Hrp1]; · iexact Hrp1
  isplitl [Hrcv03]; · iexact Hrcv03
  isplitl [HoutD8]; · iexact HoutD8
  isplitl [Hz8]; · iexact Hz8
  isplitl [Hrp3]; · iexact Hrp3
  isplitl [Hrcv04]; · iexact Hrcv04
  isplitl [HoutD9]; · iexact HoutD9
  isplitl [Hz9]; · iexact Hz9
  isplitl [Hrp4]; · iexact Hrp4
  isplitl [Hrcv02]; · iexact Hrcv02
  isplitl [HoutD10]; · iexact HoutD10
  isplitl [Hz10]; · iexact Hz10
  isplitl [Hrp2]; · iexact Hrp2
  isplitl [Hrcv05]; · iexact Hrcv05
  isplitl [HoutD11]; · iexact HoutD11
  isplitl [Hz11]; · iexact Hz11
  isplitl [Hrp5]; · iexact Hrp5
  isplitl [Hrcv06]; · iexact Hrcv06
  isplitl [HoutD12]; · iexact HoutD12
  isplitl [Hz12]; · iexact Hz12
  isplitl [Hrp6]; · iexact Hrp6
  isplitl [Hrcv07]; · iexact Hrcv07
  isplitl [HoutD13]; · iexact HoutD13
  isplitl [Hz13]; · iexact Hz13
  isplitl [Hrp7]; · iexact Hrp7
  isplitl [Hrcv08]; · iexact Hrcv08
  isplitl [HoutD14]; · iexact HoutD14
  isplitl [Hz14]; · iexact Hz14
  isplitl [Hrp8]; · iexact Hrp8
  isplitl [Hrcv09]; · iexact Hrcv09
  isplitl [HoutD15]; · iexact HoutD15
  isplitl [Hz15]; · iexact Hz15
  isplitl [Hrp9]; · iexact Hrp9
  isplitl [Hrcv010]; · iexact Hrcv010
  isplitl [HoutD16]; · iexact HoutD16
  isplitl [Hz16]; · iexact Hz16
  isplitl [Hrp10]; · iexact Hrp10
  isplitl [Hrcv011]; · iexact Hrcv011
  isplitl [HoutD17]; · iexact HoutD17
  isplitl [Hz17]; · iexact Hz17
  isplitl [Hrp11]; · iexact Hrp11
  isplitl [Hsp12]; · iexact Hsp12
  isplitl [Hsnd012]; · iexact Hsnd012
  isplitl [Hsp13]; · iexact Hsp13
  isplitl [Hsnd013]; · iexact Hsnd013
  isplitl [Hsp0]; · iexact Hsp0
  isplitl [Hsnd00]; · iexact Hsnd00
  isplitl [Hsp1]; · iexact Hsp1
  isplitl [Hsnd01]; · iexact Hsnd01
  isplitl [Hsp2]; · iexact Hsp2
  isplitl [Hsnd02]; · iexact Hsnd02
  isplitl [Hsp3]; · iexact Hsp3
  isplitl [Hsnd03]; · iexact Hsnd03
  isplitl [Hsp4]; · iexact Hsp4
  isplitl [Hsnd04]; · iexact Hsnd04
  isplitl [Hsp5]; · iexact Hsp5
  isplitl [Hsnd05]; · iexact Hsnd05
  isplitl [Hsp6]; · iexact Hsp6
  isplitl [Hsnd06]; · iexact Hsnd06
  isplitl [Hsp7]; · iexact Hsp7
  isplitl [Hsnd07]; · iexact Hsnd07
  isplitl [Hsp8]; · iexact Hsp8
  isplitl [Hsnd08]; · iexact Hsnd08
  isplitl [Hsp9]; · iexact Hsp9
  isplitl [Hsnd09]; · iexact Hsnd09
  isplitl [Hsp10]; · iexact Hsp10
  isplitl [Hsnd010]; · iexact Hsnd010
  isplitl [Hsp11]; · iexact Hsp11
  isplitl [Hsnd011]; · iexact Hsnd011
  isplitl [HoutD18]; · iexact HoutD18
  isplitl [Hz18]; · iexact Hz18
  isplitl [HoutD19]; · iexact HoutD19
  isplitl [Hz19]; · iexact Hz19
  isplitl [HO]; · iexact HO
  isplitl [Hslot0]; · iexact Hslot0
  iexact Hslot1

end

end Cert.MatmulProof

end
-- ==== Proof.Ends.lean ====
/-
# The two ends of a device's run

What a device holds when its kernel starts and when it has ended, as the launch deals it and takes it back, and the
run of the previous module between the two.
-/
module

public import proofs.«01_k».proof.Proof.Whole
public import proofs.«01_k».proof.Proof.Gen.KernelIdeal.Launch
public import proofs.«01_k».proof.Proof.Gen.KernelIdeal.Points

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem over14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem over20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-! ## What a device starts from, and ends with -/

/-- The scratch buffers, each at some contents. -/
def scr (c : Dev nD) : sProp 𝕄 :=
  iprop(some' c stM ∗ some' c csM ∗ some' c asM ∗ some' c lbM ∗ some' c rbM ∗ some' c crM)

/-- The protocol's state a device starts with: under some names every cell's invariant and the levels; its own barrier
    cell's position and the token of the duty it pays on each of the others; what it sends and receives each transfer
    with but the credits; and the semaphores of its own copies at zero. -/
def ghost (c : Dev nD) : sProp 𝕄 :=
  iprop((∃ K, records m ρ K) ∗ (dutyTok ER (barC (lf c)) 0 0 ∗ dutyTok ER (barC (rt c)) 0 1 ∗ dutyTok ER (barC (dg c)) 0 2)
    ∗ atPos ER (barC c) 0 ∅ 0 ∗ (bigSep Finset.univ fun x => sendKit x c) ∗ (bigSep Finset.univ fun x => atPos ER (rcvC x c) 0 ∅ 0)
    ∗ (bigSep Finset.univ fun t => cpy0 t c))

/-- With the credits of its waits, the levels and the result's buffer. -/
def start (c : Dev nD) : sProp 𝕄 :=
  iprop(ghost m ρ c ∗ levAts L lv ∗ cred (tallyAt (barC c) () 3) ∗ (bigSep Finset.univ fun x => cred (tallyAt (rcvC x c) () (nX x))) ∗ some' c oM)

/-- At the start and -/
def Φ₀ (c : Dev nD) : sProp 𝕄 := iprop(start m ρ c ∗ scr c)
/-- at the end: the result, each of its pieces at what was left there, and every semaphore at zero. -/
def Φ₁ (c : Dev nD) : sProp 𝕄 :=
  iprop(ownsSat (c : Thread nD τ) oM fullShare (outOk m ρ c) ∗ scr c ∗ semVal (barC c) 0
    ∗ (bigSep Finset.univ fun x => snd0 x c) ∗ (bigSep Finset.univ fun x => rcv0 x c) ∗ (bigSep Finset.univ fun t => cpy0 t c))

/-- The one region's data: both operands are left as they were staged. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## Regrouping -/

/-- The places where transfers land on a device, sorted by the signal that hands them over. -/
theorem lands (c : Dev nD) : iprop(some' c lbM ∗ some' c rbM ∗ some' c crM) ⊢ (iprop(barPay (lf c) 0 ∗ barPay (rt c) 1 ∗ barPay (dg c) 2) : sProp 𝕄) := by
  unfold barPay landPay
  dsimp only
  rw [rt_lf, lf_rt, dg_dg]
  iintro ⟨H13, H12, Hcr⟩
  ihave H := (crM_split (F := F) c).1 $$ Hcr
  icases H with ⟨H0, H1, H2, H3, H4, H5, H6, H7, H8, H9, H10, H11⟩
  isplitl [H1 H4 H7 H8 H10 H13]
  · isplitl [H1]; · iexact H1
    isplitl [H4]; · iexact H4
    isplitl [H7]; · iexact H7
    isplitl [H8]; · iexact H8
    isplitl [H10]; · iexact H10
    iexact H13
  isplitl [H0 H3 H6 H9 H11 H12]
  · isplitl [H0]; · iexact H0
    isplitl [H3]; · iexact H3
    isplitl [H6]; · iexact H6
    isplitl [H9]; · iexact H9
    isplitl [H11]; · iexact H11
    iexact H12
  isplitl [H2]; · iexact H2
  iexact H5

/-- They come back with what has arrived, -/
theorem landed (c : Dev nD) : iprop(rcvPay m ρ 0 c ∗ rcvPay m ρ 1 c ∗ rcvPay m ρ 2 c ∗ rcvPay m ρ 3 c ∗ rcvPay m ρ 4 c ∗ rcvPay m ρ 5 c ∗ rcvPay m ρ 6 c ∗ rcvPay m ρ 7 c ∗ rcvPay m ρ 8 c ∗ rcvPay m ρ 9 c ∗ rcvPay m ρ 10 c ∗ rcvPay m ρ 11 c ∗ rcvPay m ρ 12 c ∗ rcvPay m ρ 13 c) ⊢ (iprop(some' c lbM ∗ some' c rbM ∗ some' c crM) : sProp 𝕄) := by
  unfold rcvPay; dsimp only
  iintro ⟨H0, H1, H2, H3, H4, H5, H6, H7, H8, H9, H10, H11, H12, H13⟩
  isplitl [H13]; · iapply (some'_intro c lbM (vLb m ρ c)); iexact H13
  isplitl [H12]; · iapply (some'_intro c rbM (vRb m ρ c)); iexact H12
  iapply (crM_split c).2
  isplitl [H0]; · iapply (some'_intro c (crM.slice rCr0 st1) (u0 m ρ (rt c))); iexact H0
  isplitl [H1]; · iapply (some'_intro c (crM.slice rCr1 st1) (u0 m ρ (lf c))); iexact H1
  isplitl [H2]; · iapply (some'_intro c (crM.slice rCr2 st1) (u0 m ρ (dg c))); iexact H2
  isplitl [H3]; · iapply (some'_intro c (crM.slice rCr3 st1) (u1 m ρ (rt c))); iexact H3
  isplitl [H4]; · iapply (some'_intro c (crM.slice rCr4 st1) (u1 m ρ (lf c))); iexact H4
  isplitl [H5]; · iapply (some'_intro c (crM.slice rCr5 st1) (u1 m ρ (dg c))); iexact H5
  isplitl [H6]; · iapply (some'_intro c (crM.slice rCr6 st1) (u2 m ρ (rt c))); iexact H6
  isplitl [H7]; · iapply (some'_intro c (crM.slice rCr7 st1) (u3 m ρ (lf c))); iexact H7
  isplitl [H8]; · iapply (some'_intro c (crM.slice rCr8 st1) (u4 m ρ (lf c))); iexact H8
  isplitl [H9]; · iapply (some'_intro c (crM.slice rCr9 st1) (u5 m ρ (rt c))); iexact H9
  isplitl [H10]; · iapply (some'_intro c (crM.slice rCr10 st1) (u6 m ρ (lf c))); iexact H10
  iapply (some'_intro c (crM.slice rCr11 st1) (u7 m ρ (rt c))); iexact H11

/-- A memref owned in three shares at one contents is owned in full. -/
theorem some'_third (c : Dev nD) {sp : Space} {sh : Shape} {e : EltTy} (mr : Memref sig .tc sp sh e) (X : sh.Idx → Elt F e) :
    (iprop(ownsTc c mr fullShare.left X ∗ ownsTc c mr fullShare.right.left X ∗ ownsTc c mr fullShare.right.right X) : sProp 𝕄) ⊢ some' c mr :=
  (owns_third c mr X).2.trans (some'_intro c mr X)

/-- and so do the buffers sent from, once the transfers have left. -/
theorem left' (c : Dev nD) : iprop(sndPay m ρ 0 c ∗ sndPay m ρ 1 c ∗ sndPay m ρ 2 c ∗ sndPay m ρ 3 c ∗ sndPay m ρ 4 c ∗ sndPay m ρ 5 c ∗ sndPay m ρ 6 c ∗ sndPay m ρ 7 c ∗ sndPay m ρ 8 c ∗ sndPay m ρ 9 c ∗ sndPay m ρ 10 c ∗ sndPay m ρ 11 c ∗ sndPay m ρ 12 c ∗ sndPay m ρ 13 c) ⊢ (iprop(some' c csM ∗ some' c asM) : sProp 𝕄) := by
  unfold sndPay; dsimp only
  iintro ⟨H0, H1, H2, H3, H4, H5, H6, H7, H8, H9, H10, H11, H12, H13⟩
  isplitl [H0 H1 H2 H3 H4 H5 H6 H7 H8 H9 H10 H11]
  · iapply (csM_split c).2
    isplitl [H0 H1 H2]
    · iapply (some'_third c (csM.slice rCs0 st1) (u0 m ρ c))
      isplitl [H0]; · iexact H0
      isplitl [H1]; · iexact H1
      iexact H2
    isplitl [H3 H4 H5]
    · iapply (some'_third c (csM.slice rCs1 st1) (u1 m ρ c))
      isplitl [H3]; · iexact H3
      isplitl [H4]; · iexact H4
      iexact H5
    isplitl [H6]; · iapply (some'_intro c (csM.slice rCs2 st1) (u2 m ρ c)); iexact H6
    isplitl [H7]; · iapply (some'_intro c (csM.slice rCs3 st1) (u3 m ρ c)); iexact H7
    isplitl [H8]; · iapply (some'_intro c (csM.slice rCs8 st1) (u4 m ρ c)); iexact H8
    isplitl [H9]; · iapply (some'_intro c (csM.slice rCs9 st1) (u5 m ρ c)); iexact H9
    isplitl [H10]; · iapply (some'_intro c (csM.slice rCs10 st1) (u6 m ρ c)); iexact H10
    iapply (some'_intro c (csM.slice rCs11 st1) (u7 m ρ c)); iexact H11
  iapply (asM_split c).2
  isplitl [H12]; · iapply (some'_intro c (asM.slice rAs0 st1) (vAs0 m ρ c)); iexact H12
  iapply (some'_intro c (asM.slice rAs1 st1) (vAs1 m ρ c)); iexact H13

/-! ## The region's body -/

theorem bound (c : Dev nD) : (iprop(Φ₀ m ρ c ∗ (dats m ρ 0 c).owesAt () t0_0.castSucc ∗ ownsTc c aM fullShare (xA m ρ c) ∗ ownsTc c bM fullShare (xB m ρ c)) : sProp 𝕄)
    ⊢ run c (onBufs (cc0_body (F := F))) (fun _ => iprop(Φ₁ m ρ c ∗ (dats m ρ 0 c).owesAt () t0_0.succ ∗ ownsTc c aM fullShare (xA m ρ c) ∗ ownsTc c bM fullShare (xB m ρ c))) := by
  unfold Φ₀ start ghost scr
  rw [over14, over14, over14, over20]
  iintro ⟨⟨⟨⟨⟨%K, #HR⟩, ⟨Htl, Htr, Htd⟩, Hba, ⟨Hkit0, Hkit1, Hkit2, Hkit3, Hkit4, Hkit5, Hkit6, Hkit7, Hkit8, Hkit9, Hkit10, Hkit11, Hkit12, Hkit13⟩, ⟨Hat0, Hat1, Hat2, Hat3, Hat4, Hat5, Hat6, Hat7, Hat8, Hat9, Hat10, Hat11, Hat12, Hat13⟩, ⟨Hz0, Hz1, Hz2, Hz3, Hz4, Hz5, Hz6, Hz7, Hz8, Hz9, Hz10, Hz11, Hz12, Hz13, Hz14, Hz15, Hz16, Hz17, Hz18, Hz19⟩⟩, #Hlev, Hbc, ⟨Hcrd0, Hcrd1, Hcrd2, Hcrd3, Hcrd4, Hcrd5, Hcrd6, Hcrd7, Hcrd8, Hcrd9, Hcrd10, Hcrd11, Hcrd12, Hcrd13⟩, Ho⟩, Hst, Hcs, Has, Hlb, Hrb, Hcr⟩, HOw, HA, HB⟩
  ihave H := (lands c) $$ [Hlb Hrb Hcr]
  · isplitl [Hlb]; · iexact Hlb
    isplitl [Hrb] <;> iassumption
  icases H with ⟨Hpl, Hpr, Hpd⟩
  ihave H := (oM_split c) $$ Ho
  ihave H := (Entails.of_eq (over20 fun t => outS t c)) $$ H
  icases H with ⟨HoutS0, HoutS1, HoutS2, HoutS3, HoutS4, HoutS5, HoutS6, HoutS7, HoutS8, HoutS9, HoutS10, HoutS11, HoutS12, HoutS13, HoutS14, HoutS15, HoutS16, HoutS17, HoutS18, HoutS19⟩
  ihave H := (stM_split c).1 $$ Hst
  icases H with ⟨Hslot0, Hslot1⟩
  ihave H := (csM_split c).1 $$ Hcs
  icases H with ⟨Hcs0, Hcs1, Hcs2, Hcs3, Hcs8, Hcs9, Hcs10, Hcs11⟩
  ihave H := (asM_split c).1 $$ Has
  icases H with ⟨Has0, Has1⟩
  ihave HO := (show (dats m ρ 0 c).owesAt () t0_0.castSucc ⊢ (Owe c (O₀ c) : sProp 𝕄) from by
    unfold Owe
    iintro ⟨%W, -, H⟩
    iexists W; iexact H) $$ HOw
  iapply (body m ρ K c) $$ [Htl Hpl Htr Hpr Htd Hpd Hbc Hba HO HA Has0 Has1 Hkit12 Hkit13 HB Hslot0 HoutS0 Hz0 Hcs0 Hkit0 Hkit1 Hkit2 Hslot1 HoutS1 Hz1 Hcs1 Hkit3 Hkit4 Hkit5 HoutS2 Hz2 Hcs2 Hkit6 HoutS3 Hz3 Hcs3 Hkit7 Hcrd13 Hat13 Hcrd12 Hat12 HoutS4 Hz4 Hcs8 Hkit8 HoutS5 Hz5 Hcs9 Hkit9 HoutS6 Hz6 Hcs10 Hkit10 HoutS7 Hz7 Hcs11 Hkit11 Hcrd0 Hat0 HoutS8 Hz8 Hcrd1 Hat1 HoutS9 Hz9 Hcrd3 Hat3 HoutS10 Hz10 Hcrd4 Hat4 HoutS11 Hz11 Hcrd2 Hat2 HoutS12 Hz12 Hcrd5 Hat5 HoutS13 Hz13 Hcrd6 Hat6 HoutS14 Hz14 Hcrd7 Hat7 HoutS15 Hz15 Hcrd8 Hat8 HoutS16 Hz16 Hcrd9 Hat9 HoutS17 Hz17 Hcrd10 Hat10 HoutS18 Hz18 Hcrd11 Hat11 HoutS19 Hz19]
  · isplitr
    · unfold ctx; isplitr; · iexact HR
      iexact Hlev
    isplitl [Htl]; · iexact Htl
    isplitl [Hpl]; · iexact Hpl
    isplitl [Htr]; · iexact Htr
    isplitl [Hpr]; · iexact Hpr
    isplitl [Htd]; · iexact Htd
    isplitl [Hpd]; · iexact Hpd
    isplitl [Hbc]; · iexact Hbc
    isplitl [Hba]; · iexact Hba
    isplitl [HO]; · iexact HO
    isplitl [HA]; · iexact HA
    isplitl [Has0]; · iexact Has0
    isplitl [Has1]; · iexact Has1
    isplitl [Hkit12]; · iexact Hkit12
    isplitl [Hkit13]; · iexact Hkit13
    isplitl [HB]; · iexact HB
    isplitl [Hslot0]; · iexact Hslot0
    isplitl [HoutS0]; · iexact HoutS0
    isplitl [Hz0]; · iexact Hz0
    isplitl [Hcs0]; · iexact Hcs0
    isplitl [Hkit0]; · iexact Hkit0
    isplitl [Hkit1]; · iexact Hkit1
    isplitl [Hkit2]; · iexact Hkit2
    isplitl [Hslot1]; · iexact Hslot1
    isplitl [HoutS1]; · iexact HoutS1
    isplitl [Hz1]; · iexact Hz1
    isplitl [Hcs1]; · iexact Hcs1
    isplitl [Hkit3]; · iexact Hkit3
    isplitl [Hkit4]; · iexact Hkit4
    isplitl [Hkit5]; · iexact Hkit5
    isplitl [HoutS2]; · iexact HoutS2
    isplitl [Hz2]; · iexact Hz2
    isplitl [Hcs2]; · iexact Hcs2
    isplitl [Hkit6]; · iexact Hkit6
    isplitl [HoutS3]; · iexact HoutS3
    isplitl [Hz3]; · iexact Hz3
    isplitl [Hcs3]; · iexact Hcs3
    isplitl [Hkit7]; · iexact Hkit7
    isplitl [Hcrd13 Hat13]; · (unfold recvKit; isplitl [Hcrd13] <;> iassumption)
    isplitl [Hcrd12 Hat12]; · (unfold recvKit; isplitl [Hcrd12] <;> iassumption)
    isplitl [HoutS4]; · iexact HoutS4
    isplitl [Hz4]; · iexact Hz4
    isplitl [Hcs8]; · iexact Hcs8
    isplitl [Hkit8]; · iexact Hkit8
    isplitl [HoutS5]; · iexact HoutS5
    isplitl [Hz5]; · iexact Hz5
    isplitl [Hcs9]; · iexact Hcs9
    isplitl [Hkit9]; · iexact Hkit9
    isplitl [HoutS6]; · iexact HoutS6
    isplitl [Hz6]; · iexact Hz6
    isplitl [Hcs10]; · iexact Hcs10
    isplitl [Hkit10]; · iexact Hkit10
    isplitl [HoutS7]; · iexact HoutS7
    isplitl [Hz7]; · iexact Hz7
    isplitl [Hcs11]; · iexact Hcs11
    isplitl [Hkit11]; · iexact Hkit11
    isplitl [Hcrd0 Hat0]; · (unfold recvKit; isplitl [Hcrd0] <;> iassumption)
    isplitl [HoutS8]; · iexact HoutS8
    isplitl [Hz8]; · iexact Hz8
    isplitl [Hcrd1 Hat1]; · (unfold recvKit; isplitl [Hcrd1] <;> iassumption)
    isplitl [HoutS9]; · iexact HoutS9
    isplitl [Hz9]; · iexact Hz9
    isplitl [Hcrd3 Hat3]; · (unfold recvKit; isplitl [Hcrd3] <;> iassumption)
    isplitl [HoutS10]; · iexact HoutS10
    isplitl [Hz10]; · iexact Hz10
    isplitl [Hcrd4 Hat4]; · (unfold recvKit; isplitl [Hcrd4] <;> iassumption)
    isplitl [HoutS11]; · iexact HoutS11
    isplitl [Hz11]; · iexact Hz11
    isplitl [Hcrd2 Hat2]; · (unfold recvKit; isplitl [Hcrd2] <;> iassumption)
    isplitl [HoutS12]; · iexact HoutS12
    isplitl [Hz12]; · iexact Hz12
    isplitl [Hcrd5 Hat5]; · (unfold recvKit; isplitl [Hcrd5] <;> iassumption)
    isplitl [HoutS13]; · iexact HoutS13
    isplitl [Hz13]; · iexact Hz13
    isplitl [Hcrd6 Hat6]; · (unfold recvKit; isplitl [Hcrd6] <;> iassumption)
    isplitl [HoutS14]; · iexact HoutS14
    isplitl [Hz14]; · iexact Hz14
    isplitl [Hcrd7 Hat7]; · (unfold recvKit; isplitl [Hcrd7] <;> iassumption)
    isplitl [HoutS15]; · iexact HoutS15
    isplitl [Hz15]; · iexact Hz15
    isplitl [Hcrd8 Hat8]; · (unfold recvKit; isplitl [Hcrd8] <;> iassumption)
    isplitl [HoutS16]; · iexact HoutS16
    isplitl [Hz16]; · iexact Hz16
    isplitl [Hcrd9 Hat9]; · (unfold recvKit; isplitl [Hcrd9] <;> iassumption)
    isplitl [HoutS17]; · iexact HoutS17
    isplitl [Hz17]; · iexact Hz17
    isplitl [Hcrd10 Hat10]; · (unfold recvKit; isplitl [Hcrd10] <;> iassumption)
    isplitl [HoutS18]; · iexact HoutS18
    isplitl [Hz18]; · iexact Hz18
    isplitl [Hcrd11 Hat11]; · (unfold recvKit; isplitl [Hcrd11] <;> iassumption)
    isplitl [HoutS19]; · iexact HoutS19
    iexact Hz19
  iintro ⟨Hbz, HoutD0, Hz0, HA, HoutD1, Hz1, Hrcv013, Hrcv012, HoutD2, Hz2, HoutD3, Hz3, HoutD4, Hz4, Hrp13, HoutD5, Hz5, Hrp12, HB, Hrcv00, HoutD6, Hz6, Hrp0, Hrcv01, HoutD7, Hz7, Hrp1, Hrcv03, HoutD8, Hz8, Hrp3, Hrcv04, HoutD9, Hz9, Hrp4, Hrcv02, HoutD10, Hz10, Hrp2, Hrcv05, HoutD11, Hz11, Hrp5, Hrcv06, HoutD12, Hz12, Hrp6, Hrcv07, HoutD13, Hz13, Hrp7, Hrcv08, HoutD14, Hz14, Hrp8, Hrcv09, HoutD15, Hz15, Hrp9, Hrcv010, HoutD16, Hz16, Hrp10, Hrcv011, HoutD17, Hz17, Hrp11, Hsp12, Hsnd012, Hsp13, Hsnd013, Hsp0, Hsnd00, Hsp1, Hsnd01, Hsp2, Hsnd02, Hsp3, Hsnd03, Hsp4, Hsnd04, Hsp5, Hsnd05, Hsp6, Hsnd06, Hsp7, Hsnd07, Hsp8, Hsnd08, Hsp9, Hsnd09, Hsp10, Hsnd010, Hsp11, Hsnd011, HoutD18, Hz18, HoutD19, Hz19, HO, Hslot0, Hslot1⟩
  unfold Φ₁ scr
  rw [over14, over14, over20]
  ihave H := (landed m ρ c) $$ [Hrp0 Hrp1 Hrp2 Hrp3 Hrp4 Hrp5 Hrp6 Hrp7 Hrp8 Hrp9 Hrp10 Hrp11 Hrp12 Hrp13]
  · isplitl [Hrp0]; · iexact Hrp0
    isplitl [Hrp1]; · iexact Hrp1
    isplitl [Hrp2]; · iexact Hrp2
    isplitl [Hrp3]; · iexact Hrp3
    isplitl [Hrp4]; · iexact Hrp4
    isplitl [Hrp5]; · iexact Hrp5
    isplitl [Hrp6]; · iexact Hrp6
    isplitl [Hrp7]; · iexact Hrp7
    isplitl [Hrp8]; · iexact Hrp8
    isplitl [Hrp9]; · iexact Hrp9
    isplitl [Hrp10]; · iexact Hrp10
    isplitl [Hrp11]; · iexact Hrp11
    isplitl [Hrp12]; · iexact Hrp12
    iexact Hrp13
  icases H with ⟨Hlb, Hrb, Hcr⟩
  ihave H := (left' m ρ c) $$ [Hsp0 Hsp1 Hsp2 Hsp3 Hsp4 Hsp5 Hsp6 Hsp7 Hsp8 Hsp9 Hsp10 Hsp11 Hsp12 Hsp13]
  · isplitl [Hsp0]; · iexact Hsp0
    isplitl [Hsp1]; · iexact Hsp1
    isplitl [Hsp2]; · iexact Hsp2
    isplitl [Hsp3]; · iexact Hsp3
    isplitl [Hsp4]; · iexact Hsp4
    isplitl [Hsp5]; · iexact Hsp5
    isplitl [Hsp6]; · iexact Hsp6
    isplitl [Hsp7]; · iexact Hsp7
    isplitl [Hsp8]; · iexact Hsp8
    isplitl [Hsp9]; · iexact Hsp9
    isplitl [Hsp10]; · iexact Hsp10
    isplitl [Hsp11]; · iexact Hsp11
    isplitl [Hsp12]; · iexact Hsp12
    iexact Hsp13
  icases H with ⟨Hcs, Has⟩
  ihave Hout := (oM_join m ρ c) $$ [HoutD0 HoutD1 HoutD2 HoutD3 HoutD4 HoutD5 HoutD6 HoutD7 HoutD8 HoutD9 HoutD10 HoutD11 HoutD12 HoutD13 HoutD14 HoutD15 HoutD16 HoutD17 HoutD18 HoutD19]
  · rw [over20]
    isplitl [HoutD0]; · iexact HoutD0
    isplitl [HoutD1]; · iexact HoutD1
    isplitl [HoutD2]; · iexact HoutD2
    isplitl [HoutD3]; · iexact HoutD3
    isplitl [HoutD4]; · iexact HoutD4
    isplitl [HoutD5]; · iexact HoutD5
    isplitl [HoutD6]; · iexact HoutD6
    isplitl [HoutD7]; · iexact HoutD7
    isplitl [HoutD8]; · iexact HoutD8
    isplitl [HoutD9]; · iexact HoutD9
    isplitl [HoutD10]; · iexact HoutD10
    isplitl [HoutD11]; · iexact HoutD11
    isplitl [HoutD12]; · iexact HoutD12
    isplitl [HoutD13]; · iexact HoutD13
    isplitl [HoutD14]; · iexact HoutD14
    isplitl [HoutD15]; · iexact HoutD15
    isplitl [HoutD16]; · iexact HoutD16
    isplitl [HoutD17]; · iexact HoutD17
    isplitl [HoutD18]; · iexact HoutD18
    iexact HoutD19
  isplitl [Hout Hslot0 Hslot1 Hcs Has Hlb Hrb Hcr Hbz Hsnd00 Hsnd01 Hsnd02 Hsnd03 Hsnd04 Hsnd05 Hsnd06 Hsnd07 Hsnd08 Hsnd09 Hsnd010 Hsnd011 Hsnd012 Hsnd013 Hrcv00 Hrcv01 Hrcv02 Hrcv03 Hrcv04 Hrcv05 Hrcv06 Hrcv07 Hrcv08 Hrcv09 Hrcv010 Hrcv011 Hrcv012 Hrcv013 Hz0 Hz1 Hz2 Hz3 Hz4 Hz5 Hz6 Hz7 Hz8 Hz9 Hz10 Hz11 Hz12 Hz13 Hz14 Hz15 Hz16 Hz17 Hz18 Hz19]
  · isplitl [Hout]; · iexact Hout
    isplitl [Hslot0 Hslot1 Hcs Has Hlb Hrb Hcr]
    · isplitl [Hslot0 Hslot1]
      · iapply (stM_split c).2
        isplitl [Hslot0] <;> iassumption
      isplitl [Hcs]; · iexact Hcs
      isplitl [Has]; · iexact Has
      isplitl [Hlb]; · iexact Hlb
      isplitl [Hrb] <;> iassumption
    isplitl [Hbz]; · iexact Hbz
    isplitl [Hsnd00 Hsnd01 Hsnd02 Hsnd03 Hsnd04 Hsnd05 Hsnd06 Hsnd07 Hsnd08 Hsnd09 Hsnd010 Hsnd011 Hsnd012 Hsnd013]
    · isplitl [Hsnd00]; · iexact Hsnd00
      isplitl [Hsnd01]; · iexact Hsnd01
      isplitl [Hsnd02]; · iexact Hsnd02
      isplitl [Hsnd03]; · iexact Hsnd03
      isplitl [Hsnd04]; · iexact Hsnd04
      isplitl [Hsnd05]; · iexact Hsnd05
      isplitl [Hsnd06]; · iexact Hsnd06
      isplitl [Hsnd07]; · iexact Hsnd07
      isplitl [Hsnd08]; · iexact Hsnd08
      isplitl [Hsnd09]; · iexact Hsnd09
      isplitl [Hsnd010]; · iexact Hsnd010
      isplitl [Hsnd011]; · iexact Hsnd011
      isplitl [Hsnd012]; · iexact Hsnd012
      iexact Hsnd013
    isplitl [Hrcv00 Hrcv01 Hrcv02 Hrcv03 Hrcv04 Hrcv05 Hrcv06 Hrcv07 Hrcv08 Hrcv09 Hrcv010 Hrcv011 Hrcv012 Hrcv013]
    · isplitl [Hrcv00]; · iexact Hrcv00
      isplitl [Hrcv01]; · iexact Hrcv01
      isplitl [Hrcv02]; · iexact Hrcv02
      isplitl [Hrcv03]; · iexact Hrcv03
      isplitl [Hrcv04]; · iexact Hrcv04
      isplitl [Hrcv05]; · iexact Hrcv05
      isplitl [Hrcv06]; · iexact Hrcv06
      isplitl [Hrcv07]; · iexact Hrcv07
      isplitl [Hrcv08]; · iexact Hrcv08
      isplitl [Hrcv09]; · iexact Hrcv09
      isplitl [Hrcv010]; · iexact Hrcv010
      isplitl [Hrcv011]; · iexact Hrcv011
      isplitl [Hrcv012]; · iexact Hrcv012
      iexact Hrcv013
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    iexact Hz19
  isplitl [HO]
  · unfold Owe
    icases HO with ⟨%W, HO⟩
    iexists W; isplitr; · ipureintro; exact fun _ _ => Or.inl trivial
    iexact HO
  isplitl [HA] <;> iassumption

theorem in0 (c : Dev nD) (d) : (dats m ρ 0 c).before (0 : Fin 2) t0_0 d = xA m ρ c := by
  unfold Dat.before; rw [if_pos (fetch0_0 t0_0)]; rfl
theorem in1 (c : Dev nD) (d) : (dats m ρ 0 c).before (1 : Fin 2) t0_0 d = xB m ρ c := by
  unfold Dat.before; rw [if_pos (fetch0_1 t0_0)]; rfl

set_option maxRecDepth 20000 in
/-- The region's body, as the pipeline asks for it. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  show iprop(Φ₀ m ρ c ∗ (dats m ρ 0 c).owesAt () t0_0.castSucc
      ∗ (∃ d, ownsTc c aM fullShare ((dats m ρ 0 c).before (0 : Fin 2) t0_0 d))
      ∗ (∃ d, ownsTc c bM fullShare ((dats m ρ 0 c).before (1 : Fin 2) t0_0 d)))
    ⊢ run c (onBufs (cc0_body (F := F))) (fun _ => iprop(Φ₁ m ρ c ∗ (dats m ρ 0 c).owesAt () t0_0.succ ∗ ownsTc c aM fullShare (xA m ρ c) ∗ ownsTc c bM fullShare (xB m ρ c)))
  refine BIBase.Entails.trans ?_ (bound m ρ c)
  iintro ⟨H, HO, ⟨%d, HA⟩, ⟨%d', HB⟩⟩
  rw [in0, in1]
  isplitl [H]; · iexact H
  isplitl [HO]; · iexact HO
  isplitl [HA] <;> iassumption

end Cert.MatmulProof

end
-- ==== Proof.Ghost.lean ====
/-
# The launch of the four devices: the protocol's state and the credits

What the launch gives every device, turned into what its run starts with: the cells' invariants are allocated out of the
semaphores at zero, the duty tokens are dealt to the devices that pay them, and the credits a device waits with are
those the others owe its cells.
-/
module

public import proofs.«01_k».proof.Proof.Ends

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

set_option backward.proofsInPublic true in
/-- The kernel's own semaphores, in order: all but the two of the pipeline. -/
def osem (k : Fin 48) : SemLoc sig := .dma ⟨k.val + 2, by revert k; decide⟩

set_option maxRecDepth 8000 in
theorem ownSemFacts : Pipeline.OwnSemFacts cfg0.spec osem := by decide +kernel

theorem share_eq (c : Dev nD) (w : Fin cfg0.W) : (dats (F := F) m ρ 0 c).share w = fullShare := by unfold Dat.share; split <;> rfl

/-- Which of them: a send or a receive semaphore of a transfer, or the one of a copy. -/
def osIx : (Bool × Fin 14) ⊕ Fin 20 → Fin 48
  | .inl (false, x) => ⟨if x.val < 12 then 4 + x.val else x.val - 12, by split <;> omega⟩
  | .inl (true, x) => ⟨if x.val < 12 then 16 + x.val else x.val - 10, by split <;> omega⟩
  | .inr t => ⟨28 + t.val, by omega⟩

theorem osIx_bij : Function.Bijective osIx := by decide +kernel

theorem osem_x (bx : Bool × Fin 14) : osem (osIx (.inl bx)) = csem (some bx) :=
  (by decide +kernel : ∀ bx : Bool × Fin 14, osem (osIx (.inl bx)) = csem (some bx)) bx
theorem osem_t (t : Fin 20) : osem (osIx (.inr t)) = SemLoc.dma (cpyS t) :=
  (by decide +kernel : ∀ t : Fin 20, osem (osIx (.inr t)) = SemLoc.dma (cpyS t)) t

omit [FloatOps F] in
theorem over_option {A : Type} [Fintype A] [DecidableEq A] (Φ : Option A → sProp 𝕄) :
    bigSep Finset.univ Φ = iprop(Φ none ∗ bigSep Finset.univ fun a => Φ (some a)) := by
  rw [show (Finset.univ : Finset (Option A)) = insert none (Finset.univ.map Function.Embedding.some) from by
    ext o; cases o <;> simp]
  rw [BI.bigSep_insert (by simp), bigSep_map]; rfl

omit [FloatOps F] in
theorem swap_over {A B : Type} [Fintype A] [DecidableEq A] [Fintype B] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1),
    bigSep_univ_equiv (Equiv.prodComm B A) (fun p : A × B => Φ p.1 p.2)]
  rfl

omit [FloatOps F] in
theorem over_bool {A : Type} [Fintype A] [DecidableEq A] (Φ : Bool × A → sProp 𝕄) :
    bigSep Finset.univ Φ = iprop((bigSep Finset.univ fun a => Φ (false, a)) ∗ bigSep Finset.univ fun a => Φ (true, a)) := by
  rw [bigSep_univ_prod]
  exact bigSep_univ_eq_bigSepL [false, true] (by decide) (by decide) _

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun bx : Bool × Fin 14 => semVal (cell (c, some bx)) 0) ∗ bigSep Finset.univ fun t => cpy0 t c) := by
  unfold Pipeline.ownSems0
  rw [bigSep_univ_equiv (Equiv.ofBijective osIx osIx_bij) (fun k : Fin 48 => (semVal ((c : Thread nD τ), osem k) 0 : sProp 𝕄)), BI.bigSep_univ_sum]
  congr 1

omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-! ## The launch element -/

def protoCells : Finset (GSem nD τ sig) := Finset.univ.map ⟨cell, cell_injective⟩

/-- A device's own cells' duty tokens: three of its barrier cell, one of each other cell. -/
abbrev TIx : Type := Fin 3 ⊕ (Bool × Fin 14)
def tokOf (p : Dev nD × TIx) : GSem nD τ sig × ℕ × Fin 3 := match p.2 with
  | .inl d => (barC p.1, 0, d)
  | .inr bx => (cell (p.1, some bx), 0, 0)
theorem tokOf_injective : Function.Injective tokOf := by
  rintro ⟨c, j⟩ ⟨c', j'⟩ h
  rcases j with d | bx <;> rcases j' with d' | bx'
  · have h1 := Prod.mk.inj h
    have h2 : c = c' := (Prod.mk.inj (cell_injective h1.1)).1
    have h3 : d = d' := (Prod.mk.inj h1.2).2
    rw [h2, h3]
  · exact absurd (Prod.mk.inj (cell_injective (Prod.mk.inj h).1)).2 (by simp)
  · exact absurd (Prod.mk.inj (cell_injective (Prod.mk.inj h).1)).2 (by simp)
  · have h2 : c = c' := (Prod.mk.inj (cell_injective (Prod.mk.inj h).1)).1
    have h3 : some bx = some bx' := (Prod.mk.inj (cell_injective (Prod.mk.inj h).1)).2
    rw [h2, Option.some.inj h3]
def protoToks : Finset (GSem nD τ sig × ℕ × Fin 3) := Finset.univ.map ⟨tokOf, tokOf_injective⟩

def u₀ : UU :=
  (initOf (Pipeline.cells cfgs cellOf_inj) (Pipeline.launchToks cfgs cellOf_inj), (initOf protoCells protoToks, 1))

omit [FloatOps F] in
theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks (c : Dev nD) : sProp 𝕄 :=
  iprop((bigSep Finset.univ fun d : Fin 3 => dutyTok ER (barC c) 0 d) ∗ (bigSep Finset.univ fun x => dutyTok ER (sndC x c) 0 0)
    ∗ bigSep Finset.univ fun x => dutyTok ER (rcvC x c) 0 0)

/-- What the launch element deals device `c`. -/
def G (c : Dev nD) : sProp 𝕄 :=
  iprop((bigSep Finset.univ fun k : CIx => roundState ER (Rd m ρ) (cell (c, k)) 0)
    ∗ (bigSep Finset.univ fun k : CIx => iprop(atPos ER (cell (c, k)) 0 ∅ 0 ∗ reached ER (cell (c, k)) 0)) ∗ toks c)

theorem fund : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : CIx => Φ (cell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [BI.bigSep_univ_sum, over_bool]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- One device's part: its cells' invariants, under some names. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (cell (c, k))))
          ∗ (bigSep Finset.univ fun k => iprop(atPos ER (cell (c, k)) 0 ∅ 0 ∗ reached ER (cell (c, k)) 0)) ∗ toks c ∗ bigSep Finset.univ fun t => cpy0 t c) := by
  unfold G
  rw [ownSems0_eq, unscopedSems0_eq]
  iintro ⟨⟨Hx, Hz⟩, Hb, Hst, Hat, Htok⟩
  imod (show iprop((bigSep Finset.univ fun k : CIx => semVal (cell (c, k)) 0) ∗ bigSep Finset.univ fun k : CIx => roundState ER (Rd m ρ) (cell (c, k)) 0)
      ⊢ (|={Set.univ}=> bigSep Finset.univ fun k => iprop(∃ κ : ℕ, cellInv ER (Rd m ρ) κ (cell (c, k))) : sProp 𝕄) from by
        rw [← bigSep_sep']
        exact (bigSep_mono fun k _ => (Rounds.body_intro ER (Rd m ρ) (cell (c, k))).trans inv_alloc).trans (bigSep_fupd _ _)) $$ [Hx Hb Hst] with Hinv
  · isplitl [Hx Hb]
    · rw [over_option]; isplitl [Hb] <;> iassumption
    iexact Hst
  imodintro
  isplitl [Hinv]; · iexact Hinv
  isplitl [Hat]; · iexact Hat
  isplitl [Htok] <;> iassumption

/-- What stays with device `c`: its positions, the tokens of the duties it pays, its copies' semaphores. -/
def linear (c : Dev nD) : sProp 𝕄 :=
  iprop((bigSep Finset.univ fun k : CIx => atPos ER (cell (c, k)) 0 ∅ 0)
    ∗ ((dutyTok ER (barC (lf c)) 0 0 ∗ dutyTok ER (barC (rt c)) 0 1 ∗ dutyTok ER (barC (dg c)) 0 2)
      ∗ (bigSep Finset.univ fun x => dutyTok ER (sndC x c) 0 0) ∗ bigSep Finset.univ fun x => dutyTok ER (rcvC x (dst x c)) 0 0)
    ∗ bigSep Finset.univ fun t => cpy0 t c)

theorem ghost_intro (K : Dev nD × CIx → ℕ) (c : Dev nD) : iprop(records m ρ K ∗ linear c) ⊢ ghost m ρ c := by
  unfold linear ghost sendKit
  rw [over_option, over_bool, bigSep_sep', bigSep_sep']
  iintro ⟨HR, ⟨Hb, Hs, Hr⟩, ⟨Ht, Hts, Htr⟩, Hz⟩
  isplitl [HR]; · iexists K; iexact HR
  isplitl [Ht]; · iexact Ht
  isplitl [Hb]; · iexact Hb
  isplitl [Hs Hts Htr]
  · isplitl [Hts]; · iexact Hts
    isplitl [Htr] <;> iassumption
  isplitl [Hr] <;> iassumption

/-- The tokens dealt: each goes to the device that pays its duty. -/
theorem toks_around : (bigSep Finset.univ fun c : Dev nD => (toks c : sProp 𝕄))
    ⊢ bigSep Finset.univ fun c : Dev nD => iprop((dutyTok ER (barC (lf c)) 0 0 ∗ dutyTok ER (barC (rt c)) 0 1 ∗ dutyTok ER (barC (dg c)) 0 2)
      ∗ (bigSep Finset.univ fun x => dutyTok ER (sndC x c) 0 0) ∗ bigSep Finset.univ fun x => dutyTok ER (rcvC x (dst x c)) 0 0) := by
  have h3 (c : Dev nD) : (bigSep Finset.univ fun d : Fin 3 => (dutyTok ER (barC c) 0 d : sProp 𝕄))
      = iprop(dutyTok ER (barC c) 0 0 ∗ dutyTok ER (barC c) 0 1 ∗ dutyTok ER (barC c) 0 2) :=
    bigSep_univ_eq_bigSepL [0, 1, 2] (by decide) (by decide) _
  have hr : (bigSep Finset.univ fun c : Dev nD => bigSep Finset.univ fun x => (dutyTok ER (rcvC x c) 0 0 : sProp 𝕄))
      = bigSep Finset.univ fun c : Dev nD => bigSep Finset.univ fun x => (dutyTok ER (rcvC x (dst x c)) 0 0 : sProp 𝕄) := by
    rw [swap_over, bigSep_congr (s := Finset.univ) (fun (x : Fin 14) _ => bigSep_univ_equiv (toE x) (fun c : Dev nD => (dutyTok ER (rcvC x c) 0 0 : sProp 𝕄))), swap_over]
  unfold toks
  simp only [h3]
  rw [bigSep_sep', bigSep_sep', bigSep_sep', bigSep_sep', bigSep_sep', bigSep_sep', bigSep_sep', bigSep_sep', hr,
    bigSep_univ_equiv left (fun c : Dev nD => (dutyTok ER (barC c) 0 0 : sProp 𝕄)),
    bigSep_univ_equiv right (fun c : Dev nD => (dutyTok ER (barC c) 0 1 : sProp 𝕄)),
    bigSep_univ_equiv across (fun c : Dev nD => (dutyTok ER (barC c) 0 2 : sProp 𝕄))]
  exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (cell (c, k))))
          ∗ (bigSep Finset.univ fun k => iprop(atPos ER (cell (c, k)) 0 ∅ 0 ∗ reached ER (cell (c, k)) 0)) ∗ toks c ∗ bigSep Finset.univ fun t => cpy0 t c) : sProp 𝕄)
      ⊢ bigSep Finset.univ (ghost m ρ) := by
  rw [bigSep_sep', bigSep_sep', bigSep_sep', ← bigSep_univ_prod (fun ck : Dev nD × CIx => iprop(∃ κ : ℕ, cellInv ER (Rd m ρ) κ (cell ck))),
    bigSep_congr (s := Finset.univ) (fun (c : Dev nD) _ => bigSep_sep' Finset.univ (fun k : CIx => (atPos ER (cell (c, k)) 0 ∅ 0 : sProp 𝕄)) (fun k => reached ER (cell (c, k)) 0)),
    bigSep_sep', ← bigSep_univ_prod (fun ck : Dev nD × CIx => (reached ER (cell ck) 0 : sProp 𝕄))]
  iintro ⟨HI, ⟨Hat, #HR⟩, Htok, Hz⟩
  ihave HK := (BI.bigSep_exists_pi Finset.univ (fun (ck : Dev nD × CIx) (κ : ℕ) => (cellInv ER (Rd m ρ) κ (cell ck) : sProp 𝕄))) $$ HI
  icases HK with ⟨%K, #HI⟩
  ihave Htk := (toks_around (F := F)) $$ Htok
  iapply (with_persistent (R := records m ρ K) fun c _ => ghost_intro m ρ K c)
  isplitr
  · unfold records; rw [bigSep_sep']; isplitl; · iexact HI
    iexact HR
  · iapply (Entails.of_eq (show (iprop((bigSep Finset.univ fun c : Dev nD => bigSep Finset.univ fun k : CIx => atPos ER (cell (c, k)) 0 ∅ 0)
        ∗ (bigSep Finset.univ fun c : Dev nD => iprop((dutyTok ER (barC (lf c)) 0 0 ∗ dutyTok ER (barC (rt c)) 0 1 ∗ dutyTok ER (barC (dg c)) 0 2)
          ∗ (bigSep Finset.univ fun x => dutyTok ER (sndC x c) 0 0) ∗ bigSep Finset.univ fun x => dutyTok ER (rcvC x (dst x c)) 0 0))
        ∗ bigSep Finset.univ fun c : Dev nD => bigSep Finset.univ fun t => cpy0 t c) : sProp 𝕄) = bigSep Finset.univ fun c => linear c from by
      unfold linear; rw [← bigSep_sep', ← bigSep_sep']))
    isplitl [Hat]; · iexact Hat
    isplitl [Htk] <;> iassumption

/-- All devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

theorem cell_eq_iff {p p' : Dev nD × CIx} : cell p = cell p' ↔ p = p' := ⟨fun h => cell_injective h, fun h => h ▸ rfl⟩

theorem debt_bar (d c : Dev nD) (l : List (Fin 14)) : debt d l (barC c) () = 0 := by
  induction l with
  | nil => rfl
  | cons x l ih =>
    unfold debt
    rw [Pi.add_apply, Finsupp.add_apply, ih, tallyAt_apply, if_neg fun h => absurd (Prod.mk.inj (cell_injective h.1)).2 (by simp)]

theorem debt_rcv (d c : Dev nD) (x : Fin 14) (l : List (Fin 14)) (hl : l.Nodup) :
    debt d l (rcvC x c) () = if x ∈ l ∧ d = frm x c then nX x else 0 := by
  induction l with
  | nil => rw [if_neg fun h => by simp at h]; rfl
  | cons y l ih =>
    unfold debt
    rw [Pi.add_apply, Finsupp.add_apply, ih (List.nodup_cons.mp hl).2, tallyAt_apply]
    by_cases hxy : x = y
    · subst hxy
      rw [if_neg fun h => (List.nodup_cons.mp hl).1 h.1, Nat.zero_add]
      by_cases hd : d = frm x c
      · rw [if_pos ⟨by rw [hd]; exact congrArg (rcvC x) ((toE x).apply_symm_apply c).symm, rfl⟩, if_pos ⟨List.mem_cons_self, hd⟩]
      · have hne : ¬ (rcvC x c = rcvC x (dst x d) ∧ () = ()) := fun h => hd (by
          have e : c = dst x d := (Prod.mk.inj (cell_injective h.1)).1
          rw [e]; exact ((toE x).symm_apply_apply d).symm)
        rw [if_neg hne, if_neg fun h => hd h.2]
    · have hne : ¬ (rcvC x c = rcvC y (dst y d) ∧ () = ()) := fun h => hxy
        (Prod.mk.inj (Option.some.inj (Prod.mk.inj (cell_injective h.1)).2)).2
      rw [if_neg hne, Nat.add_zero]
      refine if_congr (and_congr_left' ?_) rfl rfl
      rw [List.mem_cons]; exact ⟨.inr, fun h => h.resolve_left hxy⟩

theorem bar_tally (n c : Dev nD) : tallyAt (barC n) () 1 (barC c) () = if n = c then 1 else 0 := by
  rw [tallyAt_apply]
  by_cases h : n = c
  · subst h; rw [if_pos ⟨rfl, rfl⟩, if_pos rfl]
  · rw [if_neg fun h' => h (Prod.mk.inj (cell_injective h'.1)).1.symm, if_neg h]

theorem bar_tally' (n c : Dev nD) (x : Fin 14) : tallyAt (barC n) () 1 (rcvC x c) () = 0 := by
  rw [tallyAt_apply, if_neg fun h => absurd (Prod.mk.inj (cell_injective h.1)).2 (by simp)]

theorem owed_bar (d c : Dev nD) : O₀ d (barC c) () = ((if dg d = c then 1 else 0) + (if rt d = c then 1 else 0)) + (if lf d = c then 1 else 0) := by
  unfold O₀ O₁ O₂
  rw [Pi.add_apply, Finsupp.add_apply, Pi.add_apply, Finsupp.add_apply, Pi.add_apply, Finsupp.add_apply, debt_bar, bar_tally, bar_tally, bar_tally, Nat.zero_add]

theorem owed_rcv (d c : Dev nD) (x : Fin 14) : O₀ d (rcvC x c) () = if d = frm x c then nX x else 0 := by
  unfold O₀ O₁ O₂
  rw [Pi.add_apply, Finsupp.add_apply, Pi.add_apply, Finsupp.add_apply, Pi.add_apply, Finsupp.add_apply, debt_rcv _ _ _ _ (by decide), bar_tally', bar_tally', bar_tally']
  exact if_congr (and_iff_right ((by decide : ∀ x : Fin 14, x ∈ sends) x)) rfl rfl

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact (by decide : ∀ c : Dev nD, (∑ d : Dev nD, (((if dg d = c then 1 else 0) + (if rt d = c then 1 else 0)) + (if lf d = c then 1 else 0))) = 3) c

theorem launch_rcv (c : Dev nD) (x : Fin 14) :
    tallyOn (rcvC x c) (launchCredit (Pipeline.owing O₀) 0 (rcvC x c)) = (tallyAt (rcvC x c) () (nX x) : CellTallies nD τ sig Unit) := by
  unfold tallyAt; refine congrArg _ (Finsupp.ext fun u => ?_); cases u
  rw [Pipeline.launchCredit_owing, Finsupp.single_eq_same, Finset.sum_congr rfl fun d _ => owed_rcv d c x, Finset.sum_ite_eq' Finset.univ (frm x c) fun _ => nX x,
    if_pos (Finset.mem_univ _)]

omit [FloatOps F] in
/-- What a device waits with: three units of its barrier cell, each transfer's credit. -/
theorem creds (c : Dev nD) :
    (Pipeline.launchCred O₀ c : sProp 𝕄) ⊢ iprop(cred (tallyAt (barC c) () 3) ∗ bigSep Finset.univ fun x => cred (tallyAt (rcvC x c) () (nX x))) := by
  have he : (Finset.univ : Finset (Option (Fin 14))).map ⟨fun o => csem (o.map fun x => (true, x)), fun a b h => by
      have := csem_injective h
      revert this; revert a b; decide +kernel⟩ ⊆ Finset.univ := Finset.subset_univ _
  unfold Pipeline.launchCred
  refine (bigSep_subset he).trans ?_
  rw [bigSep_map, over_option]
  refine BI.sep_mono (Entails.of_eq (congrArg cred (launch_bar c))) (bigSep_mono fun x _ => Entails.of_eq (congrArg cred (launch_rcv c x)))

end Cert.MatmulProof

end
-- ==== Proof.Launch.lean ====
/-
# The run of the whole program

The launch theorem's side conditions, and with them: every fair execution of the four devices terminates, with the
operands as they were, each piece of each device's result at what the kernel left there, and every counter at zero.
-/
module

public import proofs.«01_k».proof.Proof.Ghost
public import Idealize.ShloMosaic.Lib.Pipeline.Quiescent

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions -/

omit [FloatOps F] in
theorem some'_whole (c : Dev nD) (b : Ref sig .tc) :
    (some' c (Memref.whole b) : sProp 𝕄) ⊣⊢ iprop(∃ f : Buf (Elt F) ((c : Thread nD τ).loc b), ((c : Thread nD τ).loc b) ↦{fullShare} f) := by
  have h := some'_pts (F := F) c (Memref.whole b)
  simp only [Memref.view_whole, View.set_whole] at h
  exact h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, unscopedRest0_eq]
  iintro ⟨Ho, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    iapply (some'_whole (F := F) c main_v1).2
    iexists _; iexact Ho
  · iempintro

omit [FloatOps F] in
theorem scr_rest (c : Dev nD) : (scr c : sProp 𝕄) ⊣⊢ Pipeline.scopedRest cfg0.spec c := by
  rw [scopedRest0_eq]
  unfold scr
  constructor
  · iintro ⟨H0, H1, H2, H3, H4, H5⟩
    isplitl [H0]; · iapply (some'_whole (F := F) c cc0_scratch0).1; iexact H0
    isplitl [H1]; · iapply (some'_whole (F := F) c cc0_scratch1).1; iexact H1
    isplitl [H2]; · iapply (some'_whole (F := F) c cc0_scratch2).1; iexact H2
    isplitl [H3]; · iapply (some'_whole (F := F) c cc0_scratch3).1; iexact H3
    isplitl [H4]; · iapply (some'_whole (F := F) c cc0_scratch4).1; iexact H4
    iapply (some'_whole (F := F) c cc0_scratch5).1; iexact H5
  · iintro ⟨H0, H1, H2, H3, H4, H5⟩
    isplitl [H0]; · iapply (some'_whole (F := F) c cc0_scratch0).2; iexact H0
    isplitl [H1]; · iapply (some'_whole (F := F) c cc0_scratch1).2; iexact H1
    isplitl [H2]; · iapply (some'_whole (F := F) c cc0_scratch2).2; iexact H2
    isplitl [H3]; · iapply (some'_whole (F := F) c cc0_scratch3).2; iexact H3
    isplitl [H4]; · iapply (some'_whole (F := F) c cc0_scratch4).2; iexact H4
    iapply (some'_whole (F := F) c cc0_scratch5).2; iexact H5

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_rest (F := F) c).2; iexact Hr

/-- What a device keeps past its kernel: the barrier's counter at zero and the result. -/
def kept (c : Dev nD) : sProp 𝕄 := iprop(unscopedSems0 c ∗ ownsSat (c : Thread nD τ) oM fullShare (outOk m ρ c))

theorem phi1_exit (c : Dev nD) :
    (dats m ρ 0 c).Φ (Fin.last cfg0.N) ⊢ iprop(kept m ρ c ∗ Pipeline.ownSems0 osem c ∗ Pipeline.scopedRest cfg0.spec c) := by
  rw [show (dats m ρ 0 c).Φ (Fin.last cfg0.N) = Φ₁ m ρ c from rfl, ownSems0_eq, over_bool]
  unfold Φ₁ kept
  rw [unscopedSems0_eq]
  iintro ⟨Ho, Hs, Hb, Hsn, Hrc, Hz⟩
  isplitl [Hb Ho]
  · isplitl [Hb] <;> iassumption
  isplitl [Hsn Hrc Hz]
  · isplitl [Hsn Hrc]
    · isplitl [Hsn]; · iexact Hsn
      iexact Hrc
    iexact Hz
  iapply (scr_rest (F := F) c).1; iexact Hs

theorem waits (c : Dev nD) : (levAts L lv : sProp 𝕄) ⊢ Pipeline.cellsWaits cfgs (dats m ρ) () 0 c :=
  Pipeline.cellsWaits_intro cfgs (dats m ρ) () 0 c fun w s t => by
    have hl : ∀ q : DmaSem sig, q.val < 2 → lv ((c : Thread nD τ), .dma q) () = 0 := fun q hq => lv_stage c q hq
    have hq : (((cfg0.win w).sem s).val) < 2 := (by decide +kernel : ∀ (w : Fin 2) (s : Fin (spec0 w).nbuf), ((spec0 w).sem s).val < 2) w s
    rcases t with ⟨_ | _, ht⟩
    · exact mayWait_O₀ c _ (hl _ hq)
    · exact mayWait_debt c _ 0 (hl _ hq).le [] (fun x hx => by simp at hx)

/-! ## The run -/

/-- Every device's operands are as they were and its result is right, piece by piece. -/
def QC : PUnit × MemSt nD τ sig (Elt F) → Prop := fun r =>
  ∀ c : Dev nD, (r.2.mem ((c : Thread nD τ).loc main_arg0) = m ((c : Thread nD τ).loc main_arg0)
    ∧ r.2.mem ((c : Thread nD τ).loc main_arg1) = m ((c : Thread nD τ).loc main_arg1))
    ∧ outOk m ρ c (r.2.mem ((c : Thread nD τ).loc main_v1))

theorem read_kept (c : Dev nD) (s' : Phys nD τ sig (Elt F)) :
    iprop(kept m ρ c ∗ emp ∗ SI s') ⊢ (|={Set.univ}=> iprop(⌜(∀ sm : SemLoc sig, sm.isScoped .tc = false → s'.mem.sem ((c.tc : Thread nD τ), sm) = 0)
      ∧ outOk m ρ c (s'.mem.mem ((c : Thread nD τ).loc main_v1))⌝ ∗ SI s') : sProp 𝕄) := by
  unfold kept ownsSat
  iintro ⟨⟨Hu, ⟨%f, %hf, Ho⟩⟩, -, HSI⟩
  ihave %hs := (tcUnscoped_read c s') $$ [Hu HSI]
  · isplitl [Hu] <;> iassumption
  ihave %hm := (SI_pointsTo_agree (st := s') (ℓ := (c : Thread nD τ).loc main_v1) (f := f)) $$ [Ho HSI]
  · isplitl [HSI]; · iexact HSI
    iexact Ho
  imodintro
  isplitr
  · ipureintro
    refine ⟨hs, ?_⟩
    have e : s'.mem.mem ((c : Thread nD τ).loc main_v1) = f := funext fun i => hm i (by
      simp only [Memref.view_whole, View.set_whole]; exact Finset.mem_univ _)
    rw [e]; exact hf
  · iexact HSI

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (launch_split _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := kept m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ outOk m ρ c (s.mem ((c : Thread nD τ).loc main_v1)))
    (hY := read_kept m ρ)
    (hQ := fun _ h hs => ⟨fun c => ⟨⟨((h c).1 (0 : Fin 2)).trans ((dats (F := F) m ρ 0 c).arrAt_in (0 : Fin 2) rfl _),
        ((h c).1 (1 : Fin 2)).trans ((dats (F := F) m ρ 0 c).arrAt_in (1 : Fin 2) rfl _)⟩, (h c).2.2.2⟩, sem_eq_zero hs fun c => (h c).2.2.1⟩)

end Cert.MatmulProof

end
-- ==== Proof.Text.lean ====
/-
# The kernel and its idealization are one text

No operation was replaced, so the two programs differ in their names alone: each kernel function of one is that of the
other, and so are the body tables.
-/
module

public import proofs.«01_k».proof.Defs
public import proofs.«01_k».proof.Proof.Gen.Kernel
public import proofs.«01_k».proof.Proof.Gen.KernelIdeal

@[expose] public section

noncomputable section

namespace Cert.MatmulProof

open Idealize.ShloMosaic

/-- The kernels' tables agree at their one label, -/
theorem body_table : Cert.Kernel.defs₀ (F := Bits) = Cert.KernelIdeal.defs₀ (F := Bits) := by
  unfold Cert.Kernel.defs₀ Cert.KernelIdeal.defs₀
  refine congrArg Defs.onTc ?_
  funext ℓ args
  match ℓ, args with
  | 0, (t, s) => rfl

/-- and with them the tables the pipeline is added to. -/
theorem table : Cert.Kernel.defs (F := Bits) = Cert.KernelIdeal.defs (F := Bits) :=
  congrArg (Pipeline.defs Cert.KernelIdeal.pcfgs) body_table

end Cert.MatmulProof

end
-- ==== Proof.Pieces.lean ====
/-
# What the kernel computes, over the reals

Over the reals a change of format is the identity, so every piece of the result is rows of the first operand times the
second operand, whichever device multiplied them and whichever way the product travelled. First the kernel's
computations are read that way, then the operands they start from; `result_at` is one element of a device's result.
-/
module

public import proofs.«01_k».proof.Proof.Buffers
public import Idealize.ShloMosaic.Lib.Pointwise
public import Idealize.ShloMosaic.Lib.Layout

@[expose] public section

noncomputable section

namespace Cert.MatmulProof

open Cert.KernelIdeal Cert.KernelIdeal.Gen
open Idealize.ShloMosaic Idealize.SL.Sem
open Idealize.ShloMosaic.TcCoe

/-! ## The computations -/

theorem pay3_at (a : Vec Ideal S512x1024 .f32) (b : Vec Ideal S1024x2048 .f32) (j : S512x2048.Idx) :
    re squeezes_S1x512x2048_S512x2048.numel_eq (k0_pay3 (F := Ideal) a b) j = ∑ k : Fin 1024, a (ix2 (j 0) k) * b (ix2 k (j 1)) := by
  pointwise [re, k0_pay3]

theorem pay6_at (a : Vec Ideal S512x1024 .f32) (b : Vec Ideal S1024x2048 .f32) (j : S512x2048.Idx) :
    re squeezes_S1x512x2048_S512x2048.numel_eq (k0_pay6 (F := Ideal) a b) j = ∑ k : Fin 1024, a (ix2 (j 0) k) * b (ix2 k (j 1)) := by
  pointwise [re, k0_pay6]

theorem pay9_at (a : Vec Ideal S512x1024 .f32) (b : Vec Ideal S1024x2048 .f32) (j : S512x2048.Idx) :
    re squeezes_S1x512x2048_S512x2048.numel_eq (k0_pay9 (F := Ideal) (k0_pay8 a) b) j = ∑ k : Fin 1024, a (ix2 (j 0) k) * b (ix2 k (j 1)) := by
  pointwise [re, k0_pay9, k0_pay8]

theorem pay11_at (a : Vec Ideal S512x1024 .f32) (b : Vec Ideal S1024x2048 .f32) (j : S512x2048.Idx) :
    re squeezes_S1x512x2048_S512x2048.numel_eq (k0_pay11 (F := Ideal) a b) j = ∑ k : Fin 1024, a (ix2 (j 0) k) * b (ix2 k (j 1)) := by
  pointwise [re, k0_pay11]

theorem pay13_at (a : Vec Ideal S256x1024 .bf16) (b : Vec Ideal S1024x2048 .f32) (j : S256x2048.Idx) :
    re squeezes_S1x256x2048_S256x2048.numel_eq (k0_pay13 (F := Ideal) a b) j = ∑ k : Fin 1024, a (ix2 (j 0) k) * b (ix2 k (j 1)) := by
  pointwise [re, k0_pay13]

theorem pay15_at (a : Vec Ideal S256x1024 .bf16) (b : Vec Ideal S1024x2048 .f32) (j : S256x2048.Idx) :
    re squeezes_S1x256x2048_S256x2048.numel_eq (k0_pay15 (F := Ideal) a b) j = ∑ k : Fin 1024, a (ix2 (j 0) k) * b (ix2 k (j 1)) := by
  pointwise [re, k0_pay15]

theorem pay18_at (a : Vec Ideal S256x1024 .bf16) (b : Vec Ideal S1024x2048 .f32) (j : S256x2048.Idx) :
    re squeezes_S1x256x2048_S256x2048.numel_eq (k0_pay18 (F := Ideal) (k0_pay17 a b)) j = ∑ k : Fin 1024, a (ix2 (j 0) k) * b (ix2 k (j 1)) := by
  pointwise [re, k0_pay18, k0_pay17]

theorem pay20_at (a : Vec Ideal S256x1024 .bf16) (b : Vec Ideal S1024x2048 .f32) (j : S256x2048.Idx) :
    re squeezes_S1x256x2048_S256x2048.numel_eq (k0_pay20 (F := Ideal) a b) j = ∑ k : Fin 1024, a (ix2 (j 0) k) * b (ix2 k (j 1)) := by
  pointwise [re, k0_pay20]

/-! A piece cast to bf16, sent and cast back is the piece. -/

theorem pay22_id (w : Vec Ideal S1x512x2048 .f32) : k0_pay22 (F := Ideal) (k0_pay5 (k0_pay4 w)) = w := by
  funext j
  pointwise [k0_pay22, k0_pay5, k0_pay4]

theorem pay23_id (w : Vec Ideal S1x512x2048 .f32) : k0_pay23 (F := Ideal) (k0_pay5 (k0_pay4 w)) = w := by
  funext j
  pointwise [k0_pay23, k0_pay5, k0_pay4]

theorem pay24_id (w : Vec Ideal S1x512x2048 .f32) : k0_pay24 (F := Ideal) (k0_pay7 w) = w := by
  funext j
  pointwise [k0_pay24, k0_pay7]

theorem pay25_id (w : Vec Ideal S1x512x2048 .f32) : k0_pay25 (F := Ideal) (k0_pay7 w) = w := by
  funext j
  pointwise [k0_pay25, k0_pay7]

theorem pay26_id (w : Vec Ideal S1x512x2048 .f32) : k0_pay26 (F := Ideal) (k0_pay5 (k0_pay4 w)) = w := by
  funext j
  pointwise [k0_pay26, k0_pay5, k0_pay4]

theorem pay27_id (w : Vec Ideal S1x512x2048 .f32) : k0_pay27 (F := Ideal) (k0_pay7 w) = w := by
  funext j
  pointwise [k0_pay27, k0_pay7]

theorem pay29_id (w : Vec Ideal S1x512x2048 .f32) : k0_pay29 (F := Ideal) (k0_pay28 (k0_pay10 w)) = w := by
  funext j
  pointwise [k0_pay29, k0_pay28, k0_pay10]

theorem pay30_id (w : Vec Ideal S1x512x2048 .f32) : k0_pay30 (F := Ideal) (k0_pay12 w) = w := by
  funext j
  pointwise [k0_pay30, k0_pay12]

theorem pay31_id (w : Vec Ideal S1x256x2048 .f32) : k0_pay31 (F := Ideal) (k0_pay14 w) = w := by
  funext j
  pointwise [k0_pay31, k0_pay14]

theorem pay32_id (w : Vec Ideal S1x256x2048 .f32) : k0_pay32 (F := Ideal) (k0_pay16 w) = w := by
  funext j
  pointwise [k0_pay32, k0_pay16]

theorem pay33_id (w : Vec Ideal S1x256x2048 .f32) : k0_pay33 (F := Ideal) (k0_pay19 w) = w := by
  funext j
  pointwise [k0_pay33, k0_pay19]

theorem pay34_id (w : Vec Ideal S1x256x2048 .f32) : k0_pay34 (F := Ideal) (k0_pay21 w) = w := by
  funext j
  pointwise [k0_pay34, k0_pay21]

/-! The rows sent are the rows read, cast. -/

theorem pay1_at (a : Vec Ideal S512x1024 .f32) (i : S512x1024.Idx) :
    re squeezes_S1x512x1024_S512x1024.numel_eq (k0_pay1 (F := Ideal) a) i = a i := by
  pointwise [re, k0_pay1]

theorem pay2_at (a : Vec Ideal S512x1024 .f32) (i : S512x1024.Idx) :
    re squeezes_S1x512x1024_S512x1024.numel_eq (k0_pay2 (F := Ideal) a) i = a i := by
  pointwise [re, k0_pay2]

/-! ## The operands

`A` and `B` are the whole operands; each device holds its block of 2048 rows of `A`, and all of `B`. -/

variable (m : (ℓ : Loc nD τ sig) → Buf (Elt Ideal) ℓ) (ρ : Dev nD → PrngReg)
variable (A : (⟨2, ![8192, 1024]⟩ : Shape).Idx → EReal) (B : S1024x2048.Idx → EReal)

/-- Row `r` of `A` times column `q` of `B`. -/
def prodAt (r : Fin 8192) (q : Fin 2048) : EReal := ∑ k : Fin 1024, A (ix2 r k) * B (ix2 k q)

/-- What the devices' operands hold. -/
structure Placed : Prop where
  rows : ∀ c : Dev nD, m ((c : Thread nD τ).loc main_arg0) = Layout.block ⟨2, ![2048, 1024]⟩ ⟨2, ![8192, 1024]⟩ 0 4 c A
  all : ∀ c : Dev nD, m ((c : Thread nD τ).loc main_arg1) = B

variable {m A B} (h : Placed m A B)
include h

/-- Row `i` of the block device `d` stages is row `2048 d + i` of `A`; -/
theorem xA_at (d : Dev nD) (i : S2048x1024.Idx) (r : Fin 8192) (k : Fin 1024) (hr : r.val = 2048 * d.val + (i 0).val)
    (hk : (i 1).val = k.val) : xA m ρ d i = A (ix2 r k) := by
  show m ((d : Thread nD τ).loc main_arg0) _ = _
  rw [h.rows d, Layout.block_apply]
  congr 1
  funext a
  apply Fin.ext
  rw [Layout.Tiles.idx_val]
  fin_cases a
  · show d.val * 2048 + (0 * 2048 + 1 * (i 0).val) = r.val
    omega
  · show 0 * 1024 + 1 * (i 1).val = k.val
    omega

/-- what it stages of the second operand is all of it. -/
theorem vB_at (d : Dev nD) : vB m ρ d = B := by
  funext i
  show m ((d : Thread nD τ).loc main_arg1) _ = _
  rw [h.all d]
  congr 1
  funext a
  apply Fin.ext
  fin_cases a
  · show 0 * 1024 + 1 * (0 + 1 * (i 0).val) = (i 0).val
    omega
  · show 0 * 2048 + 1 * (0 + 1 * (i 1).val) = (i 1).val
    omega

/-! ## The rows a device is handed -/

omit h in
theorem vLt_at (d : Dev nD) (i : S256x1024.Idx) : vLt m ρ d i = vA2 m ρ (lf d) (rLt.emb i) := pay2_at (vA2 m ρ (lf d)) (rLt.emb i)
omit h in
theorem vLl_at (d : Dev nD) (i : S256x1024.Idx) : vLl m ρ d i = vA2 m ρ (lf d) (rLb.emb i) := pay2_at (vA2 m ρ (lf d)) (rLb.emb i)
omit h in
theorem vRt_at (d : Dev nD) (i : S256x1024.Idx) : vRt m ρ d i = vA3 m ρ (rt d) (rLt.emb i) := pay1_at (vA3 m ρ (rt d)) (rLt.emb i)
omit h in
theorem vRl_at (d : Dev nD) (i : S256x1024.Idx) : vRl m ρ d i = vA3 m ρ (rt d) (rLb.emb i) := pay1_at (vA3 m ρ (rt d)) (rLb.emb i)

/-! ## The pieces a device multiplies -/

theorem w0_at (d : Dev nD) (j : S512x2048.Idx) (r : Fin 8192) (q : Fin 2048) (hr : r.val = 2048 * d.val + 0 + (j 0).val) (hq : q = j 1) :
    re squeezes_S1x512x2048_S512x2048.numel_eq (w0 m ρ d) j = prodAt A B r q := by
  subst hq
  unfold w0 prodAt
  rw [pay3_at, vB_at ρ h]
  refine Finset.sum_congr rfl fun k _ => congrArg (· * _) (xA_at ρ h d _ r k ?_ ?_)
  · show r.val = 2048 * d.val + (0 + 1 * (j 0).val)
    omega
  · show 0 + 1 * k.val = k.val
    omega

theorem w1_at (d : Dev nD) (j : S512x2048.Idx) (r : Fin 8192) (q : Fin 2048) (hr : r.val = 2048 * d.val + 512 + (j 0).val) (hq : q = j 1) :
    re squeezes_S1x512x2048_S512x2048.numel_eq (w1 m ρ d) j = prodAt A B r q := by
  subst hq
  unfold w1 prodAt
  rw [pay6_at, vB_at ρ h]
  refine Finset.sum_congr rfl fun k _ => congrArg (· * _) (xA_at ρ h d _ r k ?_ ?_)
  · show r.val = 2048 * d.val + (512 + 1 * (j 0).val)
    omega
  · show 0 + 1 * k.val = k.val
    omega

theorem w2_at (d : Dev nD) (j : S512x2048.Idx) (r : Fin 8192) (q : Fin 2048) (hr : r.val = 2048 * d.val + 1024 + (j 0).val) (hq : q = j 1) :
    re squeezes_S1x512x2048_S512x2048.numel_eq (w2 m ρ d) j = prodAt A B r q := by
  subst hq
  unfold w2 prodAt
  rw [pay9_at, vB_at ρ h]
  refine Finset.sum_congr rfl fun k _ => congrArg (· * _) (xA_at ρ h d _ r k ?_ ?_)
  · show r.val = 2048 * d.val + (1024 + 1 * (j 0).val)
    omega
  · show 0 + 1 * k.val = k.val
    omega

theorem w3_at (d : Dev nD) (j : S512x2048.Idx) (r : Fin 8192) (q : Fin 2048) (hr : r.val = 2048 * d.val + 1536 + (j 0).val) (hq : q = j 1) :
    re squeezes_S1x512x2048_S512x2048.numel_eq (w3 m ρ d) j = prodAt A B r q := by
  subst hq
  unfold w3 prodAt
  rw [pay11_at, vB_at ρ h]
  refine Finset.sum_congr rfl fun k _ => congrArg (· * _) (xA_at ρ h d _ r k ?_ ?_)
  · show r.val = 2048 * d.val + (1536 + 1 * (j 0).val)
    omega
  · show 0 + 1 * k.val = k.val
    omega

theorem w4_at (d : Dev nD) (j : S256x2048.Idx) (r : Fin 8192) (q : Fin 2048) (hr : r.val = 2048 * (lf d).val + 1024 + (j 0).val) (hq : q = j 1) :
    re squeezes_S1x256x2048_S256x2048.numel_eq (w4 m ρ d) j = prodAt A B r q := by
  subst hq
  unfold w4 prodAt
  rw [pay13_at, vB_at ρ h]
  refine Finset.sum_congr rfl fun k _ => congrArg (· * _) ((vLt_at ρ d _).trans (xA_at ρ h (lf d) _ r k ?_ ?_))
  · show r.val = 2048 * (lf d).val + (1024 + 1 * (0 + 1 * (j 0).val))
    omega
  · show 0 + 1 * (0 + 1 * k.val) = k.val
    omega

theorem w5_at (d : Dev nD) (j : S256x2048.Idx) (r : Fin 8192) (q : Fin 2048) (hr : r.val = 2048 * (rt d).val + 1536 + (j 0).val) (hq : q = j 1) :
    re squeezes_S1x256x2048_S256x2048.numel_eq (w5 m ρ d) j = prodAt A B r q := by
  subst hq
  unfold w5 prodAt
  rw [pay15_at, vB_at ρ h]
  refine Finset.sum_congr rfl fun k _ => congrArg (· * _) ((vRt_at ρ d _).trans (xA_at ρ h (rt d) _ r k ?_ ?_))
  · show r.val = 2048 * (rt d).val + (1536 + 1 * (0 + 1 * (j 0).val))
    omega
  · show 0 + 1 * (0 + 1 * k.val) = k.val
    omega

theorem w6_at (d : Dev nD) (j : S256x2048.Idx) (r : Fin 8192) (q : Fin 2048) (hr : r.val = 2048 * (lf d).val + 1280 + (j 0).val) (hq : q = j 1) :
    re squeezes_S1x256x2048_S256x2048.numel_eq (w6 m ρ d) j = prodAt A B r q := by
  subst hq
  unfold w6 prodAt
  rw [pay18_at, vB_at ρ h]
  refine Finset.sum_congr rfl fun k _ => congrArg (· * _) ((vLl_at ρ d _).trans (xA_at ρ h (lf d) _ r k ?_ ?_))
  · show r.val = 2048 * (lf d).val + (1024 + 1 * (256 + 1 * (j 0).val))
    omega
  · show 0 + 1 * (0 + 1 * k.val) = k.val
    omega

theorem w7_at (d : Dev nD) (j : S256x2048.Idx) (r : Fin 8192) (q : Fin 2048) (hr : r.val = 2048 * (rt d).val + 1792 + (j 0).val) (hq : q = j 1) :
    re squeezes_S1x256x2048_S256x2048.numel_eq (w7 m ρ d) j = prodAt A B r q := by
  subst hq
  unfold w7 prodAt
  rw [pay20_at, vB_at ρ h]
  refine Finset.sum_congr rfl fun k _ => congrArg (· * _) ((vRl_at ρ d _).trans (xA_at ρ h (rt d) _ r k ?_ ?_))
  · show r.val = 2048 * (rt d).val + (1536 + 1 * (256 + 1 * (j 0).val))
    omega
  · show 0 + 1 * (0 + 1 * k.val) = k.val
    omega

/-! ## The result

Each piece of a device's result is the product's rows at the piece's place: those it multiplies itself, and those it
is sent. -/

theorem piece0 (c : Dev nD) (j : S512x2048.Idx) (r : Fin 8192) (q : Fin 2048) (hr : r.val = 256 * oAt c 0 + (j 0).val) (hq : q.val = (j 1).val) :
    re squeezes_S1x512x2048_S512x2048.numel_eq (w0 m ρ c) j = prodAt A B r q := by
  have e : 256 * oAt c 0 = 2048 * (c : Dev nD).val + 0 := by clear hr; revert c; decide +kernel
  exact w0_at ρ h c j r q (by rw [hr, e]) (Fin.ext hq)

theorem piece1 (c : Dev nD) (j : S512x2048.Idx) (r : Fin 8192) (q : Fin 2048) (hr : r.val = 256 * oAt c 1 + (j 0).val) (hq : q.val = (j 1).val) :
    re squeezes_S1x512x2048_S512x2048.numel_eq (w1 m ρ c) j = prodAt A B r q := by
  have e : 256 * oAt c 1 = 2048 * (c : Dev nD).val + 512 := by clear hr; revert c; decide +kernel
  exact w1_at ρ h c j r q (by rw [hr, e]) (Fin.ext hq)

theorem piece2 (c : Dev nD) (j : S512x2048.Idx) (r : Fin 8192) (q : Fin 2048) (hr : r.val = 256 * oAt c 2 + (j 0).val) (hq : q.val = (j 1).val) :
    re squeezes_S1x512x2048_S512x2048.numel_eq (w2 m ρ c) j = prodAt A B r q := by
  have e : 256 * oAt c 2 = 2048 * (c : Dev nD).val + 1024 := by clear hr; revert c; decide +kernel
  exact w2_at ρ h c j r q (by rw [hr, e]) (Fin.ext hq)

theorem piece3 (c : Dev nD) (j : S512x2048.Idx) (r : Fin 8192) (q : Fin 2048) (hr : r.val = 256 * oAt c 3 + (j 0).val) (hq : q.val = (j 1).val) :
    re squeezes_S1x512x2048_S512x2048.numel_eq (w3 m ρ c) j = prodAt A B r q := by
  have e : 256 * oAt c 3 = 2048 * (c : Dev nD).val + 1536 := by clear hr; revert c; decide +kernel
  exact w3_at ρ h c j r q (by rw [hr, e]) (Fin.ext hq)

theorem piece4 (c : Dev nD) (j : S256x2048.Idx) (r : Fin 8192) (q : Fin 2048) (hr : r.val = 256 * oAt c 4 + (j 0).val) (hq : q.val = (j 1).val) :
    re squeezes_S1x256x2048_S256x2048.numel_eq (w4 m ρ c) j = prodAt A B r q := by
  have e : 256 * oAt c 4 = 2048 * ((lf c) : Dev nD).val + 1024 := by clear hr; revert c; decide +kernel
  exact w4_at ρ h c j r q (by rw [hr, e]) (Fin.ext hq)

theorem piece5 (c : Dev nD) (j : S256x2048.Idx) (r : Fin 8192) (q : Fin 2048) (hr : r.val = 256 * oAt c 5 + (j 0).val) (hq : q.val = (j 1).val) :
    re squeezes_S1x256x2048_S256x2048.numel_eq (w5 m ρ c) j = prodAt A B r q := by
  have e : 256 * oAt c 5 = 2048 * ((rt c) : Dev nD).val + 1536 := by clear hr; revert c; decide +kernel
  exact w5_at ρ h c j r q (by rw [hr, e]) (Fin.ext hq)

theorem piece6 (c : Dev nD) (j : S256x2048.Idx) (r : Fin 8192) (q : Fin 2048) (hr : r.val = 256 * oAt c 6 + (j 0).val) (hq : q.val = (j 1).val) :
    re squeezes_S1x256x2048_S256x2048.numel_eq (w6 m ρ c) j = prodAt A B r q := by
  have e : 256 * oAt c 6 = 2048 * ((lf c) : Dev nD).val + 1280 := by clear hr; revert c; decide +kernel
  exact w6_at ρ h c j r q (by rw [hr, e]) (Fin.ext hq)

theorem piece7 (c : Dev nD) (j : S256x2048.Idx) (r : Fin 8192) (q : Fin 2048) (hr : r.val = 256 * oAt c 7 + (j 0).val) (hq : q.val = (j 1).val) :
    re squeezes_S1x256x2048_S256x2048.numel_eq (w7 m ρ c) j = prodAt A B r q := by
  have e : 256 * oAt c 7 = 2048 * ((rt c) : Dev nD).val + 1792 := by clear hr; revert c; decide +kernel
  exact w7_at ρ h c j r q (by rw [hr, e]) (Fin.ext hq)

theorem piece8 (c : Dev nD) (j : S512x2048.Idx) (r : Fin 8192) (q : Fin 2048) (hr : r.val = 256 * oAt c 8 + (j 0).val) (hq : q.val = (j 1).val) :
    re squeezes_S1x512x2048_S512x2048.numel_eq (w8 m ρ c) j = prodAt A B r q := by
  have e : 256 * oAt c 8 = 2048 * ((rt c) : Dev nD).val + 0 := by clear hr; revert c; decide +kernel
  rw [show w8 m ρ c = w0 m ρ (rt c) from pay22_id (w0 m ρ (rt c))]
  exact w0_at ρ h (rt c) j r q (by rw [hr, e]) (Fin.ext hq)

theorem piece9 (c : Dev nD) (j : S512x2048.Idx) (r : Fin 8192) (q : Fin 2048) (hr : r.val = 256 * oAt c 9 + (j 0).val) (hq : q.val = (j 1).val) :
    re squeezes_S1x512x2048_S512x2048.numel_eq (w9 m ρ c) j = prodAt A B r q := by
  have e : 256 * oAt c 9 = 2048 * ((lf c) : Dev nD).val + 0 := by clear hr; revert c; decide +kernel
  rw [show w9 m ρ c = w0 m ρ (lf c) from pay23_id (w0 m ρ (lf c))]
  exact w0_at ρ h (lf c) j r q (by rw [hr, e]) (Fin.ext hq)

theorem piece10 (c : Dev nD) (j : S512x2048.Idx) (r : Fin 8192) (q : Fin 2048) (hr : r.val = 256 * oAt c 10 + (j 0).val) (hq : q.val = (j 1).val) :
    re squeezes_S1x512x2048_S512x2048.numel_eq (w10 m ρ c) j = prodAt A B r q := by
  have e : 256 * oAt c 10 = 2048 * ((rt c) : Dev nD).val + 512 := by clear hr; revert c; decide +kernel
  rw [show w10 m ρ c = w1 m ρ (rt c) from pay24_id (w1 m ρ (rt c))]
  exact w1_at ρ h (rt c) j r q (by rw [hr, e]) (Fin.ext hq)

theorem piece11 (c : Dev nD) (j : S512x2048.Idx) (r : Fin 8192) (q : Fin 2048) (hr : r.val = 256 * oAt c 11 + (j 0).val) (hq : q.val = (j 1).val) :
    re squeezes_S1x512x2048_S512x2048.numel_eq (w11 m ρ c) j = prodAt A B r q := by
  have e : 256 * oAt c 11 = 2048 * ((lf c) : Dev nD).val + 512 := by clear hr; revert c; decide +kernel
  rw [show w11 m ρ c = w1 m ρ (lf c) from pay25_id (w1 m ρ (lf c))]
  exact w1_at ρ h (lf c) j r q (by rw [hr, e]) (Fin.ext hq)

theorem piece12 (c : Dev nD) (j : S512x2048.Idx) (r : Fin 8192) (q : Fin 2048) (hr : r.val = 256 * oAt c 12 + (j 0).val) (hq : q.val = (j 1).val) :
    re squeezes_S1x512x2048_S512x2048.numel_eq (w12 m ρ c) j = prodAt A B r q := by
  have e : 256 * oAt c 12 = 2048 * ((dg c) : Dev nD).val + 0 := by clear hr; revert c; decide +kernel
  rw [show w12 m ρ c = w0 m ρ (dg c) from pay26_id (w0 m ρ (dg c))]
  exact w0_at ρ h (dg c) j r q (by rw [hr, e]) (Fin.ext hq)

theorem piece13 (c : Dev nD) (j : S512x2048.Idx) (r : Fin 8192) (q : Fin 2048) (hr : r.val = 256 * oAt c 13 + (j 0).val) (hq : q.val = (j 1).val) :
    re squeezes_S1x512x2048_S512x2048.numel_eq (w13 m ρ c) j = prodAt A B r q := by
  have e : 256 * oAt c 13 = 2048 * ((dg c) : Dev nD).val + 512 := by clear hr; revert c; decide +kernel
  rw [show w13 m ρ c = w1 m ρ (dg c) from pay27_id (w1 m ρ (dg c))]
  exact w1_at ρ h (dg c) j r q (by rw [hr, e]) (Fin.ext hq)

theorem piece14 (c : Dev nD) (j : S512x2048.Idx) (r : Fin 8192) (q : Fin 2048) (hr : r.val = 256 * oAt c 14 + (j 0).val) (hq : q.val = (j 1).val) :
    re squeezes_S1x512x2048_S512x2048.numel_eq (w14 m ρ c) j = prodAt A B r q := by
  have e : 256 * oAt c 14 = 2048 * ((rt c) : Dev nD).val + 1024 := by clear hr; revert c; decide +kernel
  rw [show w14 m ρ c = w2 m ρ (rt c) from pay29_id (w2 m ρ (rt c))]
  exact w2_at ρ h (rt c) j r q (by rw [hr, e]) (Fin.ext hq)

theorem piece15 (c : Dev nD) (j : S512x2048.Idx) (r : Fin 8192) (q : Fin 2048) (hr : r.val = 256 * oAt c 15 + (j 0).val) (hq : q.val = (j 1).val) :
    re squeezes_S1x512x2048_S512x2048.numel_eq (w15 m ρ c) j = prodAt A B r q := by
  have e : 256 * oAt c 15 = 2048 * ((lf c) : Dev nD).val + 1536 := by clear hr; revert c; decide +kernel
  rw [show w15 m ρ c = w3 m ρ (lf c) from pay30_id (w3 m ρ (lf c))]
  exact w3_at ρ h (lf c) j r q (by rw [hr, e]) (Fin.ext hq)

theorem piece16 (c : Dev nD) (j : S256x2048.Idx) (r : Fin 8192) (q : Fin 2048) (hr : r.val = 256 * oAt c 16 + (j 0).val) (hq : q.val = (j 1).val) :
    re squeezes_S1x256x2048_S256x2048.numel_eq (w16 m ρ c) j = prodAt A B r q := by
  have e : 256 * oAt c 16 = 2048 * ((lf (lf c)) : Dev nD).val + 1024 := by clear hr; revert c; decide +kernel
  rw [show w16 m ρ c = w4 m ρ (lf c) from pay31_id (w4 m ρ (lf c))]
  exact w4_at ρ h (lf c) j r q (by rw [hr, e]) (Fin.ext hq)

theorem piece17 (c : Dev nD) (j : S256x2048.Idx) (r : Fin 8192) (q : Fin 2048) (hr : r.val = 256 * oAt c 17 + (j 0).val) (hq : q.val = (j 1).val) :
    re squeezes_S1x256x2048_S256x2048.numel_eq (w17 m ρ c) j = prodAt A B r q := by
  have e : 256 * oAt c 17 = 2048 * ((rt (rt c)) : Dev nD).val + 1536 := by clear hr; revert c; decide +kernel
  rw [show w17 m ρ c = w5 m ρ (rt c) from pay32_id (w5 m ρ (rt c))]
  exact w5_at ρ h (rt c) j r q (by rw [hr, e]) (Fin.ext hq)

theorem piece18 (c : Dev nD) (j : S256x2048.Idx) (r : Fin 8192) (q : Fin 2048) (hr : r.val = 256 * oAt c 18 + (j 0).val) (hq : q.val = (j 1).val) :
    re squeezes_S1x256x2048_S256x2048.numel_eq (w18 m ρ c) j = prodAt A B r q := by
  have e : 256 * oAt c 18 = 2048 * ((lf (lf c)) : Dev nD).val + 1280 := by clear hr; revert c; decide +kernel
  rw [show w18 m ρ c = w6 m ρ (lf c) from pay33_id (w6 m ρ (lf c))]
  exact w6_at ρ h (lf c) j r q (by rw [hr, e]) (Fin.ext hq)

theorem piece19 (c : Dev nD) (j : S256x2048.Idx) (r : Fin 8192) (q : Fin 2048) (hr : r.val = 256 * oAt c 19 + (j 0).val) (hq : q.val = (j 1).val) :
    re squeezes_S1x256x2048_S256x2048.numel_eq (w19 m ρ c) j = prodAt A B r q := by
  have e : 256 * oAt c 19 = 2048 * ((rt (rt c)) : Dev nD).val + 1792 := by clear hr; revert c; decide +kernel
  rw [show w19 m ρ c = w7 m ρ (rt c) from pay34_id (w7 m ρ (rt c))]
  exact w7_at ρ h (rt c) j r q (by rw [hr, e]) (Fin.ext hq)

theorem vO_at (c : Dev nD) (t : Fin 20) : ∀ (j : (rO c t).shape.Idx) (r : Fin 8192) (q : Fin 2048),
    r.val = 256 * oAt c t + (j (0 : Fin 2)).val → q.val = (j (1 : Fin 2)).val → vO m ρ c t j = prodAt A B r q :=
  match t with
  | 0 => piece0 ρ h c
  | 1 => piece1 ρ h c
  | 2 => piece2 ρ h c
  | 3 => piece3 ρ h c
  | 4 => piece4 ρ h c
  | 5 => piece5 ρ h c
  | 6 => piece6 ρ h c
  | 7 => piece7 ρ h c
  | 8 => piece8 ρ h c
  | 9 => piece9 ρ h c
  | 10 => piece10 ρ h c
  | 11 => piece11 ρ h c
  | 12 => piece12 ρ h c
  | 13 => piece13 ρ h c
  | 14 => piece14 ρ h c
  | 15 => piece15 ρ h c
  | 16 => piece16 ρ h c
  | 17 => piece17 ρ h c
  | 18 => piece18 ρ h c
  | 19 => piece19 ρ h c
  | ⟨_ + 20, hn⟩ => absurd hn (Nat.not_lt.2 (Nat.le_add_left _ _))

/-- A result right piece by piece is the product. -/
theorem result_at (c : Dev nD) (X : S8192x2048.Idx → EReal) (hX : outOk (F := Ideal) m ρ c X) (i : S8192x2048.Idx) :
    X i = prodAt A B (i 0) (i 1) := by
  have hi : i ∈ (Finset.univ : Finset (Fin 20)).biUnion (fun t => (rO c t).set) := by rw [rO_covers]; exact Finset.mem_univ i
  obtain ⟨t, -, ht⟩ := Finset.mem_biUnion.1 hi
  obtain ⟨j, rfl⟩ := (rO c t).toLoadRect.exists_idx_of_mem ht
  refine (congrFun (hX t) j).trans (vO_at ρ h c t j _ _ ?_ ?_)
  · obtain ⟨e, -, -, -⟩ := rO_at c t
    have s := rO_stride c t 0
    show (rO c t).off 0 + (rO c t).stride 0 * (j (0 : Fin 2)).val = _
    rw [e, s, Nat.one_mul]
  · obtain ⟨-, -, e, -⟩ := rO_at c t
    have s := rO_stride c t 1
    show (rO c t).off 1 + (rO c t).stride 1 * (j (1 : Fin 2)).val = _
    rw [e, s, Nat.one_mul, Nat.zero_add]

end Cert.MatmulProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Text
public import proofs.«01_k».proof.Proof.Pieces
public import Idealize.ShloMosaic.Adequacy
public import Idealize.ShloMosaic.Init

@[expose] public section

noncomputable section

namespace Cert.Proof

open Idealize.ShloMosaic Idealize.SL.Sem Cert.Kernel

/-- The kernel runs, leaves its operands alone and ends with every counter at zero: the run of its idealization, read at
    the machine's floats, its values dropped. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).1, h.2⟩) (Cert.MatmulProof.run_main (F := Bits) m ρ)
  rw [Cert.MatmulProof.table]
  exact h

/-- The idealization runs, leaves its operands alone and ends with every counter at zero. -/
theorem frame_kernelIdeal : Cert.quiescent_KernelIdeal := fun m ρ _ =>
  (θ_run Cert.KernelIdeal.defs _ _).mono (fun _ h => ⟨fun c => (h.1 c).1, h.2⟩) (Cert.MatmulProof.run_main (F := Ideal) m ρ)

/-- The reference runs and leaves its operands alone; it has no counter. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- One element of the reference's product. -/
theorem reference_at (A : FVec Ideal Cert.ReferenceIdeal.S8192x1024 .f32) (B : FVec Ideal Cert.ReferenceIdeal.S1024x2048 .f32)
    (i : Cert.ReferenceIdeal.S8192x2048.Idx) :
    Host.dotGeneral Cert.ReferenceIdeal.dot_S8192x1024_S1024x2048_S8192x2048_1_0_0_1_n_n none A B i = Cert.MatmulProof.prodAt A B (i 0) (i 1) := by
  pointwise [Cert.MatmulProof.prodAt]

/-- Every device's result is the reference's product. -/
theorem algebraic : Cert.algebraic_KernelIdeal_ReferenceIdeal := fun m ρ m' ρ' _ hm => by
  refine ⟨_, (θ_run Cert.KernelIdeal.defs _ _).mono (fun r h c => ⟨?_, (h.1 c).1.1, (h.1 c).1.2⟩) (Cert.MatmulProof.run_main (F := Ideal) m ρ),
    (θ_run Cert.ReferenceIdeal.defs _ _).mono (fun r h => h 0) (Cert.ReferenceIdeal.Value.run (F := Ideal) m' ρ')⟩
  have placed : Cert.MatmulProof.Placed m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hm c).1, fun c => (hm c).2⟩
  funext i
  exact (Cert.MatmulProof.result_at ρ placed c _ (h.1 c).2 i).trans (reference_at _ _ i).symm

theorem claim : Cert.Claim := ⟨Cert.Kernel.Gen.facts, Cert.KernelIdeal.Gen.facts, Cert.ReferenceIdeal.Gen.facts,
  frame_kernel, frame_kernelIdeal, frame_reference, trivial, algebraic⟩

end Cert.Proof

end
